-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within [hKernelIdeal : Cert.KernelIdeal.Facts] [hClippedIdeal : Cert.ClippedIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Layout.block ⟨2, ![128, 2048]⟩ ⟨2, ![4096, 2048]⟩ 0 32 c ((Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![128, 2048]⟩ : Shape).Idx → _) i = 1#1 → r.2.mem ((c.tc : Thread Cert.KernelIdeal.nD Cert.KernelIdeal.τ).loc Cert.KernelIdeal.main_v1) i = (Layout.block ⟨2, ![128, 2048]⟩ ⟨2, ![4096, 2048]⟩ 0 32 c v0 : (⟨2, ![128, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 2048]⟩ : Shape).Idx, (Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within (hKernelIdeal := hKernelIdeal) (hClippedIdeal := hClippedIdeal) (hOn_within := hOn_within)
-- ==== On_within.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S4096x128 : Shape := ⟨2, ![4096, 128]⟩
abbrev S128x2048 : Shape := ⟨2, ![128, 2048]⟩
abbrev S32x32 : Shape := ⟨2, ![32, 32]⟩
abbrev S32x128x1024 : Shape := ⟨3, ![32, 128, 1024]⟩
abbrev S_ : Shape := ⟨0, ![]⟩
abbrev S1x1 : Shape := ⟨2, ![1, 1]⟩
abbrev S64x128 : Shape := ⟨2, ![64, 128]⟩
abbrev S128x1024 : Shape := ⟨2, ![128, 1024]⟩
abbrev S64x1024 : Shape := ⟨2, ![64, 1024]⟩
abbrev S1x64x1024 : Shape := ⟨3, ![1, 64, 1024]⟩
abbrev S1x128x1024 : Shape := ⟨3, ![1, 128, 1024]⟩

abbrev nBuf : Space → Nat
  | .hbm => 4
  | .vmem => 5
  | .smem => 1
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S32x32, .i32⟩
  | .hbm, ⟨3, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S128x2048, .f32⟩
  | .local _ .vmem, ⟨3, _⟩ => ⟨S32x128x1024, .f32⟩
  | .local _ .vmem, ⟨4, _⟩ => ⟨S32x128x1024, .f32⟩
  | .local _ .smem, ⟨0, _⟩ => ⟨S32x32, .i32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 252 → Bool
  | ⟨i, _⟩ => dmaSemScopedAt i

abbrev sig : RefSig :=
  (ofTc nBuf bufTy 1 252 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![1, v3.toNat]
def k0_off2 (d0 : Dev nD) : Fin 2 → Nat :=
  let c31 : Index := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : Index := Scalar.indexCast v2
  ![31, v5.toNat]
def k0_dev1 (v4 : BitVec 32) : Nat :=
  let c0_i32 : BitVec 32 := 0#32
  let c1_i32_1 : BitVec 32 := 1#32
  let v8 : BitVec 32 := Scalar.muli v4 c1_i32_1
  let v9 : BitVec 32 := Scalar.addi c0_i32 v8
  v9.toNat

def k0_dev2 (v6 : BitVec 32) : Nat :=
  let c0_i32_4 : BitVec 32 := 0#32
  let c1_i32_3 : BitVec 32 := 1#32
  let v10 : BitVec 32 := Scalar.muli v6 c1_i32_3
  let v11 : BitVec 32 := Scalar.addi c0_i32_4 v10
  v11.toNat

def k0_off3 (d0 : Dev nD) : Fin 2 → Nat :=
  let c31_5 : Index := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v12 : Index := Scalar.indexCast v2
  ![31, v12.toNat]
def k0_off4 (v13 : BitVec 32) : Fin 2 → Nat :=
  let c128_i32 : BitVec 32 := 128#32
  let v14 : BitVec 32 := Scalar.muli v13 c128_i32
  let c0_i32_6 : BitVec 32 := 0#32
  let v15 : BitVec 32 := Scalar.addi v14 c0_i32_6
  let v16 : Index := Scalar.indexCast v15
  let c0 : Index := 0#32
  ![v16.toNat, 0]

def k0_chk3 (v13 : BitVec 32) : Prop :=
  (∀ a, (k0_off4 v13) a + S64x128.size a ≤ S4096x128.size a)
theorem k0_off4_inb : ∀ (v13 : BitVec 32) (k0_hw3 : k0_chk3 v13), ∀ a, (k0_off4 v13) a + S64x128.size a ≤ S4096x128.size a := fun v13 k0_hw3 => k0_hw3

def k0_off5 (d0 : Dev nD) : Fin 2 → Nat :=
  let c31_12 : Index := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v25 : Index := Scalar.indexCast v2
  ![31, v25.toNat]
def k0_off6 (v26 : BitVec 32) : Fin 2 → Nat :=
  let c128_i32_13 : BitVec 32 := 128#32
  let v27 : BitVec 32 := Scalar.muli v26 c128_i32_13
  let c64_i32 : BitVec 32 := 64#32
  let v28 : BitVec 32 := Scalar.addi v27 c64_i32
  let v29 : Index := Scalar.indexCast v28
  let c0_14 : Index := 0#32
  ![v29.toNat, 0]

def k0_chk4 (v26 : BitVec 32) : Prop :=
  (∀ a, (k0_off6 v26) a + S64x128.size a ≤ S4096x128.size a)
theorem k0_off6_inb : ∀ (v26 : BitVec 32) (k0_hw4 : k0_chk4 v26), ∀ a, (k0_off6 v26) a + S64x128.size a ≤ S4096x128.size a := fun v26 k0_hw4 => k0_hw4

def k0_off7 (d0 : Dev nD) : Fin 2 → Nat :=
  let c1_20 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v38 : Index := Scalar.indexCast v2
  ![1, v38.toNat]
def k0_off8 (v39 : BitVec 32) : Fin 2 → Nat :=
  let c128_i32_21 : BitVec 32 := 128#32
  let v40 : BitVec 32 := Scalar.muli v39 c128_i32_21
  let c0_i32_22 : BitVec 32 := 0#32
  let v41 : BitVec 32 := Scalar.addi v40 c0_i32_22
  let v42 : Index := Scalar.indexCast v41
  let c0_23 : Index := 0#32
  ![v42.toNat, 0]

def k0_chk5 (v39 : BitVec 32) : Prop :=
  (∀ a, (k0_off8 v39) a + S64x128.size a ≤ S4096x128.size a)
theorem k0_off8_inb : ∀ (v39 : BitVec 32) (k0_hw5 : k0_chk5 v39), ∀ a, (k0_off8 v39) a + S64x128.size a ≤ S4096x128.size a := fun v39 k0_hw5 => k0_hw5

def k0_off9 (d0 : Dev nD) : Fin 2 → Nat :=
  let c1_29 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v51 : Index := Scalar.indexCast v2
  ![1, v51.toNat]
def k0_off10 (v52 : BitVec 32) : Fin 2 → Nat :=
  let c128_i32_30 : BitVec 32 := 128#32
  let v53 : BitVec 32 := Scalar.muli v52 c128_i32_30
  let c64_i32_31 : BitVec 32 := 64#32
  let v54 : BitVec 32 := Scalar.addi v53 c64_i32_31
  let v55 : Index := Scalar.indexCast v54
  let c0_32 : Index := 0#32
  ![v55.toNat, 0]

def k0_chk6 (v52 : BitVec 32) : Prop :=
  (∀ a, (k0_off10 v52) a + S64x128.size a ≤ S4096x128.size a)
theorem k0_off10_inb : ∀ (v52 : BitVec 32) (k0_hw6 : k0_chk6 v52), ∀ a, (k0_off10 v52) a + S64x128.size a ≤ S4096x128.size a := fun v52 k0_hw6 => k0_hw6

def k0_dev3 (v4 : BitVec 32) : Nat :=
  let c0_i32_42 : BitVec 32 := 0#32
  let c1_i32_41 : BitVec 32 := 1#32
  let v64 : BitVec 32 := Scalar.muli v4 c1_i32_41
  let v65 : BitVec 32 := Scalar.addi c0_i32_42 v64
  v65.toNat
def k0_dev4 (v6 : BitVec 32) : Nat :=
  let c0_i32_50 : BitVec 32 := 0#32
  let c1_i32_49 : BitVec 32 := 1#32
  let v70 : BitVec 32 := Scalar.muli v6 c1_i32_49
  let v71 : BitVec 32 := Scalar.addi c0_i32_50 v70
  v71.toNat
def k0_dev5 (v4 : BitVec 32) : Nat :=
  let c0_i32_58 : BitVec 32 := 0#32
  let c1_i32_57 : BitVec 32 := 1#32
  let v76 : BitVec 32 := Scalar.muli v4 c1_i32_57
  let v77 : BitVec 32 := Scalar.addi c0_i32_58 v76
  v77.toNat
def k0_dev6 (v6 : BitVec 32) : Nat :=
  let c0_i32_66 : BitVec 32 := 0#32
  let c1_i32_65 : BitVec 32 := 1#32
  let v82 : BitVec 32 := Scalar.muli v6 c1_i32_65
  let v83 : BitVec 32 := Scalar.addi c0_i32_66 v82
  v83.toNat
def k0_off11 (d0 : Dev nD) : Fin 2 → Nat :=
  let c30 : Index := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v96 : Index := Scalar.indexCast v2
  ![30, v96.toNat]
def k0_off12 (v97 : BitVec 32) : Fin 2 → Nat :=
  let c128_i32_82 : BitVec 32 := 128#32
  let v98 : BitVec 32 := Scalar.muli v97 c128_i32_82
  let c0_i32_83 : BitVec 32 := 0#32
  let v99 : BitVec 32 := Scalar.addi v98 c0_i32_83
  let v100 : Index := Scalar.indexCast v99
  let c0_84 : Index := 0#32
  ![v100.toNat, 0]

def k0_chk7 (v97 : BitVec 32) : Prop :=
  (∀ a, (k0_off12 v97) a + S64x128.size a ≤ S4096x128.size a)
theorem k0_off12_inb : ∀ (v97 : BitVec 32) (k0_hw7 : k0_chk7 v97), ∀ a, (k0_off12 v97) a + S64x128.size a ≤ S4096x128.size a := fun v97 k0_hw7 => k0_hw7

def k0_dev7 (v4 : BitVec 32) : Nat :=
  let c0_i32_94 : BitVec 32 := 0#32
  let c1_i32_93 : BitVec 32 := 1#32
  let v110 : BitVec 32 := Scalar.muli v4 c1_i32_93
  let v111 : BitVec 32 := Scalar.addi c0_i32_94 v110
  v111.toNat
def k0_off13 (d0 : Dev nD) : Fin 2 → Nat :=
  let c30_110 : Index := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v124 : Index := Scalar.indexCast v2
  ![30, v124.toNat]
def k0_off14 (v125 : BitVec 32) : Fin 2 → Nat :=
  let c128_i32_111 : BitVec 32 := 128#32
  let v126 : BitVec 32 := Scalar.muli v125 c128_i32_111
  let c64_i32_112 : BitVec 32 := 64#32
  let v127 : BitVec 32 := Scalar.addi v126 c64_i32_112
  let v128 : Index := Scalar.indexCast v127
  let c0_113 : Index := 0#32
  ![v128.toNat, 0]

def k0_chk8 (v125 : BitVec 32) : Prop :=
  (∀ a, (k0_off14 v125) a + S64x128.size a ≤ S4096x128.size a)
theorem k0_off14_inb : ∀ (v125 : BitVec 32) (k0_hw8 : k0_chk8 v125), ∀ a, (k0_off14 v125) a + S64x128.size a ≤ S4096x128.size a := fun v125 k0_hw8 => k0_hw8

def k0_dev8 (v4 : BitVec 32) : Nat :=
  let c0_i32_123 : BitVec 32 := 0#32
  let c1_i32_122 : BitVec 32 := 1#32
  let v138 : BitVec 32 := Scalar.muli v4 c1_i32_122
  let v139 : BitVec 32 := Scalar.addi c0_i32_123 v138
  v139.toNat
def k0_off15 (d0 : Dev nD) : Fin 2 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v152 : Index := Scalar.indexCast v2
  ![2, v152.toNat]
def k0_off16 (v153 : BitVec 32) : Fin 2 → Nat :=
  let c128_i32_139 : BitVec 32 := 128#32
  let v154 : BitVec 32 := Scalar.muli v153 c128_i32_139
  let c0_i32_140 : BitVec 32 := 0#32
  let v155 : BitVec 32 := Scalar.addi v154 c0_i32_140
  let v156 : Index := Scalar.indexCast v155
  let c0_141 : Index := 0#32
  ![v156.toNat, 0]

def k0_chk9 (v153 : BitVec 32) : Prop :=
  (∀ a, (k0_off16 v153) a + S64x128.size a ≤ S4096x128.size a)
theorem k0_off16_inb : ∀ (v153 : BitVec 32) (k0_hw9 : k0_chk9 v153), ∀ a, (k0_off16 v153) a + S64x128.size a ≤ S4096x128.size a := fun v153 k0_hw9 => k0_hw9

def k0_dev9 (v6 : BitVec 32) : Nat :=
  let c0_i32_151 : BitVec 32 := 0#32
  let c1_i32_150 : BitVec 32 := 1#32
  let v166 : BitVec 32 := Scalar.muli v6 c1_i32_150
  let v167 : BitVec 32 := Scalar.addi c0_i32_151 v166
  v167.toNat
def k0_off17 (d0 : Dev nD) : Fin 2 → Nat :=
  let c2_167 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v180 : Index := Scalar.indexCast v2
  ![2, v180.toNat]
def k0_off18 (v181 : BitVec 32) : Fin 2 → Nat :=
  let c128_i32_168 : BitVec 32 := 128#32
  let v182 : BitVec 32 := Scalar.muli v181 c128_i32_168
  let c64_i32_169 : BitVec 32 := 64#32
  let v183 : BitVec 32 := Scalar.addi v182 c64_i32_169
  let v184 : Index := Scalar.indexCast v183
  let c0_170 : Index := 0#32
  ![v184.toNat, 0]

def k0_chk10 (v181 : BitVec 32) : Prop :=
  (∀ a, (k0_off18 v181) a + S64x128.size a ≤ S4096x128.size a)
theorem k0_off18_inb : ∀ (v181 : BitVec 32) (k0_hw10 : k0_chk10 v181), ∀ a, (k0_off18 v181) a + S64x128.size a ≤ S4096x128.size a := fun v181 k0_hw10 => k0_hw10

def k0_dev10 (v6 : BitVec 32) : Nat :=
  let c0_i32_180 : BitVec 32 := 0#32
  let c1_i32_179 : BitVec 32 := 1#32
  let v194 : BitVec 32 := Scalar.muli v6 c1_i32_179
  let v195 : BitVec 32 := Scalar.addi c0_i32_180 v194
  v195.toNat
def k0_off19 (d0 : Dev nD) : Fin 2 → Nat :=
  let c29 : Index := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v208 : Index := Scalar.indexCast v2
  ![29, v208.toNat]
def k0_off20 (v209 : BitVec 32) : Fin 2 → Nat :=
  let c128_i32_196 : BitVec 32 := 128#32
  let v210 : BitVec 32 := Scalar.muli v209 c128_i32_196
  let c0_i32_197 : BitVec 32 := 0#32
  let v211 : BitVec 32 := Scalar.addi v210 c0_i32_197
  let v212 : Index := Scalar.indexCast v211
  let c0_198 : Index := 0#32
  ![v212.toNat, 0]

def k0_chk11 (v209 : BitVec 32) : Prop :=
  (∀ a, (k0_off20 v209) a + S64x128.size a ≤ S4096x128.size a)
theorem k0_off20_inb : ∀ (v209 : BitVec 32) (k0_hw11 : k0_chk11 v209), ∀ a, (k0_off20 v209) a + S64x128.size a ≤ S4096x128.size a := fun v209 k0_hw11 => k0_hw11

def k0_dev11 (v4 : BitVec 32) : Nat :=
  let c0_i32_207 : BitVec 32 := 0#32
  let c1_i32_206 : BitVec 32 := 1#32
  let v222 : BitVec 32 := Scalar.muli v4 c1_i32_206
  let v223 : BitVec 32 := Scalar.addi c0_i32_207 v222
  v223.toNat
def k0_off21 (d0 : Dev nD) : Fin 2 → Nat :=
  let c29_223 : Index := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v236 : Index := Scalar.indexCast v2
  ![29, v236.toNat]
def k0_off22 (v237 : BitVec 32) : Fin 2 → Nat :=
  let c128_i32_224 : BitVec 32 := 128#32
  let v238 : BitVec 32 := Scalar.muli v237 c128_i32_224
  let c64_i32_225 : BitVec 32 := 64#32
  let v239 : BitVec 32 := Scalar.addi v238 c64_i32_225
  let v240 : Index := Scalar.indexCast v239
  let c0_226 : Index := 0#32
  ![v240.toNat, 0]

def k0_chk12 (v237 : BitVec 32) : Prop :=
  (∀ a, (k0_off22 v237) a + S64x128.size a ≤ S4096x128.size a)
theorem k0_off22_inb : ∀ (v237 : BitVec 32) (k0_hw12 : k0_chk12 v237), ∀ a, (k0_off22 v237) a + S64x128.size a ≤ S4096x128.size a := fun v237 k0_hw12 => k0_hw12

def k0_dev12 (v4 : BitVec 32) : Nat :=
  let c0_i32_236 : BitVec 32 := 0#32
  let c1_i32_235 : BitVec 32 := 1#32
  let v250 : BitVec 32 := Scalar.muli v4 c1_i32_235
  let v251 : BitVec 32 := Scalar.addi c0_i32_236 v250
  v251.toNat
def k0_off23 (d0 : Dev nD) : Fin 2 → Nat :=
  let c3 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v264 : Index := Scalar.indexCast v2
  ![3, v264.toNat]
def k0_off24 (v265 : BitVec 32) : Fin 2 → Nat :=
  let c128_i32_252 : BitVec 32 := 128#32
  let v266 : BitVec 32 := Scalar.muli v265 c128_i32_252
  let c0_i32_253 : BitVec 32 := 0#32
  let v267 : BitVec 32 := Scalar.addi v266 c0_i32_253
  let v268 : Index := Scalar.indexCast v267
  let c0_254 : Index := 0#32
  ![v268.toNat, 0]

def k0_chk13 (v265 : BitVec 32) : Prop :=
  (∀ a, (k0_off24 v265) a + S64x128.size a ≤ S4096x128.size a)
theorem k0_off24_inb : ∀ (v265 : BitVec 32) (k0_hw13 : k0_chk13 v265), ∀ a, (k0_off24 v265) a + S64x128.size a ≤ S4096x128.size a := fun v265 k0_hw13 => k0_hw13

def k0_dev13 (v6 : BitVec 32) : Nat :=
  let c0_i32_264 : BitVec 32 := 0#32
  let c1_i32_263 : BitVec 32 := 1#32
  let v278 : BitVec 32 := Scalar.muli v6 c1_i32_263
  let v279 : BitVec 32 := Scalar.addi c0_i32_264 v278
  v279.toNat
def k0_off25 (d0 : Dev nD) : Fin 2 → Nat :=
  let c3_280 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v292 : Index := Scalar.indexCast v2
  ![3, v292.toNat]
def k0_off26 (v293 : BitVec 32) : Fin 2 → Nat :=
  let c128_i32_281 : BitVec 32 := 128#32
  let v294 : BitVec 32 := Scalar.muli v293 c128_i32_281
  let c64_i32_282 : BitVec 32 := 64#32
  let v295 : BitVec 32 := Scalar.addi v294 c64_i32_282
  let v296 : Index := Scalar.indexCast v295
  let c0_283 : Index := 0#32
  ![v296.toNat, 0]

def k0_chk14 (v293 : BitVec 32) : Prop :=
  (∀ a, (k0_off26 v293) a + S64x128.size a ≤ S4096x128.size a)
theorem k0_off26_inb : ∀ (v293 : BitVec 32) (k0_hw14 : k0_chk14 v293), ∀ a, (k0_off26 v293) a + S64x128.size a ≤ S4096x128.size a := fun v293 k0_hw14 => k0_hw14

def k0_dev14 (v6 : BitVec 32) : Nat :=
  let c0_i32_293 : BitVec 32 := 0#32
  let c1_i32_292 : BitVec 32 := 1#32
  let v306 : BitVec 32 := Scalar.muli v6 c1_i32_292
  let v307 : BitVec 32 := Scalar.addi c0_i32_293 v306
  v307.toNat
def k0_off27 (d0 : Dev nD) : Fin 2 → Nat :=
  let c28 : Index := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v320 : Index := Scalar.indexCast v2
  ![28, v320.toNat]
def k0_off28 (v321 : BitVec 32) : Fin 2 → Nat :=
  let c128_i32_309 : BitVec 32 := 128#32
  let v322 : BitVec 32 := Scalar.muli v321 c128_i32_309
  let c0_i32_310 : BitVec 32 := 0#32
  let v323 : BitVec 32 := Scalar.addi v322 c0_i32_310
  let v324 : Index := Scalar.indexCast v323
  let c0_311 : Index := 0#32
  ![v324.toNat, 0]

def k0_chk15 (v321 : BitVec 32) : Prop :=
  (∀ a, (k0_off28 v321) a + S64x128.size a ≤ S4096x128.size a)
theorem k0_off28_inb : ∀ (v321 : BitVec 32) (k0_hw15 : k0_chk15 v321), ∀ a, (k0_off28 v321) a + S64x128.size a ≤ S4096x128.size a := fun v321 k0_hw15 => k0_hw15

def k0_dev15 (v4 : BitVec 32) : Nat :=
  let c0_i32_320 : BitVec 32 := 0#32
  let c1_i32_319 : BitVec 32 := 1#32
  let v334 : BitVec 32 := Scalar.muli v4 c1_i32_319
  let v335 : BitVec 32 := Scalar.addi c0_i32_320 v334
  v335.toNat
def k0_off29 (d0 : Dev nD) : Fin 2 → Nat :=
  let c28_336 : Index := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v348 : Index := Scalar.indexCast v2
  ![28, v348.toNat]
def k0_off30 (v349 : BitVec 32) : Fin 2 → Nat :=
  let c128_i32_337 : BitVec 32 := 128#32
  let v350 : BitVec 32 := Scalar.muli v349 c128_i32_337
  let c64_i32_338 : BitVec 32 := 64#32
  let v351 : BitVec 32 := Scalar.addi v350 c64_i32_338
  let v352 : Index := Scalar.indexCast v351
  let c0_339 : Index := 0#32
  ![v352.toNat, 0]

def k0_chk16 (v349 : BitVec 32) : Prop :=
  (∀ a, (k0_off30 v349) a + S64x128.size a ≤ S4096x128.size a)
theorem k0_off30_inb : ∀ (v349 : BitVec 32) (k0_hw16 : k0_chk16 v349), ∀ a, (k0_off30 v349) a + S64x128.size a ≤ S4096x128.size a := fun v349 k0_hw16 => k0_hw16

def k0_dev16 (v4 : BitVec 32) : Nat :=
  let c0_i32_349 : BitVec 32 := 0#32
  let c1_i32_348 : BitVec 32 := 1#32
  let v362 : BitVec 32 := Scalar.muli v4 c1_i32_348
  let v363 : BitVec 32 := Scalar.addi c0_i32_349 v362
  v363.toNat
def k0_off31 (d0 : Dev nD) : Fin 2 → Nat :=
  let c4 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v376 : Index := Scalar.indexCast v2
  ![4, v376.toNat]
def k0_off32 (v377 : BitVec 32) : Fin 2 → Nat :=
  let c128_i32_365 : BitVec 32 := 128#32
  let v378 : BitVec 32 := Scalar.muli v377 c128_i32_365
  let c0_i32_366 : BitVec 32 := 0#32
  let v379 : BitVec 32 := Scalar.addi v378 c0_i32_366
  let v380 : Index := Scalar.indexCast v379
  let c0_367 : Index := 0#32
  ![v380.toNat, 0]

def k0_chk17 (v377 : BitVec 32) : Prop :=
  (∀ a, (k0_off32 v377) a + S64x128.size a ≤ S4096x128.size a)
theorem k0_off32_inb : ∀ (v377 : BitVec 32) (k0_hw17 : k0_chk17 v377), ∀ a, (k0_off32 v377) a + S64x128.size a ≤ S4096x128.size a := fun v377 k0_hw17 => k0_hw17

def k0_dev17 (v6 : BitVec 32) : Nat :=
  let c0_i32_377 : BitVec 32 := 0#32
  let c1_i32_376 : BitVec 32 := 1#32
  let v390 : BitVec 32 := Scalar.muli v6 c1_i32_376
  let v391 : BitVec 32 := Scalar.addi c0_i32_377 v390
  v391.toNat
def k0_off33 (d0 : Dev nD) : Fin 2 → Nat :=
  let c4_393 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v404 : Index := Scalar.indexCast v2
  ![4, v404.toNat]
def k0_off34 (v405 : BitVec 32) : Fin 2 → Nat :=
  let c128_i32_394 : BitVec 32 := 128#32
  let v406 : BitVec 32 := Scalar.muli v405 c128_i32_394
  let c64_i32_395 : BitVec 32 := 64#32
  let v407 : BitVec 32 := Scalar.addi v406 c64_i32_395
  let v408 : Index := Scalar.indexCast v407
  let c0_396 : Index := 0#32
  ![v408.toNat, 0]

def k0_chk18 (v405 : BitVec 32) : Prop :=
  (∀ a, (k0_off34 v405) a + S64x128.size a ≤ S4096x128.size a)
theorem k0_off34_inb : ∀ (v405 : BitVec 32) (k0_hw18 : k0_chk18 v405), ∀ a, (k0_off34 v405) a + S64x128.size a ≤ S4096x128.size a := fun v405 k0_hw18 => k0_hw18

def k0_dev18 (v6 : BitVec 32) : Nat :=
  let c0_i32_406 : BitVec 32 := 0#32
  let c1_i32_405 : BitVec 32 := 1#32
  let v418 : BitVec 32 := Scalar.muli v6 c1_i32_405
  let v419 : BitVec 32 := Scalar.addi c0_i32_406 v418
  v419.toNat
def k0_off35 (d0 : Dev nD) : Fin 2 → Nat :=
  let c27 : Index := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v432 : Index := Scalar.indexCast v2
  ![27, v432.toNat]
def k0_off36 (v433 : BitVec 32) : Fin 2 → Nat :=
  let c128_i32_422 : BitVec 32 := 128#32
  let v434 : BitVec 32 := Scalar.muli v433 c128_i32_422
  let c0_i32_423 : BitVec 32 := 0#32
  let v435 : BitVec 32 := Scalar.addi v434 c0_i32_423
  let v436 : Index := Scalar.indexCast v435
  let c0_424 : Index := 0#32
  ![v436.toNat, 0]

def k0_chk19 (v433 : BitVec 32) : Prop :=
  (∀ a, (k0_off36 v433) a + S64x128.size a ≤ S4096x128.size a)
theorem k0_off36_inb : ∀ (v433 : BitVec 32) (k0_hw19 : k0_chk19 v433), ∀ a, (k0_off36 v433) a + S64x128.size a ≤ S4096x128.size a := fun v433 k0_hw19 => k0_hw19

def k0_dev19 (v4 : BitVec 32) : Nat :=
  let c0_i32_433 : BitVec 32 := 0#32
  let c1_i32_432 : BitVec 32 := 1#32
  let v446 : BitVec 32 := Scalar.muli v4 c1_i32_432
  let v447 : BitVec 32 := Scalar.addi c0_i32_433 v446
  v447.toNat
def k0_off37 (d0 : Dev nD) : Fin 2 → Nat :=
  let c27_449 : Index := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v460 : Index := Scalar.indexCast v2
  ![27, v460.toNat]
def k0_off38 (v461 : BitVec 32) : Fin 2 → Nat :=
  let c128_i32_450 : BitVec 32 := 128#32
  let v462 : BitVec 32 := Scalar.muli v461 c128_i32_450
  let c64_i32_451 : BitVec 32 := 64#32
  let v463 : BitVec 32 := Scalar.addi v462 c64_i32_451
  let v464 : Index := Scalar.indexCast v463
  let c0_452 : Index := 0#32
  ![v464.toNat, 0]

def k0_chk20 (v461 : BitVec 32) : Prop :=
  (∀ a, (k0_off38 v461) a + S64x128.size a ≤ S4096x128.size a)
theorem k0_off38_inb : ∀ (v461 : BitVec 32) (k0_hw20 : k0_chk20 v461), ∀ a, (k0_off38 v461) a + S64x128.size a ≤ S4096x128.size a := fun v461 k0_hw20 => k0_hw20

def k0_dev20 (v4 : BitVec 32) : Nat :=
  let c0_i32_462 : BitVec 32 := 0#32
  let c1_i32_461 : BitVec 32 := 1#32
  let v474 : BitVec 32 := Scalar.muli v4 c1_i32_461
  let v475 : BitVec 32 := Scalar.addi c0_i32_462 v474
  v475.toNat
def k0_off39 (d0 : Dev nD) : Fin 2 → Nat :=
  let c5 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v488 : Index := Scalar.indexCast v2
  ![5, v488.toNat]
def k0_off40 (v489 : BitVec 32) : Fin 2 → Nat :=
  let c128_i32_478 : BitVec 32 := 128#32
  let v490 : BitVec 32 := Scalar.muli v489 c128_i32_478
  let c0_i32_479 : BitVec 32 := 0#32
  let v491 : BitVec 32 := Scalar.addi v490 c0_i32_479
  let v492 : Index := Scalar.indexCast v491
  let c0_480 : Index := 0#32
  ![v492.toNat, 0]

def k0_chk21 (v489 : BitVec 32) : Prop :=
  (∀ a, (k0_off40 v489) a + S64x128.size a ≤ S4096x128.size a)
theorem k0_off40_inb : ∀ (v489 : BitVec 32) (k0_hw21 : k0_chk21 v489), ∀ a, (k0_off40 v489) a + S64x128.size a ≤ S4096x128.size a := fun v489 k0_hw21 => k0_hw21

def k0_dev21 (v6 : BitVec 32) : Nat :=
  let c0_i32_490 : BitVec 32 := 0#32
  let c1_i32_489 : BitVec 32 := 1#32
  let v502 : BitVec 32 := Scalar.muli v6 c1_i32_489
  let v503 : BitVec 32 := Scalar.addi c0_i32_490 v502
  v503.toNat
def k0_off41 (d0 : Dev nD) : Fin 2 → Nat :=
  let c5_506 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v516 : Index := Scalar.indexCast v2
  ![5, v516.toNat]
def k0_off42 (v517 : BitVec 32) : Fin 2 → Nat :=
  let c128_i32_507 : BitVec 32 := 128#32
  let v518 : BitVec 32 := Scalar.muli v517 c128_i32_507
  let c64_i32_508 : BitVec 32 := 64#32
  let v519 : BitVec 32 := Scalar.addi v518 c64_i32_508
  let v520 : Index := Scalar.indexCast v519
  let c0_509 : Index := 0#32
  ![v520.toNat, 0]

def k0_chk22 (v517 : BitVec 32) : Prop :=
  (∀ a, (k0_off42 v517) a + S64x128.size a ≤ S4096x128.size a)
theorem k0_off42_inb : ∀ (v517 : BitVec 32) (k0_hw22 : k0_chk22 v517), ∀ a, (k0_off42 v517) a + S64x128.size a ≤ S4096x128.size a := fun v517 k0_hw22 => k0_hw22

def k0_dev22 (v6 : BitVec 32) : Nat :=
  let c0_i32_519 : BitVec 32 := 0#32
  let c1_i32_518 : BitVec 32 := 1#32
  let v530 : BitVec 32 := Scalar.muli v6 c1_i32_518
  let v531 : BitVec 32 := Scalar.addi c0_i32_519 v530
  v531.toNat
def k0_off43 (d0 : Dev nD) : Fin 2 → Nat :=
  let c26 : Index := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v544 : Index := Scalar.indexCast v2
  ![26, v544.toNat]
def k0_off44 (v545 : BitVec 32) : Fin 2 → Nat :=
  let c128_i32_535 : BitVec 32 := 128#32
  let v546 : BitVec 32 := Scalar.muli v545 c128_i32_535
  let c0_i32_536 : BitVec 32 := 0#32
  let v547 : BitVec 32 := Scalar.addi v546 c0_i32_536
  let v548 : Index := Scalar.indexCast v547
  let c0_537 : Index := 0#32
  ![v548.toNat, 0]

def k0_chk23 (v545 : BitVec 32) : Prop :=
  (∀ a, (k0_off44 v545) a + S64x128.size a ≤ S4096x128.size a)
theorem k0_off44_inb : ∀ (v545 : BitVec 32) (k0_hw23 : k0_chk23 v545), ∀ a, (k0_off44 v545) a + S64x128.size a ≤ S4096x128.size a := fun v545 k0_hw23 => k0_hw23

def k0_dev23 (v4 : BitVec 32) : Nat :=
  let c0_i32_546 : BitVec 32 := 0#32
  let c1_i32_545 : BitVec 32 := 1#32
  let v558 : BitVec 32 := Scalar.muli v4 c1_i32_545
  let v559 : BitVec 32 := Scalar.addi c0_i32_546 v558
  v559.toNat
def k0_off45 (d0 : Dev nD) : Fin 2 → Nat :=
  let c26_562 : Index := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v572 : Index := Scalar.indexCast v2
  ![26, v572.toNat]
def k0_off46 (v573 : BitVec 32) : Fin 2 → Nat :=
  let c128_i32_563 : BitVec 32 := 128#32
  let v574 : BitVec 32 := Scalar.muli v573 c128_i32_563
  let c64_i32_564 : BitVec 32 := 64#32
  let v575 : BitVec 32 := Scalar.addi v574 c64_i32_564
  let v576 : Index := Scalar.indexCast v575
  let c0_565 : Index := 0#32
  ![v576.toNat, 0]

def k0_chk24 (v573 : BitVec 32) : Prop :=
  (∀ a, (k0_off46 v573) a + S64x128.size a ≤ S4096x128.size a)
theorem k0_off46_inb : ∀ (v573 : BitVec 32) (k0_hw24 : k0_chk24 v573), ∀ a, (k0_off46 v573) a + S64x128.size a ≤ S4096x128.size a := fun v573 k0_hw24 => k0_hw24

def k0_dev24 (v4 : BitVec 32) : Nat :=
  let c0_i32_575 : BitVec 32 := 0#32
  let c1_i32_574 : BitVec 32 := 1#32
  let v586 : BitVec 32 := Scalar.muli v4 c1_i32_574
  let v587 : BitVec 32 := Scalar.addi c0_i32_575 v586
  v587.toNat
def k0_off47 (d0 : Dev nD) : Fin 2 → Nat :=
  let c6 : Index := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v600 : Index := Scalar.indexCast v2
  ![6, v600.toNat]
def k0_off48 (v601 : BitVec 32) : Fin 2 → Nat :=
  let c128_i32_591 : BitVec 32 := 128#32
  let v602 : BitVec 32 := Scalar.muli v601 c128_i32_591
  let c0_i32_592 : BitVec 32 := 0#32
  let v603 : BitVec 32 := Scalar.addi v602 c0_i32_592
  let v604 : Index := Scalar.indexCast v603
  let c0_593 : Index := 0#32
  ![v604.toNat, 0]

def k0_chk25 (v601 : BitVec 32) : Prop :=
  (∀ a, (k0_off48 v601) a + S64x128.size a ≤ S4096x128.size a)
theorem k0_off48_inb : ∀ (v601 : BitVec 32) (k0_hw25 : k0_chk25 v601), ∀ a, (k0_off48 v601) a + S64x128.size a ≤ S4096x128.size a := fun v601 k0_hw25 => k0_hw25

def k0_dev25 (v6 : BitVec 32) : Nat :=
  let c0_i32_603 : BitVec 32 := 0#32
  let c1_i32_602 : BitVec 32 := 1#32
  let v614 : BitVec 32 := Scalar.muli v6 c1_i32_602
  let v615 : BitVec 32 := Scalar.addi c0_i32_603 v614
  v615.toNat
def k0_off49 (d0 : Dev nD) : Fin 2 → Nat :=
  let c6_619 : Index := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v628 : Index := Scalar.indexCast v2
  ![6, v628.toNat]
def k0_off50 (v629 : BitVec 32) : Fin 2 → Nat :=
  let c128_i32_620 : BitVec 32 := 128#32
  let v630 : BitVec 32 := Scalar.muli v629 c128_i32_620
  let c64_i32_621 : BitVec 32 := 64#32
  let v631 : BitVec 32 := Scalar.addi v630 c64_i32_621
  let v632 : Index := Scalar.indexCast v631
  let c0_622 : Index := 0#32
  ![v632.toNat, 0]

def k0_chk26 (v629 : BitVec 32) : Prop :=
  (∀ a, (k0_off50 v629) a + S64x128.size a ≤ S4096x128.size a)
theorem k0_off50_inb : ∀ (v629 : BitVec 32) (k0_hw26 : k0_chk26 v629), ∀ a, (k0_off50 v629) a + S64x128.size a ≤ S4096x128.size a := fun v629 k0_hw26 => k0_hw26

def k0_dev26 (v6 : BitVec 32) : Nat :=
  let c0_i32_632 : BitVec 32 := 0#32
  let c1_i32_631 : BitVec 32 := 1#32
  let v642 : BitVec 32 := Scalar.muli v6 c1_i32_631
  let v643 : BitVec 32 := Scalar.addi c0_i32_632 v642
  v643.toNat
def k0_off51 (d0 : Dev nD) : Fin 2 → Nat :=
  let c25 : Index := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v656 : Index := Scalar.indexCast v2
  ![25, v656.toNat]
def k0_off52 (v657 : BitVec 32) : Fin 2 → Nat :=
  let c128_i32_648 : BitVec 32 := 128#32
  let v658 : BitVec 32 := Scalar.muli v657 c128_i32_648
  let c0_i32_649 : BitVec 32 := 0#32
  let v659 : BitVec 32 := Scalar.addi v658 c0_i32_649
  let v660 : Index := Scalar.indexCast v659
  let c0_650 : Index := 0#32
  ![v660.toNat, 0]

def k0_chk27 (v657 : BitVec 32) : Prop :=
  (∀ a, (k0_off52 v657) a + S64x128.size a ≤ S4096x128.size a)
theorem k0_off52_inb : ∀ (v657 : BitVec 32) (k0_hw27 : k0_chk27 v657), ∀ a, (k0_off52 v657) a + S64x128.size a ≤ S4096x128.size a := fun v657 k0_hw27 => k0_hw27

def k0_dev27 (v4 : BitVec 32) : Nat :=
  let c0_i32_659 : BitVec 32 := 0#32
  let c1_i32_658 : BitVec 32 := 1#32
  let v670 : BitVec 32 := Scalar.muli v4 c1_i32_658
  let v671 : BitVec 32 := Scalar.addi c0_i32_659 v670
  v671.toNat
def k0_off53 (d0 : Dev nD) : Fin 2 → Nat :=
  let c25_675 : Index := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v684 : Index := Scalar.indexCast v2
  ![25, v684.toNat]
def k0_off54 (v685 : BitVec 32) : Fin 2 → Nat :=
  let c128_i32_676 : BitVec 32 := 128#32
  let v686 : BitVec 32 := Scalar.muli v685 c128_i32_676
  let c64_i32_677 : BitVec 32 := 64#32
  let v687 : BitVec 32 := Scalar.addi v686 c64_i32_677
  let v688 : Index := Scalar.indexCast v687
  let c0_678 : Index := 0#32
  ![v688.toNat, 0]

def k0_chk28 (v685 : BitVec 32) : Prop :=
  (∀ a, (k0_off54 v685) a + S64x128.size a ≤ S4096x128.size a)
theorem k0_off54_inb : ∀ (v685 : BitVec 32) (k0_hw28 : k0_chk28 v685), ∀ a, (k0_off54 v685) a + S64x128.size a ≤ S4096x128.size a := fun v685 k0_hw28 => k0_hw28

def k0_dev28 (v4 : BitVec 32) : Nat :=
  let c0_i32_688 : BitVec 32 := 0#32
  let c1_i32_687 : BitVec 32 := 1#32
  let v698 : BitVec 32 := Scalar.muli v4 c1_i32_687
  let v699 : BitVec 32 := Scalar.addi c0_i32_688 v698
  v699.toNat
def k0_off55 (d0 : Dev nD) : Fin 2 → Nat :=
  let c7 : Index := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v712 : Index := Scalar.indexCast v2
  ![7, v712.toNat]
def k0_off56 (v713 : BitVec 32) : Fin 2 → Nat :=
  let c128_i32_704 : BitVec 32 := 128#32
  let v714 : BitVec 32 := Scalar.muli v713 c128_i32_704
  let c0_i32_705 : BitVec 32 := 0#32
  let v715 : BitVec 32 := Scalar.addi v714 c0_i32_705
  let v716 : Index := Scalar.indexCast v715
  let c0_706 : Index := 0#32
  ![v716.toNat, 0]

def k0_chk29 (v713 : BitVec 32) : Prop :=
  (∀ a, (k0_off56 v713) a + S64x128.size a ≤ S4096x128.size a)
theorem k0_off56_inb : ∀ (v713 : BitVec 32) (k0_hw29 : k0_chk29 v713), ∀ a, (k0_off56 v713) a + S64x128.size a ≤ S4096x128.size a := fun v713 k0_hw29 => k0_hw29

def k0_dev29 (v6 : BitVec 32) : Nat :=
  let c0_i32_716 : BitVec 32 := 0#32
  let c1_i32_715 : BitVec 32 := 1#32
  let v726 : BitVec 32 := Scalar.muli v6 c1_i32_715
  let v727 : BitVec 32 := Scalar.addi c0_i32_716 v726
  v727.toNat
def k0_off57 (d0 : Dev nD) : Fin 2 → Nat :=
  let c7_732 : Index := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v740 : Index := Scalar.indexCast v2
  ![7, v740.toNat]
def k0_off58 (v741 : BitVec 32) : Fin 2 → Nat :=
  let c128_i32_733 : BitVec 32 := 128#32
  let v742 : BitVec 32 := Scalar.muli v741 c128_i32_733
  let c64_i32_734 : BitVec 32 := 64#32
  let v743 : BitVec 32 := Scalar.addi v742 c64_i32_734
  let v744 : Index := Scalar.indexCast v743
  let c0_735 : Index := 0#32
  ![v744.toNat, 0]

def k0_chk30 (v741 : BitVec 32) : Prop :=
  (∀ a, (k0_off58 v741) a + S64x128.size a ≤ S4096x128.size a)
theorem k0_off58_inb : ∀ (v741 : BitVec 32) (k0_hw30 : k0_chk30 v741), ∀ a, (k0_off58 v741) a + S64x128.size a ≤ S4096x128.size a := fun v741 k0_hw30 => k0_hw30

def k0_dev30 (v6 : BitVec 32) : Nat :=
  let c0_i32_745 : BitVec 32 := 0#32
  let c1_i32_744 : BitVec 32 := 1#32
  let v754 : BitVec 32 := Scalar.muli v6 c1_i32_744
  let v755 : BitVec 32 := Scalar.addi c0_i32_745 v754
  v755.toNat
def k0_off59 (d0 : Dev nD) : Fin 2 → Nat :=
  let c24 : Index := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v768 : Index := Scalar.indexCast v2
  ![24, v768.toNat]
def k0_off60 (v769 : BitVec 32) : Fin 2 → Nat :=
  let c128_i32_761 : BitVec 32 := 128#32
  let v770 : BitVec 32 := Scalar.muli v769 c128_i32_761
  let c0_i32_762 : BitVec 32 := 0#32
  let v771 : BitVec 32 := Scalar.addi v770 c0_i32_762
  let v772 : Index := Scalar.indexCast v771
  let c0_763 : Index := 0#32
  ![v772.toNat, 0]

def k0_chk31 (v769 : BitVec 32) : Prop :=
  (∀ a, (k0_off60 v769) a + S64x128.size a ≤ S4096x128.size a)
theorem k0_off60_inb : ∀ (v769 : BitVec 32) (k0_hw31 : k0_chk31 v769), ∀ a, (k0_off60 v769) a + S64x128.size a ≤ S4096x128.size a := fun v769 k0_hw31 => k0_hw31

def k0_dev31 (v4 : BitVec 32) : Nat :=
  let c0_i32_772 : BitVec 32 := 0#32
  let c1_i32_771 : BitVec 32 := 1#32
  let v782 : BitVec 32 := Scalar.muli v4 c1_i32_771
  let v783 : BitVec 32 := Scalar.addi c0_i32_772 v782
  v783.toNat
def k0_off61 (d0 : Dev nD) : Fin 2 → Nat :=
  let c24_788 : Index := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v796 : Index := Scalar.indexCast v2
  ![24, v796.toNat]
def k0_off62 (v797 : BitVec 32) : Fin 2 → Nat :=
  let c128_i32_789 : BitVec 32 := 128#32
  let v798 : BitVec 32 := Scalar.muli v797 c128_i32_789
  let c64_i32_790 : BitVec 32 := 64#32
  let v799 : BitVec 32 := Scalar.addi v798 c64_i32_790
  let v800 : Index := Scalar.indexCast v799
  let c0_791 : Index := 0#32
  ![v800.toNat, 0]

def k0_chk32 (v797 : BitVec 32) : Prop :=
  (∀ a, (k0_off62 v797) a + S64x128.size a ≤ S4096x128.size a)
theorem k0_off62_inb : ∀ (v797 : BitVec 32) (k0_hw32 : k0_chk32 v797), ∀ a, (k0_off62 v797) a + S64x128.size a ≤ S4096x128.size a := fun v797 k0_hw32 => k0_hw32

def k0_dev32 (v4 : BitVec 32) : Nat :=
  let c0_i32_801 : BitVec 32 := 0#32
  let c1_i32_800 : BitVec 32 := 1#32
  let v810 : BitVec 32 := Scalar.muli v4 c1_i32_800
  let v811 : BitVec 32 := Scalar.addi c0_i32_801 v810
  v811.toNat
def k0_off63 (d0 : Dev nD) : Fin 2 → Nat :=
  let c8 : Index := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v824 : Index := Scalar.indexCast v2
  ![8, v824.toNat]
def k0_off64 (v825 : BitVec 32) : Fin 2 → Nat :=
  let c128_i32_817 : BitVec 32 := 128#32
  let v826 : BitVec 32 := Scalar.muli v825 c128_i32_817
  let c0_i32_818 : BitVec 32 := 0#32
  let v827 : BitVec 32 := Scalar.addi v826 c0_i32_818
  let v828 : Index := Scalar.indexCast v827
  let c0_819 : Index := 0#32
  ![v828.toNat, 0]

def k0_chk33 (v825 : BitVec 32) : Prop :=
  (∀ a, (k0_off64 v825) a + S64x128.size a ≤ S4096x128.size a)
theorem k0_off64_inb : ∀ (v825 : BitVec 32) (k0_hw33 : k0_chk33 v825), ∀ a, (k0_off64 v825) a + S64x128.size a ≤ S4096x128.size a := fun v825 k0_hw33 => k0_hw33

def k0_dev33 (v6 : BitVec 32) : Nat :=
  let c0_i32_829 : BitVec 32 := 0#32
  let c1_i32_828 : BitVec 32 := 1#32
  let v838 : BitVec 32 := Scalar.muli v6 c1_i32_828
  let v839 : BitVec 32 := Scalar.addi c0_i32_829 v838
  v839.toNat
def k0_off65 (d0 : Dev nD) : Fin 2 → Nat :=
  let c8_845 : Index := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v852 : Index := Scalar.indexCast v2
  ![8, v852.toNat]
def k0_off66 (v853 : BitVec 32) : Fin 2 → Nat :=
  let c128_i32_846 : BitVec 32 := 128#32
  let v854 : BitVec 32 := Scalar.muli v853 c128_i32_846
  let c64_i32_847 : BitVec 32 := 64#32
  let v855 : BitVec 32 := Scalar.addi v854 c64_i32_847
  let v856 : Index := Scalar.indexCast v855
  let c0_848 : Index := 0#32
  ![v856.toNat, 0]

def k0_chk34 (v853 : BitVec 32) : Prop :=
  (∀ a, (k0_off66 v853) a + S64x128.size a ≤ S4096x128.size a)
theorem k0_off66_inb : ∀ (v853 : BitVec 32) (k0_hw34 : k0_chk34 v853), ∀ a, (k0_off66 v853) a + S64x128.size a ≤ S4096x128.size a := fun v853 k0_hw34 => k0_hw34

def k0_dev34 (v6 : BitVec 32) : Nat :=
  let c0_i32_858 : BitVec 32 := 0#32
  let c1_i32_857 : BitVec 32 := 1#32
  let v866 : BitVec 32 := Scalar.muli v6 c1_i32_857
  let v867 : BitVec 32 := Scalar.addi c0_i32_858 v866
  v867.toNat
def k0_off67 (d0 : Dev nD) : Fin 2 → Nat :=
  let c23 : Index := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v880 : Index := Scalar.indexCast v2
  ![23, v880.toNat]
def k0_off68 (v881 : BitVec 32) : Fin 2 → Nat :=
  let c128_i32_874 : BitVec 32 := 128#32
  let v882 : BitVec 32 := Scalar.muli v881 c128_i32_874
  let c0_i32_875 : BitVec 32 := 0#32
  let v883 : BitVec 32 := Scalar.addi v882 c0_i32_875
  let v884 : Index := Scalar.indexCast v883
  let c0_876 : Index := 0#32
  ![v884.toNat, 0]

def k0_chk35 (v881 : BitVec 32) : Prop :=
  (∀ a, (k0_off68 v881) a + S64x128.size a ≤ S4096x128.size a)
theorem k0_off68_inb : ∀ (v881 : BitVec 32) (k0_hw35 : k0_chk35 v881), ∀ a, (k0_off68 v881) a + S64x128.size a ≤ S4096x128.size a := fun v881 k0_hw35 => k0_hw35

def k0_dev35 (v4 : BitVec 32) : Nat :=
  let c0_i32_885 : BitVec 32 := 0#32
  let c1_i32_884 : BitVec 32 := 1#32
  let v894 : BitVec 32 := Scalar.muli v4 c1_i32_884
  let v895 : BitVec 32 := Scalar.addi c0_i32_885 v894
  v895.toNat
def k0_off69 (d0 : Dev nD) : Fin 2 → Nat :=
  let c23_901 : Index := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v908 : Index := Scalar.indexCast v2
  ![23, v908.toNat]
def k0_off70 (v909 : BitVec 32) : Fin 2 → Nat :=
  let c128_i32_902 : BitVec 32 := 128#32
  let v910 : BitVec 32 := Scalar.muli v909 c128_i32_902
  let c64_i32_903 : BitVec 32 := 64#32
  let v911 : BitVec 32 := Scalar.addi v910 c64_i32_903
  let v912 : Index := Scalar.indexCast v911
  let c0_904 : Index := 0#32
  ![v912.toNat, 0]

def k0_chk36 (v909 : BitVec 32) : Prop :=
  (∀ a, (k0_off70 v909) a + S64x128.size a ≤ S4096x128.size a)
theorem k0_off70_inb : ∀ (v909 : BitVec 32) (k0_hw36 : k0_chk36 v909), ∀ a, (k0_off70 v909) a + S64x128.size a ≤ S4096x128.size a := fun v909 k0_hw36 => k0_hw36

def k0_dev36 (v4 : BitVec 32) : Nat :=
  let c0_i32_914 : BitVec 32 := 0#32
  let c1_i32_913 : BitVec 32 := 1#32
  let v922 : BitVec 32 := Scalar.muli v4 c1_i32_913
  let v923 : BitVec 32 := Scalar.addi c0_i32_914 v922
  v923.toNat
def k0_off71 (d0 : Dev nD) : Fin 2 → Nat :=
  let c9 : Index := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v936 : Index := Scalar.indexCast v2
  ![9, v936.toNat]
def k0_off72 (v937 : BitVec 32) : Fin 2 → Nat :=
  let c128_i32_930 : BitVec 32 := 128#32
  let v938 : BitVec 32 := Scalar.muli v937 c128_i32_930
  let c0_i32_931 : BitVec 32 := 0#32
  let v939 : BitVec 32 := Scalar.addi v938 c0_i32_931
  let v940 : Index := Scalar.indexCast v939
  let c0_932 : Index := 0#32
  ![v940.toNat, 0]

def k0_chk37 (v937 : BitVec 32) : Prop :=
  (∀ a, (k0_off72 v937) a + S64x128.size a ≤ S4096x128.size a)
theorem k0_off72_inb : ∀ (v937 : BitVec 32) (k0_hw37 : k0_chk37 v937), ∀ a, (k0_off72 v937) a + S64x128.size a ≤ S4096x128.size a := fun v937 k0_hw37 => k0_hw37

def k0_dev37 (v6 : BitVec 32) : Nat :=
  let c0_i32_942 : BitVec 32 := 0#32
  let c1_i32_941 : BitVec 32 := 1#32
  let v950 : BitVec 32 := Scalar.muli v6 c1_i32_941
  let v951 : BitVec 32 := Scalar.addi c0_i32_942 v950
  v951.toNat
def k0_off73 (d0 : Dev nD) : Fin 2 → Nat :=
  let c9_958 : Index := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v964 : Index := Scalar.indexCast v2
  ![9, v964.toNat]
def k0_off74 (v965 : BitVec 32) : Fin 2 → Nat :=
  let c128_i32_959 : BitVec 32 := 128#32
  let v966 : BitVec 32 := Scalar.muli v965 c128_i32_959
  let c64_i32_960 : BitVec 32 := 64#32
  let v967 : BitVec 32 := Scalar.addi v966 c64_i32_960
  let v968 : Index := Scalar.indexCast v967
  let c0_961 : Index := 0#32
  ![v968.toNat, 0]

def k0_chk38 (v965 : BitVec 32) : Prop :=
  (∀ a, (k0_off74 v965) a + S64x128.size a ≤ S4096x128.size a)
theorem k0_off74_inb : ∀ (v965 : BitVec 32) (k0_hw38 : k0_chk38 v965), ∀ a, (k0_off74 v965) a + S64x128.size a ≤ S4096x128.size a := fun v965 k0_hw38 => k0_hw38

def k0_dev38 (v6 : BitVec 32) : Nat :=
  let c0_i32_971 : BitVec 32 := 0#32
  let c1_i32_970 : BitVec 32 := 1#32
  let v978 : BitVec 32 := Scalar.muli v6 c1_i32_970
  let v979 : BitVec 32 := Scalar.addi c0_i32_971 v978
  v979.toNat
def k0_off75 (d0 : Dev nD) : Fin 2 → Nat :=
  let c22 : Index := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v992 : Index := Scalar.indexCast v2
  ![22, v992.toNat]
def k0_off76 (v993 : BitVec 32) : Fin 2 → Nat :=
  let c128_i32_987 : BitVec 32 := 128#32
  let v994 : BitVec 32 := Scalar.muli v993 c128_i32_987
  let c0_i32_988 : BitVec 32 := 0#32
  let v995 : BitVec 32 := Scalar.addi v994 c0_i32_988
  let v996 : Index := Scalar.indexCast v995
  let c0_989 : Index := 0#32
  ![v996.toNat, 0]

def k0_chk39 (v993 : BitVec 32) : Prop :=
  (∀ a, (k0_off76 v993) a + S64x128.size a ≤ S4096x128.size a)
theorem k0_off76_inb : ∀ (v993 : BitVec 32) (k0_hw39 : k0_chk39 v993), ∀ a, (k0_off76 v993) a + S64x128.size a ≤ S4096x128.size a := fun v993 k0_hw39 => k0_hw39

def k0_dev39 (v4 : BitVec 32) : Nat :=
  let c0_i32_998 : BitVec 32 := 0#32
  let c1_i32_997 : BitVec 32 := 1#32
  let v1006 : BitVec 32 := Scalar.muli v4 c1_i32_997
  let v1007 : BitVec 32 := Scalar.addi c0_i32_998 v1006
  v1007.toNat
def k0_off77 (d0 : Dev nD) : Fin 2 → Nat :=
  let c22_1014 : Index := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1020 : Index := Scalar.indexCast v2
  ![22, v1020.toNat]
def k0_off78 (v1021 : BitVec 32) : Fin 2 → Nat :=
  let c128_i32_1015 : BitVec 32 := 128#32
  let v1022 : BitVec 32 := Scalar.muli v1021 c128_i32_1015
  let c64_i32_1016 : BitVec 32 := 64#32
  let v1023 : BitVec 32 := Scalar.addi v1022 c64_i32_1016
  let v1024 : Index := Scalar.indexCast v1023
  let c0_1017 : Index := 0#32
  ![v1024.toNat, 0]

def k0_chk40 (v1021 : BitVec 32) : Prop :=
  (∀ a, (k0_off78 v1021) a + S64x128.size a ≤ S4096x128.size a)
theorem k0_off78_inb : ∀ (v1021 : BitVec 32) (k0_hw40 : k0_chk40 v1021), ∀ a, (k0_off78 v1021) a + S64x128.size a ≤ S4096x128.size a := fun v1021 k0_hw40 => k0_hw40

def k0_dev40 (v4 : BitVec 32) : Nat :=
  let c0_i32_1027 : BitVec 32 := 0#32
  let c1_i32_1026 : BitVec 32 := 1#32
  let v1034 : BitVec 32 := Scalar.muli v4 c1_i32_1026
  let v1035 : BitVec 32 := Scalar.addi c0_i32_1027 v1034
  v1035.toNat
def k0_off79 (d0 : Dev nD) : Fin 2 → Nat :=
  let c10 : Index := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1048 : Index := Scalar.indexCast v2
  ![10, v1048.toNat]
def k0_off80 (v1049 : BitVec 32) : Fin 2 → Nat :=
  let c128_i32_1043 : BitVec 32 := 128#32
  let v1050 : BitVec 32 := Scalar.muli v1049 c128_i32_1043
  let c0_i32_1044 : BitVec 32 := 0#32
  let v1051 : BitVec 32 := Scalar.addi v1050 c0_i32_1044
  let v1052 : Index := Scalar.indexCast v1051
  let c0_1045 : Index := 0#32
  ![v1052.toNat, 0]

def k0_chk41 (v1049 : BitVec 32) : Prop :=
  (∀ a, (k0_off80 v1049) a + S64x128.size a ≤ S4096x128.size a)
theorem k0_off80_inb : ∀ (v1049 : BitVec 32) (k0_hw41 : k0_chk41 v1049), ∀ a, (k0_off80 v1049) a + S64x128.size a ≤ S4096x128.size a := fun v1049 k0_hw41 => k0_hw41

def k0_dev41 (v6 : BitVec 32) : Nat :=
  let c0_i32_1055 : BitVec 32 := 0#32
  let c1_i32_1054 : BitVec 32 := 1#32
  let v1062 : BitVec 32 := Scalar.muli v6 c1_i32_1054
  let v1063 : BitVec 32 := Scalar.addi c0_i32_1055 v1062
  v1063.toNat
def k0_off81 (d0 : Dev nD) : Fin 2 → Nat :=
  let c10_1071 : Index := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1076 : Index := Scalar.indexCast v2
  ![10, v1076.toNat]
def k0_off82 (v1077 : BitVec 32) : Fin 2 → Nat :=
  let c128_i32_1072 : BitVec 32 := 128#32
  let v1078 : BitVec 32 := Scalar.muli v1077 c128_i32_1072
  let c64_i32_1073 : BitVec 32 := 64#32
  let v1079 : BitVec 32 := Scalar.addi v1078 c64_i32_1073
  let v1080 : Index := Scalar.indexCast v1079
  let c0_1074 : Index := 0#32
  ![v1080.toNat, 0]

def k0_chk42 (v1077 : BitVec 32) : Prop :=
  (∀ a, (k0_off82 v1077) a + S64x128.size a ≤ S4096x128.size a)
theorem k0_off82_inb : ∀ (v1077 : BitVec 32) (k0_hw42 : k0_chk42 v1077), ∀ a, (k0_off82 v1077) a + S64x128.size a ≤ S4096x128.size a := fun v1077 k0_hw42 => k0_hw42

def k0_dev42 (v6 : BitVec 32) : Nat :=
  let c0_i32_1084 : BitVec 32 := 0#32
  let c1_i32_1083 : BitVec 32 := 1#32
  let v1090 : BitVec 32 := Scalar.muli v6 c1_i32_1083
  let v1091 : BitVec 32 := Scalar.addi c0_i32_1084 v1090
  v1091.toNat
def k0_off83 (d0 : Dev nD) : Fin 2 → Nat :=
  let c21 : Index := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1104 : Index := Scalar.indexCast v2
  ![21, v1104.toNat]
def k0_off84 (v1105 : BitVec 32) : Fin 2 → Nat :=
  let c128_i32_1100 : BitVec 32 := 128#32
  let v1106 : BitVec 32 := Scalar.muli v1105 c128_i32_1100
  let c0_i32_1101 : BitVec 32 := 0#32
  let v1107 : BitVec 32 := Scalar.addi v1106 c0_i32_1101
  let v1108 : Index := Scalar.indexCast v1107
  let c0_1102 : Index := 0#32
  ![v1108.toNat, 0]

def k0_chk43 (v1105 : BitVec 32) : Prop :=
  (∀ a, (k0_off84 v1105) a + S64x128.size a ≤ S4096x128.size a)
theorem k0_off84_inb : ∀ (v1105 : BitVec 32) (k0_hw43 : k0_chk43 v1105), ∀ a, (k0_off84 v1105) a + S64x128.size a ≤ S4096x128.size a := fun v1105 k0_hw43 => k0_hw43

def k0_dev43 (v4 : BitVec 32) : Nat :=
  let c0_i32_1111 : BitVec 32 := 0#32
  let c1_i32_1110 : BitVec 32 := 1#32
  let v1118 : BitVec 32 := Scalar.muli v4 c1_i32_1110
  let v1119 : BitVec 32 := Scalar.addi c0_i32_1111 v1118
  v1119.toNat
def k0_off85 (d0 : Dev nD) : Fin 2 → Nat :=
  let c21_1127 : Index := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1132 : Index := Scalar.indexCast v2
  ![21, v1132.toNat]
def k0_off86 (v1133 : BitVec 32) : Fin 2 → Nat :=
  let c128_i32_1128 : BitVec 32 := 128#32
  let v1134 : BitVec 32 := Scalar.muli v1133 c128_i32_1128
  let c64_i32_1129 : BitVec 32 := 64#32
  let v1135 : BitVec 32 := Scalar.addi v1134 c64_i32_1129
  let v1136 : Index := Scalar.indexCast v1135
  let c0_1130 : Index := 0#32
  ![v1136.toNat, 0]

def k0_chk44 (v1133 : BitVec 32) : Prop :=
  (∀ a, (k0_off86 v1133) a + S64x128.size a ≤ S4096x128.size a)
theorem k0_off86_inb : ∀ (v1133 : BitVec 32) (k0_hw44 : k0_chk44 v1133), ∀ a, (k0_off86 v1133) a + S64x128.size a ≤ S4096x128.size a := fun v1133 k0_hw44 => k0_hw44

def k0_dev44 (v4 : BitVec 32) : Nat :=
  let c0_i32_1140 : BitVec 32 := 0#32
  let c1_i32_1139 : BitVec 32 := 1#32
  let v1146 : BitVec 32 := Scalar.muli v4 c1_i32_1139
  let v1147 : BitVec 32 := Scalar.addi c0_i32_1140 v1146
  v1147.toNat
def k0_off87 (d0 : Dev nD) : Fin 2 → Nat :=
  let c11 : Index := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1160 : Index := Scalar.indexCast v2
  ![11, v1160.toNat]
def k0_off88 (v1161 : BitVec 32) : Fin 2 → Nat :=
  let c128_i32_1156 : BitVec 32 := 128#32
  let v1162 : BitVec 32 := Scalar.muli v1161 c128_i32_1156
  let c0_i32_1157 : BitVec 32 := 0#32
  let v1163 : BitVec 32 := Scalar.addi v1162 c0_i32_1157
  let v1164 : Index := Scalar.indexCast v1163
  let c0_1158 : Index := 0#32
  ![v1164.toNat, 0]

def k0_chk45 (v1161 : BitVec 32) : Prop :=
  (∀ a, (k0_off88 v1161) a + S64x128.size a ≤ S4096x128.size a)
theorem k0_off88_inb : ∀ (v1161 : BitVec 32) (k0_hw45 : k0_chk45 v1161), ∀ a, (k0_off88 v1161) a + S64x128.size a ≤ S4096x128.size a := fun v1161 k0_hw45 => k0_hw45

def k0_dev45 (v6 : BitVec 32) : Nat :=
  let c0_i32_1168 : BitVec 32 := 0#32
  let c1_i32_1167 : BitVec 32 := 1#32
  let v1174 : BitVec 32 := Scalar.muli v6 c1_i32_1167
  let v1175 : BitVec 32 := Scalar.addi c0_i32_1168 v1174
  v1175.toNat
def k0_off89 (d0 : Dev nD) : Fin 2 → Nat :=
  let c11_1184 : Index := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1188 : Index := Scalar.indexCast v2
  ![11, v1188.toNat]
def k0_off90 (v1189 : BitVec 32) : Fin 2 → Nat :=
  let c128_i32_1185 : BitVec 32 := 128#32
  let v1190 : BitVec 32 := Scalar.muli v1189 c128_i32_1185
  let c64_i32_1186 : BitVec 32 := 64#32
  let v1191 : BitVec 32 := Scalar.addi v1190 c64_i32_1186
  let v1192 : Index := Scalar.indexCast v1191
  let c0_1187 : Index := 0#32
  ![v1192.toNat, 0]

def k0_chk46 (v1189 : BitVec 32) : Prop :=
  (∀ a, (k0_off90 v1189) a + S64x128.size a ≤ S4096x128.size a)
theorem k0_off90_inb : ∀ (v1189 : BitVec 32) (k0_hw46 : k0_chk46 v1189), ∀ a, (k0_off90 v1189) a + S64x128.size a ≤ S4096x128.size a := fun v1189 k0_hw46 => k0_hw46

def k0_dev46 (v6 : BitVec 32) : Nat :=
  let c0_i32_1197 : BitVec 32 := 0#32
  let c1_i32_1196 : BitVec 32 := 1#32
  let v1202 : BitVec 32 := Scalar.muli v6 c1_i32_1196
  let v1203 : BitVec 32 := Scalar.addi c0_i32_1197 v1202
  v1203.toNat
def k0_off91 (d0 : Dev nD) : Fin 2 → Nat :=
  let c20 : Index := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1216 : Index := Scalar.indexCast v2
  ![20, v1216.toNat]
def k0_off92 (v1217 : BitVec 32) : Fin 2 → Nat :=
  let c128_i32_1213 : BitVec 32 := 128#32
  let v1218 : BitVec 32 := Scalar.muli v1217 c128_i32_1213
  let c0_i32_1214 : BitVec 32 := 0#32
  let v1219 : BitVec 32 := Scalar.addi v1218 c0_i32_1214
  let v1220 : Index := Scalar.indexCast v1219
  let c0_1215 : Index := 0#32
  ![v1220.toNat, 0]

def k0_chk47 (v1217 : BitVec 32) : Prop :=
  (∀ a, (k0_off92 v1217) a + S64x128.size a ≤ S4096x128.size a)
theorem k0_off92_inb : ∀ (v1217 : BitVec 32) (k0_hw47 : k0_chk47 v1217), ∀ a, (k0_off92 v1217) a + S64x128.size a ≤ S4096x128.size a := fun v1217 k0_hw47 => k0_hw47

def k0_dev47 (v4 : BitVec 32) : Nat :=
  let c0_i32_1224 : BitVec 32 := 0#32
  let c1_i32_1223 : BitVec 32 := 1#32
  let v1230 : BitVec 32 := Scalar.muli v4 c1_i32_1223
  let v1231 : BitVec 32 := Scalar.addi c0_i32_1224 v1230
  v1231.toNat
def k0_off93 (d0 : Dev nD) : Fin 2 → Nat :=
  let c20_1240 : Index := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1244 : Index := Scalar.indexCast v2
  ![20, v1244.toNat]
def k0_off94 (v1245 : BitVec 32) : Fin 2 → Nat :=
  let c128_i32_1241 : BitVec 32 := 128#32
  let v1246 : BitVec 32 := Scalar.muli v1245 c128_i32_1241
  let c64_i32_1242 : BitVec 32 := 64#32
  let v1247 : BitVec 32 := Scalar.addi v1246 c64_i32_1242
  let v1248 : Index := Scalar.indexCast v1247
  let c0_1243 : Index := 0#32
  ![v1248.toNat, 0]

def k0_chk48 (v1245 : BitVec 32) : Prop :=
  (∀ a, (k0_off94 v1245) a + S64x128.size a ≤ S4096x128.size a)
theorem k0_off94_inb : ∀ (v1245 : BitVec 32) (k0_hw48 : k0_chk48 v1245), ∀ a, (k0_off94 v1245) a + S64x128.size a ≤ S4096x128.size a := fun v1245 k0_hw48 => k0_hw48

def k0_dev48 (v4 : BitVec 32) : Nat :=
  let c0_i32_1253 : BitVec 32 := 0#32
  let c1_i32_1252 : BitVec 32 := 1#32
  let v1258 : BitVec 32 := Scalar.muli v4 c1_i32_1252
  let v1259 : BitVec 32 := Scalar.addi c0_i32_1253 v1258
  v1259.toNat
def k0_off95 (d0 : Dev nD) : Fin 2 → Nat :=
  let c12 : Index := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1272 : Index := Scalar.indexCast v2
  ![12, v1272.toNat]
def k0_off96 (v1273 : BitVec 32) : Fin 2 → Nat :=
  let c128_i32_1269 : BitVec 32 := 128#32
  let v1274 : BitVec 32 := Scalar.muli v1273 c128_i32_1269
  let c0_i32_1270 : BitVec 32 := 0#32
  let v1275 : BitVec 32 := Scalar.addi v1274 c0_i32_1270
  let v1276 : Index := Scalar.indexCast v1275
  let c0_1271 : Index := 0#32
  ![v1276.toNat, 0]

def k0_chk49 (v1273 : BitVec 32) : Prop :=
  (∀ a, (k0_off96 v1273) a + S64x128.size a ≤ S4096x128.size a)
theorem k0_off96_inb : ∀ (v1273 : BitVec 32) (k0_hw49 : k0_chk49 v1273), ∀ a, (k0_off96 v1273) a + S64x128.size a ≤ S4096x128.size a := fun v1273 k0_hw49 => k0_hw49

def k0_dev49 (v6 : BitVec 32) : Nat :=
  let c0_i32_1281 : BitVec 32 := 0#32
  let c1_i32_1280 : BitVec 32 := 1#32
  let v1286 : BitVec 32 := Scalar.muli v6 c1_i32_1280
  let v1287 : BitVec 32 := Scalar.addi c0_i32_1281 v1286
  v1287.toNat
def k0_off97 (d0 : Dev nD) : Fin 2 → Nat :=
  let c12_1297 : Index := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1300 : Index := Scalar.indexCast v2
  ![12, v1300.toNat]
def k0_off98 (v1301 : BitVec 32) : Fin 2 → Nat :=
  let c128_i32_1298 : BitVec 32 := 128#32
  let v1302 : BitVec 32 := Scalar.muli v1301 c128_i32_1298
  let c64_i32_1299 : BitVec 32 := 64#32
  let v1303 : BitVec 32 := Scalar.addi v1302 c64_i32_1299
  let v1304 : Index := Scalar.indexCast v1303
  let c0_1300 : Index := 0#32
  ![v1304.toNat, 0]

def k0_chk50 (v1301 : BitVec 32) : Prop :=
  (∀ a, (k0_off98 v1301) a + S64x128.size a ≤ S4096x128.size a)
theorem k0_off98_inb : ∀ (v1301 : BitVec 32) (k0_hw50 : k0_chk50 v1301), ∀ a, (k0_off98 v1301) a + S64x128.size a ≤ S4096x128.size a := fun v1301 k0_hw50 => k0_hw50

def k0_dev50 (v6 : BitVec 32) : Nat :=
  let c0_i32_1310 : BitVec 32 := 0#32
  let c1_i32_1309 : BitVec 32 := 1#32
  let v1314 : BitVec 32 := Scalar.muli v6 c1_i32_1309
  let v1315 : BitVec 32 := Scalar.addi c0_i32_1310 v1314
  v1315.toNat
def k0_off99 (d0 : Dev nD) : Fin 2 → Nat :=
  let c19 : Index := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1328 : Index := Scalar.indexCast v2
  ![19, v1328.toNat]
def k0_off100 (v1329 : BitVec 32) : Fin 2 → Nat :=
  let c128_i32_1326 : BitVec 32 := 128#32
  let v1330 : BitVec 32 := Scalar.muli v1329 c128_i32_1326
  let c0_i32_1327 : BitVec 32 := 0#32
  let v1331 : BitVec 32 := Scalar.addi v1330 c0_i32_1327
  let v1332 : Index := Scalar.indexCast v1331
  let c0_1328 : Index := 0#32
  ![v1332.toNat, 0]

def k0_chk51 (v1329 : BitVec 32) : Prop :=
  (∀ a, (k0_off100 v1329) a + S64x128.size a ≤ S4096x128.size a)
theorem k0_off100_inb : ∀ (v1329 : BitVec 32) (k0_hw51 : k0_chk51 v1329), ∀ a, (k0_off100 v1329) a + S64x128.size a ≤ S4096x128.size a := fun v1329 k0_hw51 => k0_hw51

def k0_dev51 (v4 : BitVec 32) : Nat :=
  let c0_i32_1337 : BitVec 32 := 0#32
  let c1_i32_1336 : BitVec 32 := 1#32
  let v1342 : BitVec 32 := Scalar.muli v4 c1_i32_1336
  let v1343 : BitVec 32 := Scalar.addi c0_i32_1337 v1342
  v1343.toNat
def k0_off101 (d0 : Dev nD) : Fin 2 → Nat :=
  let c19_1353 : Index := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1356 : Index := Scalar.indexCast v2
  ![19, v1356.toNat]
def k0_off102 (v1357 : BitVec 32) : Fin 2 → Nat :=
  let c128_i32_1354 : BitVec 32 := 128#32
  let v1358 : BitVec 32 := Scalar.muli v1357 c128_i32_1354
  let c64_i32_1355 : BitVec 32 := 64#32
  let v1359 : BitVec 32 := Scalar.addi v1358 c64_i32_1355
  let v1360 : Index := Scalar.indexCast v1359
  let c0_1356 : Index := 0#32
  ![v1360.toNat, 0]

def k0_chk52 (v1357 : BitVec 32) : Prop :=
  (∀ a, (k0_off102 v1357) a + S64x128.size a ≤ S4096x128.size a)
theorem k0_off102_inb : ∀ (v1357 : BitVec 32) (k0_hw52 : k0_chk52 v1357), ∀ a, (k0_off102 v1357) a + S64x128.size a ≤ S4096x128.size a := fun v1357 k0_hw52 => k0_hw52

def k0_dev52 (v4 : BitVec 32) : Nat :=
  let c0_i32_1366 : BitVec 32 := 0#32
  let c1_i32_1365 : BitVec 32 := 1#32
  let v1370 : BitVec 32 := Scalar.muli v4 c1_i32_1365
  let v1371 : BitVec 32 := Scalar.addi c0_i32_1366 v1370
  v1371.toNat
def k0_off103 (d0 : Dev nD) : Fin 2 → Nat :=
  let c13 : Index := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1384 : Index := Scalar.indexCast v2
  ![13, v1384.toNat]
def k0_off104 (v1385 : BitVec 32) : Fin 2 → Nat :=
  let c128_i32_1382 : BitVec 32 := 128#32
  let v1386 : BitVec 32 := Scalar.muli v1385 c128_i32_1382
  let c0_i32_1383 : BitVec 32 := 0#32
  let v1387 : BitVec 32 := Scalar.addi v1386 c0_i32_1383
  let v1388 : Index := Scalar.indexCast v1387
  let c0_1384 : Index := 0#32
  ![v1388.toNat, 0]

def k0_chk53 (v1385 : BitVec 32) : Prop :=
  (∀ a, (k0_off104 v1385) a + S64x128.size a ≤ S4096x128.size a)
theorem k0_off104_inb : ∀ (v1385 : BitVec 32) (k0_hw53 : k0_chk53 v1385), ∀ a, (k0_off104 v1385) a + S64x128.size a ≤ S4096x128.size a := fun v1385 k0_hw53 => k0_hw53

def k0_dev53 (v6 : BitVec 32) : Nat :=
  let c0_i32_1394 : BitVec 32 := 0#32
  let c1_i32_1393 : BitVec 32 := 1#32
  let v1398 : BitVec 32 := Scalar.muli v6 c1_i32_1393
  let v1399 : BitVec 32 := Scalar.addi c0_i32_1394 v1398
  v1399.toNat
def k0_off105 (d0 : Dev nD) : Fin 2 → Nat :=
  let c13_1410 : Index := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1412 : Index := Scalar.indexCast v2
  ![13, v1412.toNat]
def k0_off106 (v1413 : BitVec 32) : Fin 2 → Nat :=
  let c128_i32_1411 : BitVec 32 := 128#32
  let v1414 : BitVec 32 := Scalar.muli v1413 c128_i32_1411
  let c64_i32_1412 : BitVec 32 := 64#32
  let v1415 : BitVec 32 := Scalar.addi v1414 c64_i32_1412
  let v1416 : Index := Scalar.indexCast v1415
  let c0_1413 : Index := 0#32
  ![v1416.toNat, 0]

def k0_chk54 (v1413 : BitVec 32) : Prop :=
  (∀ a, (k0_off106 v1413) a + S64x128.size a ≤ S4096x128.size a)
theorem k0_off106_inb : ∀ (v1413 : BitVec 32) (k0_hw54 : k0_chk54 v1413), ∀ a, (k0_off106 v1413) a + S64x128.size a ≤ S4096x128.size a := fun v1413 k0_hw54 => k0_hw54

def k0_dev54 (v6 : BitVec 32) : Nat :=
  let c0_i32_1423 : BitVec 32 := 0#32
  let c1_i32_1422 : BitVec 32 := 1#32
  let v1426 : BitVec 32 := Scalar.muli v6 c1_i32_1422
  let v1427 : BitVec 32 := Scalar.addi c0_i32_1423 v1426
  v1427.toNat
def k0_off107 (d0 : Dev nD) : Fin 2 → Nat :=
  let c18 : Index := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1440 : Index := Scalar.indexCast v2
  ![18, v1440.toNat]
def k0_off108 (v1441 : BitVec 32) : Fin 2 → Nat :=
  let c128_i32_1439 : BitVec 32 := 128#32
  let v1442 : BitVec 32 := Scalar.muli v1441 c128_i32_1439
  let c0_i32_1440 : BitVec 32 := 0#32
  let v1443 : BitVec 32 := Scalar.addi v1442 c0_i32_1440
  let v1444 : Index := Scalar.indexCast v1443
  let c0_1441 : Index := 0#32
  ![v1444.toNat, 0]

def k0_chk55 (v1441 : BitVec 32) : Prop :=
  (∀ a, (k0_off108 v1441) a + S64x128.size a ≤ S4096x128.size a)
theorem k0_off108_inb : ∀ (v1441 : BitVec 32) (k0_hw55 : k0_chk55 v1441), ∀ a, (k0_off108 v1441) a + S64x128.size a ≤ S4096x128.size a := fun v1441 k0_hw55 => k0_hw55

def k0_dev55 (v4 : BitVec 32) : Nat :=
  let c0_i32_1450 : BitVec 32 := 0#32
  let c1_i32_1449 : BitVec 32 := 1#32
  let v1454 : BitVec 32 := Scalar.muli v4 c1_i32_1449
  let v1455 : BitVec 32 := Scalar.addi c0_i32_1450 v1454
  v1455.toNat
def k0_off109 (d0 : Dev nD) : Fin 2 → Nat :=
  let c18_1466 : Index := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1468 : Index := Scalar.indexCast v2
  ![18, v1468.toNat]
def k0_off110 (v1469 : BitVec 32) : Fin 2 → Nat :=
  let c128_i32_1467 : BitVec 32 := 128#32
  let v1470 : BitVec 32 := Scalar.muli v1469 c128_i32_1467
  let c64_i32_1468 : BitVec 32 := 64#32
  let v1471 : BitVec 32 := Scalar.addi v1470 c64_i32_1468
  let v1472 : Index := Scalar.indexCast v1471
  let c0_1469 : Index := 0#32
  ![v1472.toNat, 0]

def k0_chk56 (v1469 : BitVec 32) : Prop :=
  (∀ a, (k0_off110 v1469) a + S64x128.size a ≤ S4096x128.size a)
theorem k0_off110_inb : ∀ (v1469 : BitVec 32) (k0_hw56 : k0_chk56 v1469), ∀ a, (k0_off110 v1469) a + S64x128.size a ≤ S4096x128.size a := fun v1469 k0_hw56 => k0_hw56

def k0_dev56 (v4 : BitVec 32) : Nat :=
  let c0_i32_1479 : BitVec 32 := 0#32
  let c1_i32_1478 : BitVec 32 := 1#32
  let v1482 : BitVec 32 := Scalar.muli v4 c1_i32_1478
  let v1483 : BitVec 32 := Scalar.addi c0_i32_1479 v1482
  v1483.toNat
def k0_off111 (d0 : Dev nD) : Fin 2 → Nat :=
  let c14 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1496 : Index := Scalar.indexCast v2
  ![14, v1496.toNat]
def k0_off112 (v1497 : BitVec 32) : Fin 2 → Nat :=
  let c128_i32_1495 : BitVec 32 := 128#32
  let v1498 : BitVec 32 := Scalar.muli v1497 c128_i32_1495
  let c0_i32_1496 : BitVec 32 := 0#32
  let v1499 : BitVec 32 := Scalar.addi v1498 c0_i32_1496
  let v1500 : Index := Scalar.indexCast v1499
  let c0_1497 : Index := 0#32
  ![v1500.toNat, 0]

def k0_chk57 (v1497 : BitVec 32) : Prop :=
  (∀ a, (k0_off112 v1497) a + S64x128.size a ≤ S4096x128.size a)
theorem k0_off112_inb : ∀ (v1497 : BitVec 32) (k0_hw57 : k0_chk57 v1497), ∀ a, (k0_off112 v1497) a + S64x128.size a ≤ S4096x128.size a := fun v1497 k0_hw57 => k0_hw57

def k0_dev57 (v6 : BitVec 32) : Nat :=
  let c0_i32_1507 : BitVec 32 := 0#32
  let c1_i32_1506 : BitVec 32 := 1#32
  let v1510 : BitVec 32 := Scalar.muli v6 c1_i32_1506
  let v1511 : BitVec 32 := Scalar.addi c0_i32_1507 v1510
  v1511.toNat
def k0_off113 (d0 : Dev nD) : Fin 2 → Nat :=
  let c14_1523 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1524 : Index := Scalar.indexCast v2
  ![14, v1524.toNat]
def k0_off114 (v1525 : BitVec 32) : Fin 2 → Nat :=
  let c128_i32_1524 : BitVec 32 := 128#32
  let v1526 : BitVec 32 := Scalar.muli v1525 c128_i32_1524
  let c64_i32_1525 : BitVec 32 := 64#32
  let v1527 : BitVec 32 := Scalar.addi v1526 c64_i32_1525
  let v1528 : Index := Scalar.indexCast v1527
  let c0_1526 : Index := 0#32
  ![v1528.toNat, 0]

def k0_chk58 (v1525 : BitVec 32) : Prop :=
  (∀ a, (k0_off114 v1525) a + S64x128.size a ≤ S4096x128.size a)
theorem k0_off114_inb : ∀ (v1525 : BitVec 32) (k0_hw58 : k0_chk58 v1525), ∀ a, (k0_off114 v1525) a + S64x128.size a ≤ S4096x128.size a := fun v1525 k0_hw58 => k0_hw58

def k0_dev58 (v6 : BitVec 32) : Nat :=
  let c0_i32_1536 : BitVec 32 := 0#32
  let c1_i32_1535 : BitVec 32 := 1#32
  let v1538 : BitVec 32 := Scalar.muli v6 c1_i32_1535
  let v1539 : BitVec 32 := Scalar.addi c0_i32_1536 v1538
  v1539.toNat
def k0_off115 (d0 : Dev nD) : Fin 2 → Nat :=
  let c17 : Index := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1552 : Index := Scalar.indexCast v2
  ![17, v1552.toNat]
def k0_off116 (v1553 : BitVec 32) : Fin 2 → Nat :=
  let c128_i32_1552 : BitVec 32 := 128#32
  let v1554 : BitVec 32 := Scalar.muli v1553 c128_i32_1552
  let c0_i32_1553 : BitVec 32 := 0#32
  let v1555 : BitVec 32 := Scalar.addi v1554 c0_i32_1553
  let v1556 : Index := Scalar.indexCast v1555
  let c0_1554 : Index := 0#32
  ![v1556.toNat, 0]

def k0_chk59 (v1553 : BitVec 32) : Prop :=
  (∀ a, (k0_off116 v1553) a + S64x128.size a ≤ S4096x128.size a)
theorem k0_off116_inb : ∀ (v1553 : BitVec 32) (k0_hw59 : k0_chk59 v1553), ∀ a, (k0_off116 v1553) a + S64x128.size a ≤ S4096x128.size a := fun v1553 k0_hw59 => k0_hw59

def k0_dev59 (v4 : BitVec 32) : Nat :=
  let c0_i32_1563 : BitVec 32 := 0#32
  let c1_i32_1562 : BitVec 32 := 1#32
  let v1566 : BitVec 32 := Scalar.muli v4 c1_i32_1562
  let v1567 : BitVec 32 := Scalar.addi c0_i32_1563 v1566
  v1567.toNat
def k0_off117 (d0 : Dev nD) : Fin 2 → Nat :=
  let c17_1579 : Index := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1580 : Index := Scalar.indexCast v2
  ![17, v1580.toNat]
def k0_off118 (v1581 : BitVec 32) : Fin 2 → Nat :=
  let c128_i32_1580 : BitVec 32 := 128#32
  let v1582 : BitVec 32 := Scalar.muli v1581 c128_i32_1580
  let c64_i32_1581 : BitVec 32 := 64#32
  let v1583 : BitVec 32 := Scalar.addi v1582 c64_i32_1581
  let v1584 : Index := Scalar.indexCast v1583
  let c0_1582 : Index := 0#32
  ![v1584.toNat, 0]

def k0_chk60 (v1581 : BitVec 32) : Prop :=
  (∀ a, (k0_off118 v1581) a + S64x128.size a ≤ S4096x128.size a)
theorem k0_off118_inb : ∀ (v1581 : BitVec 32) (k0_hw60 : k0_chk60 v1581), ∀ a, (k0_off118 v1581) a + S64x128.size a ≤ S4096x128.size a := fun v1581 k0_hw60 => k0_hw60

def k0_dev60 (v4 : BitVec 32) : Nat :=
  let c0_i32_1592 : BitVec 32 := 0#32
  let c1_i32_1591 : BitVec 32 := 1#32
  let v1594 : BitVec 32 := Scalar.muli v4 c1_i32_1591
  let v1595 : BitVec 32 := Scalar.addi c0_i32_1592 v1594
  v1595.toNat
def k0_off119 (d0 : Dev nD) : Fin 2 → Nat :=
  let c15 : Index := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1608 : Index := Scalar.indexCast v2
  ![15, v1608.toNat]
def k0_off120 (v1609 : BitVec 32) : Fin 2 → Nat :=
  let c128_i32_1608 : BitVec 32 := 128#32
  let v1610 : BitVec 32 := Scalar.muli v1609 c128_i32_1608
  let c0_i32_1609 : BitVec 32 := 0#32
  let v1611 : BitVec 32 := Scalar.addi v1610 c0_i32_1609
  let v1612 : Index := Scalar.indexCast v1611
  let c0_1610 : Index := 0#32
  ![v1612.toNat, 0]

def k0_chk61 (v1609 : BitVec 32) : Prop :=
  (∀ a, (k0_off120 v1609) a + S64x128.size a ≤ S4096x128.size a)
theorem k0_off120_inb : ∀ (v1609 : BitVec 32) (k0_hw61 : k0_chk61 v1609), ∀ a, (k0_off120 v1609) a + S64x128.size a ≤ S4096x128.size a := fun v1609 k0_hw61 => k0_hw61

def k0_dev61 (v6 : BitVec 32) : Nat :=
  let c0_i32_1620 : BitVec 32 := 0#32
  let c1_i32_1619 : BitVec 32 := 1#32
  let v1622 : BitVec 32 := Scalar.muli v6 c1_i32_1619
  let v1623 : BitVec 32 := Scalar.addi c0_i32_1620 v1622
  v1623.toNat
def k0_off121 (d0 : Dev nD) : Fin 2 → Nat :=
  let c15_1636 : Index := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1636 : Index := Scalar.indexCast v2
  ![15, v1636.toNat]
def k0_off122 (v1637 : BitVec 32) : Fin 2 → Nat :=
  let c128_i32_1637 : BitVec 32 := 128#32
  let v1638 : BitVec 32 := Scalar.muli v1637 c128_i32_1637
  let c64_i32_1638 : BitVec 32 := 64#32
  let v1639 : BitVec 32 := Scalar.addi v1638 c64_i32_1638
  let v1640 : Index := Scalar.indexCast v1639
  let c0_1639 : Index := 0#32
  ![v1640.toNat, 0]

def k0_chk62 (v1637 : BitVec 32) : Prop :=
  (∀ a, (k0_off122 v1637) a + S64x128.size a ≤ S4096x128.size a)
theorem k0_off122_inb : ∀ (v1637 : BitVec 32) (k0_hw62 : k0_chk62 v1637), ∀ a, (k0_off122 v1637) a + S64x128.size a ≤ S4096x128.size a := fun v1637 k0_hw62 => k0_hw62

def k0_dev62 (v6 : BitVec 32) : Nat :=
  let c0_i32_1649 : BitVec 32 := 0#32
  let c1_i32_1648 : BitVec 32 := 1#32
  let v1650 : BitVec 32 := Scalar.muli v6 c1_i32_1648
  let v1651 : BitVec 32 := Scalar.addi c0_i32_1649 v1650
  v1651.toNat
def k0_off123 (d0 : Dev nD) : Fin 2 → Nat :=
  let c16 : Index := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1664 : Index := Scalar.indexCast v2
  ![16, v1664.toNat]
def k0_off124 (v1665 : BitVec 32) : Fin 2 → Nat :=
  let c128_i32_1665 : BitVec 32 := 128#32
  let v1666 : BitVec 32 := Scalar.muli v1665 c128_i32_1665
  let c0_i32_1666 : BitVec 32 := 0#32
  let v1667 : BitVec 32 := Scalar.addi v1666 c0_i32_1666
  let v1668 : Index := Scalar.indexCast v1667
  let c0_1667 : Index := 0#32
  ![v1668.toNat, 0]

def k0_chk63 (v1665 : BitVec 32) : Prop :=
  (∀ a, (k0_off124 v1665) a + S64x128.size a ≤ S4096x128.size a)
theorem k0_off124_inb : ∀ (v1665 : BitVec 32) (k0_hw63 : k0_chk63 v1665), ∀ a, (k0_off124 v1665) a + S64x128.size a ≤ S4096x128.size a := fun v1665 k0_hw63 => k0_hw63

def k0_dev63 (v4 : BitVec 32) : Nat :=
  let c0_i32_1676 : BitVec 32 := 0#32
  let c1_i32_1675 : BitVec 32 := 1#32
  let v1678 : BitVec 32 := Scalar.muli v4 c1_i32_1675
  let v1679 : BitVec 32 := Scalar.addi c0_i32_1676 v1678
  v1679.toNat
def k0_off125 (d0 : Dev nD) : Fin 2 → Nat :=
  let c16_1692 : Index := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1692 : Index := Scalar.indexCast v2
  ![16, v1692.toNat]
def k0_off126 (v1693 : BitVec 32) : Fin 2 → Nat :=
  let c128_i32_1693 : BitVec 32 := 128#32
  let v1694 : BitVec 32 := Scalar.muli v1693 c128_i32_1693
  let c64_i32_1694 : BitVec 32 := 64#32
  let v1695 : BitVec 32 := Scalar.addi v1694 c64_i32_1694
  let v1696 : Index := Scalar.indexCast v1695
  let c0_1695 : Index := 0#32
  ![v1696.toNat, 0]

def k0_chk64 (v1693 : BitVec 32) : Prop :=
  (∀ a, (k0_off126 v1693) a + S64x128.size a ≤ S4096x128.size a)
theorem k0_off126_inb : ∀ (v1693 : BitVec 32) (k0_hw64 : k0_chk64 v1693), ∀ a, (k0_off126 v1693) a + S64x128.size a ≤ S4096x128.size a := fun v1693 k0_hw64 => k0_hw64

def k0_dev64 (v4 : BitVec 32) : Nat :=
  let c0_i32_1705 : BitVec 32 := 0#32
  let c1_i32_1704 : BitVec 32 := 1#32
  let v1706 : BitVec 32 := Scalar.muli v4 c1_i32_1704
  let v1707 : BitVec 32 := Scalar.addi c0_i32_1705 v1706
  v1707.toNat
def k0_off127 (d0 : Dev nD) : Fin 2 → Nat :=
  let c16_1721 : Index := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1720 : Index := Scalar.indexCast v2
  ![16, v1720.toNat]
def k0_off128 (v1721 : BitVec 32) : Fin 2 → Nat :=
  let c128_i32_1722 : BitVec 32 := 128#32
  let v1722 : BitVec 32 := Scalar.muli v1721 c128_i32_1722
  let c0_i32_1723 : BitVec 32 := 0#32
  let v1723 : BitVec 32 := Scalar.addi v1722 c0_i32_1723
  let v1724 : Index := Scalar.indexCast v1723
  let c0_1724 : Index := 0#32
  ![v1724.toNat, 0]

def k0_chk65 (v1721 : BitVec 32) : Prop :=
  (∀ a, (k0_off128 v1721) a + S64x128.size a ≤ S4096x128.size a)
theorem k0_off128_inb : ∀ (v1721 : BitVec 32) (k0_hw65 : k0_chk65 v1721), ∀ a, (k0_off128 v1721) a + S64x128.size a ≤ S4096x128.size a := fun v1721 k0_hw65 => k0_hw65

def k0_dev65 (v6 : BitVec 32) : Nat :=
  let c0_i32_1734 : BitVec 32 := 0#32
  let c1_i32_1733 : BitVec 32 := 1#32
  let v1734 : BitVec 32 := Scalar.muli v6 c1_i32_1733
  let v1735 : BitVec 32 := Scalar.addi c0_i32_1734 v1734
  v1735.toNat
def k0_off129 (d0 : Dev nD) : Fin 2 → Nat :=
  let c16_1750 : Index := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1748 : Index := Scalar.indexCast v2
  ![16, v1748.toNat]
def k0_off130 (v1749 : BitVec 32) : Fin 2 → Nat :=
  let c128_i32_1751 : BitVec 32 := 128#32
  let v1750 : BitVec 32 := Scalar.muli v1749 c128_i32_1751
  let c64_i32_1752 : BitVec 32 := 64#32
  let v1751 : BitVec 32 := Scalar.addi v1750 c64_i32_1752
  let v1752 : Index := Scalar.indexCast v1751
  let c0_1753 : Index := 0#32
  ![v1752.toNat, 0]

def k0_chk66 (v1749 : BitVec 32) : Prop :=
  (∀ a, (k0_off130 v1749) a + S64x128.size a ≤ S4096x128.size a)
theorem k0_off130_inb : ∀ (v1749 : BitVec 32) (k0_hw66 : k0_chk66 v1749), ∀ a, (k0_off130 v1749) a + S64x128.size a ≤ S4096x128.size a := fun v1749 k0_hw66 => k0_hw66

def k0_dev66 (v6 : BitVec 32) : Nat :=
  let c0_i32_1763 : BitVec 32 := 0#32
  let c1_i32_1762 : BitVec 32 := 1#32
  let v1762 : BitVec 32 := Scalar.muli v6 c1_i32_1762
  let v1763 : BitVec 32 := Scalar.addi c0_i32_1763 v1762
  v1763.toNat
def k0_off131 (d0 : Dev nD) : Fin 2 → Nat :=
  let c15_1779 : Index := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1776 : Index := Scalar.indexCast v2
  ![15, v1776.toNat]
def k0_off132 (v1777 : BitVec 32) : Fin 2 → Nat :=
  let c128_i32_1780 : BitVec 32 := 128#32
  let v1778 : BitVec 32 := Scalar.muli v1777 c128_i32_1780
  let c0_i32_1781 : BitVec 32 := 0#32
  let v1779 : BitVec 32 := Scalar.addi v1778 c0_i32_1781
  let v1780 : Index := Scalar.indexCast v1779
  let c0_1782 : Index := 0#32
  ![v1780.toNat, 0]

def k0_chk67 (v1777 : BitVec 32) : Prop :=
  (∀ a, (k0_off132 v1777) a + S64x128.size a ≤ S4096x128.size a)
theorem k0_off132_inb : ∀ (v1777 : BitVec 32) (k0_hw67 : k0_chk67 v1777), ∀ a, (k0_off132 v1777) a + S64x128.size a ≤ S4096x128.size a := fun v1777 k0_hw67 => k0_hw67

def k0_dev67 (v4 : BitVec 32) : Nat :=
  let c0_i32_1791 : BitVec 32 := 0#32
  let c1_i32_1790 : BitVec 32 := 1#32
  let v1790 : BitVec 32 := Scalar.muli v4 c1_i32_1790
  let v1791 : BitVec 32 := Scalar.addi c0_i32_1791 v1790
  v1791.toNat
def k0_off133 (d0 : Dev nD) : Fin 2 → Nat :=
  let c15_1807 : Index := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1804 : Index := Scalar.indexCast v2
  ![15, v1804.toNat]
def k0_off134 (v1805 : BitVec 32) : Fin 2 → Nat :=
  let c128_i32_1808 : BitVec 32 := 128#32
  let v1806 : BitVec 32 := Scalar.muli v1805 c128_i32_1808
  let c64_i32_1809 : BitVec 32 := 64#32
  let v1807 : BitVec 32 := Scalar.addi v1806 c64_i32_1809
  let v1808 : Index := Scalar.indexCast v1807
  let c0_1810 : Index := 0#32
  ![v1808.toNat, 0]

def k0_chk68 (v1805 : BitVec 32) : Prop :=
  (∀ a, (k0_off134 v1805) a + S64x128.size a ≤ S4096x128.size a)
theorem k0_off134_inb : ∀ (v1805 : BitVec 32) (k0_hw68 : k0_chk68 v1805), ∀ a, (k0_off134 v1805) a + S64x128.size a ≤ S4096x128.size a := fun v1805 k0_hw68 => k0_hw68

def k0_dev68 (v4 : BitVec 32) : Nat :=
  let c0_i32_1820 : BitVec 32 := 0#32
  let c1_i32_1819 : BitVec 32 := 1#32
  let v1818 : BitVec 32 := Scalar.muli v4 c1_i32_1819
  let v1819 : BitVec 32 := Scalar.addi c0_i32_1820 v1818
  v1819.toNat
def k0_off135 (d0 : Dev nD) : Fin 2 → Nat :=
  let c17_1836 : Index := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1832 : Index := Scalar.indexCast v2
  ![17, v1832.toNat]
def k0_off136 (v1833 : BitVec 32) : Fin 2 → Nat :=
  let c128_i32_1837 : BitVec 32 := 128#32
  let v1834 : BitVec 32 := Scalar.muli v1833 c128_i32_1837
  let c0_i32_1838 : BitVec 32 := 0#32
  let v1835 : BitVec 32 := Scalar.addi v1834 c0_i32_1838
  let v1836 : Index := Scalar.indexCast v1835
  let c0_1839 : Index := 0#32
  ![v1836.toNat, 0]

def k0_chk69 (v1833 : BitVec 32) : Prop :=
  (∀ a, (k0_off136 v1833) a + S64x128.size a ≤ S4096x128.size a)
theorem k0_off136_inb : ∀ (v1833 : BitVec 32) (k0_hw69 : k0_chk69 v1833), ∀ a, (k0_off136 v1833) a + S64x128.size a ≤ S4096x128.size a := fun v1833 k0_hw69 => k0_hw69

def k0_dev69 (v6 : BitVec 32) : Nat :=
  let c0_i32_1849 : BitVec 32 := 0#32
  let c1_i32_1848 : BitVec 32 := 1#32
  let v1846 : BitVec 32 := Scalar.muli v6 c1_i32_1848
  let v1847 : BitVec 32 := Scalar.addi c0_i32_1849 v1846
  v1847.toNat
def k0_off137 (d0 : Dev nD) : Fin 2 → Nat :=
  let c17_1865 : Index := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1860 : Index := Scalar.indexCast v2
  ![17, v1860.toNat]
def k0_off138 (v1861 : BitVec 32) : Fin 2 → Nat :=
  let c128_i32_1866 : BitVec 32 := 128#32
  let v1862 : BitVec 32 := Scalar.muli v1861 c128_i32_1866
  let c64_i32_1867 : BitVec 32 := 64#32
  let v1863 : BitVec 32 := Scalar.addi v1862 c64_i32_1867
  let v1864 : Index := Scalar.indexCast v1863
  let c0_1868 : Index := 0#32
  ![v1864.toNat, 0]

def k0_chk70 (v1861 : BitVec 32) : Prop :=
  (∀ a, (k0_off138 v1861) a + S64x128.size a ≤ S4096x128.size a)
theorem k0_off138_inb : ∀ (v1861 : BitVec 32) (k0_hw70 : k0_chk70 v1861), ∀ a, (k0_off138 v1861) a + S64x128.size a ≤ S4096x128.size a := fun v1861 k0_hw70 => k0_hw70

def k0_dev70 (v6 : BitVec 32) : Nat :=
  let c0_i32_1878 : BitVec 32 := 0#32
  let c1_i32_1877 : BitVec 32 := 1#32
  let v1874 : BitVec 32 := Scalar.muli v6 c1_i32_1877
  let v1875 : BitVec 32 := Scalar.addi c0_i32_1878 v1874
  v1875.toNat
def k0_off139 (d0 : Dev nD) : Fin 2 → Nat :=
  let c14_1894 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1888 : Index := Scalar.indexCast v2
  ![14, v1888.toNat]
def k0_off140 (v1889 : BitVec 32) : Fin 2 → Nat :=
  let c128_i32_1895 : BitVec 32 := 128#32
  let v1890 : BitVec 32 := Scalar.muli v1889 c128_i32_1895
  let c0_i32_1896 : BitVec 32 := 0#32
  let v1891 : BitVec 32 := Scalar.addi v1890 c0_i32_1896
  let v1892 : Index := Scalar.indexCast v1891
  let c0_1897 : Index := 0#32
  ![v1892.toNat, 0]

def k0_chk71 (v1889 : BitVec 32) : Prop :=
  (∀ a, (k0_off140 v1889) a + S64x128.size a ≤ S4096x128.size a)
theorem k0_off140_inb : ∀ (v1889 : BitVec 32) (k0_hw71 : k0_chk71 v1889), ∀ a, (k0_off140 v1889) a + S64x128.size a ≤ S4096x128.size a := fun v1889 k0_hw71 => k0_hw71

def k0_dev71 (v4 : BitVec 32) : Nat :=
  let c0_i32_1906 : BitVec 32 := 0#32
  let c1_i32_1905 : BitVec 32 := 1#32
  let v1902 : BitVec 32 := Scalar.muli v4 c1_i32_1905
  let v1903 : BitVec 32 := Scalar.addi c0_i32_1906 v1902
  v1903.toNat
def k0_off141 (d0 : Dev nD) : Fin 2 → Nat :=
  let c14_1922 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1916 : Index := Scalar.indexCast v2
  ![14, v1916.toNat]
def k0_off142 (v1917 : BitVec 32) : Fin 2 → Nat :=
  let c128_i32_1923 : BitVec 32 := 128#32
  let v1918 : BitVec 32 := Scalar.muli v1917 c128_i32_1923
  let c64_i32_1924 : BitVec 32 := 64#32
  let v1919 : BitVec 32 := Scalar.addi v1918 c64_i32_1924
  let v1920 : Index := Scalar.indexCast v1919
  let c0_1925 : Index := 0#32
  ![v1920.toNat, 0]

def k0_chk72 (v1917 : BitVec 32) : Prop :=
  (∀ a, (k0_off142 v1917) a + S64x128.size a ≤ S4096x128.size a)
theorem k0_off142_inb : ∀ (v1917 : BitVec 32) (k0_hw72 : k0_chk72 v1917), ∀ a, (k0_off142 v1917) a + S64x128.size a ≤ S4096x128.size a := fun v1917 k0_hw72 => k0_hw72

def k0_dev72 (v4 : BitVec 32) : Nat :=
  let c0_i32_1935 : BitVec 32 := 0#32
  let c1_i32_1934 : BitVec 32 := 1#32
  let v1930 : BitVec 32 := Scalar.muli v4 c1_i32_1934
  let v1931 : BitVec 32 := Scalar.addi c0_i32_1935 v1930
  v1931.toNat
def k0_off143 (d0 : Dev nD) : Fin 2 → Nat :=
  let c18_1951 : Index := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1944 : Index := Scalar.indexCast v2
  ![18, v1944.toNat]
def k0_off144 (v1945 : BitVec 32) : Fin 2 → Nat :=
  let c128_i32_1952 : BitVec 32 := 128#32
  let v1946 : BitVec 32 := Scalar.muli v1945 c128_i32_1952
  let c0_i32_1953 : BitVec 32 := 0#32
  let v1947 : BitVec 32 := Scalar.addi v1946 c0_i32_1953
  let v1948 : Index := Scalar.indexCast v1947
  let c0_1954 : Index := 0#32
  ![v1948.toNat, 0]

def k0_chk73 (v1945 : BitVec 32) : Prop :=
  (∀ a, (k0_off144 v1945) a + S64x128.size a ≤ S4096x128.size a)
theorem k0_off144_inb : ∀ (v1945 : BitVec 32) (k0_hw73 : k0_chk73 v1945), ∀ a, (k0_off144 v1945) a + S64x128.size a ≤ S4096x128.size a := fun v1945 k0_hw73 => k0_hw73

def k0_dev73 (v6 : BitVec 32) : Nat :=
  let c0_i32_1964 : BitVec 32 := 0#32
  let c1_i32_1963 : BitVec 32 := 1#32
  let v1958 : BitVec 32 := Scalar.muli v6 c1_i32_1963
  let v1959 : BitVec 32 := Scalar.addi c0_i32_1964 v1958
  v1959.toNat
def k0_off145 (d0 : Dev nD) : Fin 2 → Nat :=
  let c18_1980 : Index := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1972 : Index := Scalar.indexCast v2
  ![18, v1972.toNat]
def k0_off146 (v1973 : BitVec 32) : Fin 2 → Nat :=
  let c128_i32_1981 : BitVec 32 := 128#32
  let v1974 : BitVec 32 := Scalar.muli v1973 c128_i32_1981
  let c64_i32_1982 : BitVec 32 := 64#32
  let v1975 : BitVec 32 := Scalar.addi v1974 c64_i32_1982
  let v1976 : Index := Scalar.indexCast v1975
  let c0_1983 : Index := 0#32
  ![v1976.toNat, 0]

def k0_chk74 (v1973 : BitVec 32) : Prop :=
  (∀ a, (k0_off146 v1973) a + S64x128.size a ≤ S4096x128.size a)
theorem k0_off146_inb : ∀ (v1973 : BitVec 32) (k0_hw74 : k0_chk74 v1973), ∀ a, (k0_off146 v1973) a + S64x128.size a ≤ S4096x128.size a := fun v1973 k0_hw74 => k0_hw74

def k0_dev74 (v6 : BitVec 32) : Nat :=
  let c0_i32_1993 : BitVec 32 := 0#32
  let c1_i32_1992 : BitVec 32 := 1#32
  let v1986 : BitVec 32 := Scalar.muli v6 c1_i32_1992
  let v1987 : BitVec 32 := Scalar.addi c0_i32_1993 v1986
  v1987.toNat
def k0_off147 (d0 : Dev nD) : Fin 2 → Nat :=
  let c13_2009 : Index := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2000 : Index := Scalar.indexCast v2
  ![13, v2000.toNat]
def k0_off148 (v2001 : BitVec 32) : Fin 2 → Nat :=
  let c128_i32_2010 : BitVec 32 := 128#32
  let v2002 : BitVec 32 := Scalar.muli v2001 c128_i32_2010
  let c0_i32_2011 : BitVec 32 := 0#32
  let v2003 : BitVec 32 := Scalar.addi v2002 c0_i32_2011
  let v2004 : Index := Scalar.indexCast v2003
  let c0_2012 : Index := 0#32
  ![v2004.toNat, 0]

def k0_chk75 (v2001 : BitVec 32) : Prop :=
  (∀ a, (k0_off148 v2001) a + S64x128.size a ≤ S4096x128.size a)
theorem k0_off148_inb : ∀ (v2001 : BitVec 32) (k0_hw75 : k0_chk75 v2001), ∀ a, (k0_off148 v2001) a + S64x128.size a ≤ S4096x128.size a := fun v2001 k0_hw75 => k0_hw75

def k0_dev75 (v4 : BitVec 32) : Nat :=
  let c0_i32_2021 : BitVec 32 := 0#32
  let c1_i32_2020 : BitVec 32 := 1#32
  let v2014 : BitVec 32 := Scalar.muli v4 c1_i32_2020
  let v2015 : BitVec 32 := Scalar.addi c0_i32_2021 v2014
  v2015.toNat
def k0_off149 (d0 : Dev nD) : Fin 2 → Nat :=
  let c13_2037 : Index := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2028 : Index := Scalar.indexCast v2
  ![13, v2028.toNat]
def k0_off150 (v2029 : BitVec 32) : Fin 2 → Nat :=
  let c128_i32_2038 : BitVec 32 := 128#32
  let v2030 : BitVec 32 := Scalar.muli v2029 c128_i32_2038
  let c64_i32_2039 : BitVec 32 := 64#32
  let v2031 : BitVec 32 := Scalar.addi v2030 c64_i32_2039
  let v2032 : Index := Scalar.indexCast v2031
  let c0_2040 : Index := 0#32
  ![v2032.toNat, 0]

def k0_chk76 (v2029 : BitVec 32) : Prop :=
  (∀ a, (k0_off150 v2029) a + S64x128.size a ≤ S4096x128.size a)
theorem k0_off150_inb : ∀ (v2029 : BitVec 32) (k0_hw76 : k0_chk76 v2029), ∀ a, (k0_off150 v2029) a + S64x128.size a ≤ S4096x128.size a := fun v2029 k0_hw76 => k0_hw76

def k0_dev76 (v4 : BitVec 32) : Nat :=
  let c0_i32_2050 : BitVec 32 := 0#32
  let c1_i32_2049 : BitVec 32 := 1#32
  let v2042 : BitVec 32 := Scalar.muli v4 c1_i32_2049
  let v2043 : BitVec 32 := Scalar.addi c0_i32_2050 v2042
  v2043.toNat
def k0_off151 (d0 : Dev nD) : Fin 2 → Nat :=
  let c19_2066 : Index := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2056 : Index := Scalar.indexCast v2
  ![19, v2056.toNat]
def k0_off152 (v2057 : BitVec 32) : Fin 2 → Nat :=
  let c128_i32_2067 : BitVec 32 := 128#32
  let v2058 : BitVec 32 := Scalar.muli v2057 c128_i32_2067
  let c0_i32_2068 : BitVec 32 := 0#32
  let v2059 : BitVec 32 := Scalar.addi v2058 c0_i32_2068
  let v2060 : Index := Scalar.indexCast v2059
  let c0_2069 : Index := 0#32
  ![v2060.toNat, 0]

def k0_chk77 (v2057 : BitVec 32) : Prop :=
  (∀ a, (k0_off152 v2057) a + S64x128.size a ≤ S4096x128.size a)
theorem k0_off152_inb : ∀ (v2057 : BitVec 32) (k0_hw77 : k0_chk77 v2057), ∀ a, (k0_off152 v2057) a + S64x128.size a ≤ S4096x128.size a := fun v2057 k0_hw77 => k0_hw77

def k0_dev77 (v6 : BitVec 32) : Nat :=
  let c0_i32_2079 : BitVec 32 := 0#32
  let c1_i32_2078 : BitVec 32 := 1#32
  let v2070 : BitVec 32 := Scalar.muli v6 c1_i32_2078
  let v2071 : BitVec 32 := Scalar.addi c0_i32_2079 v2070
  v2071.toNat
def k0_off153 (d0 : Dev nD) : Fin 2 → Nat :=
  let c19_2095 : Index := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2084 : Index := Scalar.indexCast v2
  ![19, v2084.toNat]
def k0_off154 (v2085 : BitVec 32) : Fin 2 → Nat :=
  let c128_i32_2096 : BitVec 32 := 128#32
  let v2086 : BitVec 32 := Scalar.muli v2085 c128_i32_2096
  let c64_i32_2097 : BitVec 32 := 64#32
  let v2087 : BitVec 32 := Scalar.addi v2086 c64_i32_2097
  let v2088 : Index := Scalar.indexCast v2087
  let c0_2098 : Index := 0#32
  ![v2088.toNat, 0]

def k0_chk78 (v2085 : BitVec 32) : Prop :=
  (∀ a, (k0_off154 v2085) a + S64x128.size a ≤ S4096x128.size a)
theorem k0_off154_inb : ∀ (v2085 : BitVec 32) (k0_hw78 : k0_chk78 v2085), ∀ a, (k0_off154 v2085) a + S64x128.size a ≤ S4096x128.size a := fun v2085 k0_hw78 => k0_hw78

def k0_dev78 (v6 : BitVec 32) : Nat :=
  let c0_i32_2108 : BitVec 32 := 0#32
  let c1_i32_2107 : BitVec 32 := 1#32
  let v2098 : BitVec 32 := Scalar.muli v6 c1_i32_2107
  let v2099 : BitVec 32 := Scalar.addi c0_i32_2108 v2098
  v2099.toNat
def k0_off155 (d0 : Dev nD) : Fin 2 → Nat :=
  let c12_2124 : Index := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2112 : Index := Scalar.indexCast v2
  ![12, v2112.toNat]
def k0_off156 (v2113 : BitVec 32) : Fin 2 → Nat :=
  let c128_i32_2125 : BitVec 32 := 128#32
  let v2114 : BitVec 32 := Scalar.muli v2113 c128_i32_2125
  let c0_i32_2126 : BitVec 32 := 0#32
  let v2115 : BitVec 32 := Scalar.addi v2114 c0_i32_2126
  let v2116 : Index := Scalar.indexCast v2115
  let c0_2127 : Index := 0#32
  ![v2116.toNat, 0]

def k0_chk79 (v2113 : BitVec 32) : Prop :=
  (∀ a, (k0_off156 v2113) a + S64x128.size a ≤ S4096x128.size a)
theorem k0_off156_inb : ∀ (v2113 : BitVec 32) (k0_hw79 : k0_chk79 v2113), ∀ a, (k0_off156 v2113) a + S64x128.size a ≤ S4096x128.size a := fun v2113 k0_hw79 => k0_hw79

def k0_dev79 (v4 : BitVec 32) : Nat :=
  let c0_i32_2136 : BitVec 32 := 0#32
  let c1_i32_2135 : BitVec 32 := 1#32
  let v2126 : BitVec 32 := Scalar.muli v4 c1_i32_2135
  let v2127 : BitVec 32 := Scalar.addi c0_i32_2136 v2126
  v2127.toNat
def k0_off157 (d0 : Dev nD) : Fin 2 → Nat :=
  let c12_2152 : Index := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2140 : Index := Scalar.indexCast v2
  ![12, v2140.toNat]
def k0_off158 (v2141 : BitVec 32) : Fin 2 → Nat :=
  let c128_i32_2153 : BitVec 32 := 128#32
  let v2142 : BitVec 32 := Scalar.muli v2141 c128_i32_2153
  let c64_i32_2154 : BitVec 32 := 64#32
  let v2143 : BitVec 32 := Scalar.addi v2142 c64_i32_2154
  let v2144 : Index := Scalar.indexCast v2143
  let c0_2155 : Index := 0#32
  ![v2144.toNat, 0]

def k0_chk80 (v2141 : BitVec 32) : Prop :=
  (∀ a, (k0_off158 v2141) a + S64x128.size a ≤ S4096x128.size a)
theorem k0_off158_inb : ∀ (v2141 : BitVec 32) (k0_hw80 : k0_chk80 v2141), ∀ a, (k0_off158 v2141) a + S64x128.size a ≤ S4096x128.size a := fun v2141 k0_hw80 => k0_hw80

def k0_dev80 (v4 : BitVec 32) : Nat :=
  let c0_i32_2165 : BitVec 32 := 0#32
  let c1_i32_2164 : BitVec 32 := 1#32
  let v2154 : BitVec 32 := Scalar.muli v4 c1_i32_2164
  let v2155 : BitVec 32 := Scalar.addi c0_i32_2165 v2154
  v2155.toNat
def k0_off159 (d0 : Dev nD) : Fin 2 → Nat :=
  let c20_2181 : Index := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2168 : Index := Scalar.indexCast v2
  ![20, v2168.toNat]
def k0_off160 (v2169 : BitVec 32) : Fin 2 → Nat :=
  let c128_i32_2182 : BitVec 32 := 128#32
  let v2170 : BitVec 32 := Scalar.muli v2169 c128_i32_2182
  let c0_i32_2183 : BitVec 32 := 0#32
  let v2171 : BitVec 32 := Scalar.addi v2170 c0_i32_2183
  let v2172 : Index := Scalar.indexCast v2171
  let c0_2184 : Index := 0#32
  ![v2172.toNat, 0]

def k0_chk81 (v2169 : BitVec 32) : Prop :=
  (∀ a, (k0_off160 v2169) a + S64x128.size a ≤ S4096x128.size a)
theorem k0_off160_inb : ∀ (v2169 : BitVec 32) (k0_hw81 : k0_chk81 v2169), ∀ a, (k0_off160 v2169) a + S64x128.size a ≤ S4096x128.size a := fun v2169 k0_hw81 => k0_hw81

def k0_dev81 (v6 : BitVec 32) : Nat :=
  let c0_i32_2194 : BitVec 32 := 0#32
  let c1_i32_2193 : BitVec 32 := 1#32
  let v2182 : BitVec 32 := Scalar.muli v6 c1_i32_2193
  let v2183 : BitVec 32 := Scalar.addi c0_i32_2194 v2182
  v2183.toNat
def k0_off161 (d0 : Dev nD) : Fin 2 → Nat :=
  let c20_2210 : Index := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2196 : Index := Scalar.indexCast v2
  ![20, v2196.toNat]
def k0_off162 (v2197 : BitVec 32) : Fin 2 → Nat :=
  let c128_i32_2211 : BitVec 32 := 128#32
  let v2198 : BitVec 32 := Scalar.muli v2197 c128_i32_2211
  let c64_i32_2212 : BitVec 32 := 64#32
  let v2199 : BitVec 32 := Scalar.addi v2198 c64_i32_2212
  let v2200 : Index := Scalar.indexCast v2199
  let c0_2213 : Index := 0#32
  ![v2200.toNat, 0]

def k0_chk82 (v2197 : BitVec 32) : Prop :=
  (∀ a, (k0_off162 v2197) a + S64x128.size a ≤ S4096x128.size a)
theorem k0_off162_inb : ∀ (v2197 : BitVec 32) (k0_hw82 : k0_chk82 v2197), ∀ a, (k0_off162 v2197) a + S64x128.size a ≤ S4096x128.size a := fun v2197 k0_hw82 => k0_hw82

def k0_dev82 (v6 : BitVec 32) : Nat :=
  let c0_i32_2223 : BitVec 32 := 0#32
  let c1_i32_2222 : BitVec 32 := 1#32
  let v2210 : BitVec 32 := Scalar.muli v6 c1_i32_2222
  let v2211 : BitVec 32 := Scalar.addi c0_i32_2223 v2210
  v2211.toNat
def k0_off163 (d0 : Dev nD) : Fin 2 → Nat :=
  let c11_2239 : Index := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2224 : Index := Scalar.indexCast v2
  ![11, v2224.toNat]
def k0_off164 (v2225 : BitVec 32) : Fin 2 → Nat :=
  let c128_i32_2240 : BitVec 32 := 128#32
  let v2226 : BitVec 32 := Scalar.muli v2225 c128_i32_2240
  let c0_i32_2241 : BitVec 32 := 0#32
  let v2227 : BitVec 32 := Scalar.addi v2226 c0_i32_2241
  let v2228 : Index := Scalar.indexCast v2227
  let c0_2242 : Index := 0#32
  ![v2228.toNat, 0]

def k0_chk83 (v2225 : BitVec 32) : Prop :=
  (∀ a, (k0_off164 v2225) a + S64x128.size a ≤ S4096x128.size a)
theorem k0_off164_inb : ∀ (v2225 : BitVec 32) (k0_hw83 : k0_chk83 v2225), ∀ a, (k0_off164 v2225) a + S64x128.size a ≤ S4096x128.size a := fun v2225 k0_hw83 => k0_hw83

def k0_dev83 (v4 : BitVec 32) : Nat :=
  let c0_i32_2251 : BitVec 32 := 0#32
  let c1_i32_2250 : BitVec 32 := 1#32
  let v2238 : BitVec 32 := Scalar.muli v4 c1_i32_2250
  let v2239 : BitVec 32 := Scalar.addi c0_i32_2251 v2238
  v2239.toNat
def k0_off165 (d0 : Dev nD) : Fin 2 → Nat :=
  let c11_2267 : Index := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2252 : Index := Scalar.indexCast v2
  ![11, v2252.toNat]
def k0_off166 (v2253 : BitVec 32) : Fin 2 → Nat :=
  let c128_i32_2268 : BitVec 32 := 128#32
  let v2254 : BitVec 32 := Scalar.muli v2253 c128_i32_2268
  let c64_i32_2269 : BitVec 32 := 64#32
  let v2255 : BitVec 32 := Scalar.addi v2254 c64_i32_2269
  let v2256 : Index := Scalar.indexCast v2255
  let c0_2270 : Index := 0#32
  ![v2256.toNat, 0]

def k0_chk84 (v2253 : BitVec 32) : Prop :=
  (∀ a, (k0_off166 v2253) a + S64x128.size a ≤ S4096x128.size a)
theorem k0_off166_inb : ∀ (v2253 : BitVec 32) (k0_hw84 : k0_chk84 v2253), ∀ a, (k0_off166 v2253) a + S64x128.size a ≤ S4096x128.size a := fun v2253 k0_hw84 => k0_hw84

def k0_dev84 (v4 : BitVec 32) : Nat :=
  let c0_i32_2280 : BitVec 32 := 0#32
  let c1_i32_2279 : BitVec 32 := 1#32
  let v2266 : BitVec 32 := Scalar.muli v4 c1_i32_2279
  let v2267 : BitVec 32 := Scalar.addi c0_i32_2280 v2266
  v2267.toNat
def k0_off167 (d0 : Dev nD) : Fin 2 → Nat :=
  let c21_2296 : Index := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2280 : Index := Scalar.indexCast v2
  ![21, v2280.toNat]
def k0_off168 (v2281 : BitVec 32) : Fin 2 → Nat :=
  let c128_i32_2297 : BitVec 32 := 128#32
  let v2282 : BitVec 32 := Scalar.muli v2281 c128_i32_2297
  let c0_i32_2298 : BitVec 32 := 0#32
  let v2283 : BitVec 32 := Scalar.addi v2282 c0_i32_2298
  let v2284 : Index := Scalar.indexCast v2283
  let c0_2299 : Index := 0#32
  ![v2284.toNat, 0]

def k0_chk85 (v2281 : BitVec 32) : Prop :=
  (∀ a, (k0_off168 v2281) a + S64x128.size a ≤ S4096x128.size a)
theorem k0_off168_inb : ∀ (v2281 : BitVec 32) (k0_hw85 : k0_chk85 v2281), ∀ a, (k0_off168 v2281) a + S64x128.size a ≤ S4096x128.size a := fun v2281 k0_hw85 => k0_hw85

def k0_dev85 (v6 : BitVec 32) : Nat :=
  let c0_i32_2309 : BitVec 32 := 0#32
  let c1_i32_2308 : BitVec 32 := 1#32
  let v2294 : BitVec 32 := Scalar.muli v6 c1_i32_2308
  let v2295 : BitVec 32 := Scalar.addi c0_i32_2309 v2294
  v2295.toNat
def k0_off169 (d0 : Dev nD) : Fin 2 → Nat :=
  let c21_2325 : Index := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2308 : Index := Scalar.indexCast v2
  ![21, v2308.toNat]
def k0_off170 (v2309 : BitVec 32) : Fin 2 → Nat :=
  let c128_i32_2326 : BitVec 32 := 128#32
  let v2310 : BitVec 32 := Scalar.muli v2309 c128_i32_2326
  let c64_i32_2327 : BitVec 32 := 64#32
  let v2311 : BitVec 32 := Scalar.addi v2310 c64_i32_2327
  let v2312 : Index := Scalar.indexCast v2311
  let c0_2328 : Index := 0#32
  ![v2312.toNat, 0]

def k0_chk86 (v2309 : BitVec 32) : Prop :=
  (∀ a, (k0_off170 v2309) a + S64x128.size a ≤ S4096x128.size a)
theorem k0_off170_inb : ∀ (v2309 : BitVec 32) (k0_hw86 : k0_chk86 v2309), ∀ a, (k0_off170 v2309) a + S64x128.size a ≤ S4096x128.size a := fun v2309 k0_hw86 => k0_hw86

def k0_dev86 (v6 : BitVec 32) : Nat :=
  let c0_i32_2338 : BitVec 32 := 0#32
  let c1_i32_2337 : BitVec 32 := 1#32
  let v2322 : BitVec 32 := Scalar.muli v6 c1_i32_2337
  let v2323 : BitVec 32 := Scalar.addi c0_i32_2338 v2322
  v2323.toNat
def k0_off171 (d0 : Dev nD) : Fin 2 → Nat :=
  let c10_2354 : Index := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2336 : Index := Scalar.indexCast v2
  ![10, v2336.toNat]
def k0_off172 (v2337 : BitVec 32) : Fin 2 → Nat :=
  let c128_i32_2355 : BitVec 32 := 128#32
  let v2338 : BitVec 32 := Scalar.muli v2337 c128_i32_2355
  let c0_i32_2356 : BitVec 32 := 0#32
  let v2339 : BitVec 32 := Scalar.addi v2338 c0_i32_2356
  let v2340 : Index := Scalar.indexCast v2339
  let c0_2357 : Index := 0#32
  ![v2340.toNat, 0]

def k0_chk87 (v2337 : BitVec 32) : Prop :=
  (∀ a, (k0_off172 v2337) a + S64x128.size a ≤ S4096x128.size a)
theorem k0_off172_inb : ∀ (v2337 : BitVec 32) (k0_hw87 : k0_chk87 v2337), ∀ a, (k0_off172 v2337) a + S64x128.size a ≤ S4096x128.size a := fun v2337 k0_hw87 => k0_hw87

def k0_dev87 (v4 : BitVec 32) : Nat :=
  let c0_i32_2366 : BitVec 32 := 0#32
  let c1_i32_2365 : BitVec 32 := 1#32
  let v2350 : BitVec 32 := Scalar.muli v4 c1_i32_2365
  let v2351 : BitVec 32 := Scalar.addi c0_i32_2366 v2350
  v2351.toNat
def k0_off173 (d0 : Dev nD) : Fin 2 → Nat :=
  let c10_2382 : Index := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2364 : Index := Scalar.indexCast v2
  ![10, v2364.toNat]
def k0_off174 (v2365 : BitVec 32) : Fin 2 → Nat :=
  let c128_i32_2383 : BitVec 32 := 128#32
  let v2366 : BitVec 32 := Scalar.muli v2365 c128_i32_2383
  let c64_i32_2384 : BitVec 32 := 64#32
  let v2367 : BitVec 32 := Scalar.addi v2366 c64_i32_2384
  let v2368 : Index := Scalar.indexCast v2367
  let c0_2385 : Index := 0#32
  ![v2368.toNat, 0]

def k0_chk88 (v2365 : BitVec 32) : Prop :=
  (∀ a, (k0_off174 v2365) a + S64x128.size a ≤ S4096x128.size a)
theorem k0_off174_inb : ∀ (v2365 : BitVec 32) (k0_hw88 : k0_chk88 v2365), ∀ a, (k0_off174 v2365) a + S64x128.size a ≤ S4096x128.size a := fun v2365 k0_hw88 => k0_hw88

def k0_dev88 (v4 : BitVec 32) : Nat :=
  let c0_i32_2395 : BitVec 32 := 0#32
  let c1_i32_2394 : BitVec 32 := 1#32
  let v2378 : BitVec 32 := Scalar.muli v4 c1_i32_2394
  let v2379 : BitVec 32 := Scalar.addi c0_i32_2395 v2378
  v2379.toNat
def k0_off175 (d0 : Dev nD) : Fin 2 → Nat :=
  let c22_2411 : Index := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2392 : Index := Scalar.indexCast v2
  ![22, v2392.toNat]
def k0_off176 (v2393 : BitVec 32) : Fin 2 → Nat :=
  let c128_i32_2412 : BitVec 32 := 128#32
  let v2394 : BitVec 32 := Scalar.muli v2393 c128_i32_2412
  let c0_i32_2413 : BitVec 32 := 0#32
  let v2395 : BitVec 32 := Scalar.addi v2394 c0_i32_2413
  let v2396 : Index := Scalar.indexCast v2395
  let c0_2414 : Index := 0#32
  ![v2396.toNat, 0]

def k0_chk89 (v2393 : BitVec 32) : Prop :=
  (∀ a, (k0_off176 v2393) a + S64x128.size a ≤ S4096x128.size a)
theorem k0_off176_inb : ∀ (v2393 : BitVec 32) (k0_hw89 : k0_chk89 v2393), ∀ a, (k0_off176 v2393) a + S64x128.size a ≤ S4096x128.size a := fun v2393 k0_hw89 => k0_hw89

def k0_dev89 (v6 : BitVec 32) : Nat :=
  let c0_i32_2424 : BitVec 32 := 0#32
  let c1_i32_2423 : BitVec 32 := 1#32
  let v2406 : BitVec 32 := Scalar.muli v6 c1_i32_2423
  let v2407 : BitVec 32 := Scalar.addi c0_i32_2424 v2406
  v2407.toNat
def k0_off177 (d0 : Dev nD) : Fin 2 → Nat :=
  let c22_2440 : Index := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2420 : Index := Scalar.indexCast v2
  ![22, v2420.toNat]
def k0_off178 (v2421 : BitVec 32) : Fin 2 → Nat :=
  let c128_i32_2441 : BitVec 32 := 128#32
  let v2422 : BitVec 32 := Scalar.muli v2421 c128_i32_2441
  let c64_i32_2442 : BitVec 32 := 64#32
  let v2423 : BitVec 32 := Scalar.addi v2422 c64_i32_2442
  let v2424 : Index := Scalar.indexCast v2423
  let c0_2443 : Index := 0#32
  ![v2424.toNat, 0]

def k0_chk90 (v2421 : BitVec 32) : Prop :=
  (∀ a, (k0_off178 v2421) a + S64x128.size a ≤ S4096x128.size a)
theorem k0_off178_inb : ∀ (v2421 : BitVec 32) (k0_hw90 : k0_chk90 v2421), ∀ a, (k0_off178 v2421) a + S64x128.size a ≤ S4096x128.size a := fun v2421 k0_hw90 => k0_hw90

def k0_dev90 (v6 : BitVec 32) : Nat :=
  let c0_i32_2453 : BitVec 32 := 0#32
  let c1_i32_2452 : BitVec 32 := 1#32
  let v2434 : BitVec 32 := Scalar.muli v6 c1_i32_2452
  let v2435 : BitVec 32 := Scalar.addi c0_i32_2453 v2434
  v2435.toNat
def k0_off179 (d0 : Dev nD) : Fin 2 → Nat :=
  let c9_2469 : Index := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2448 : Index := Scalar.indexCast v2
  ![9, v2448.toNat]
def k0_off180 (v2449 : BitVec 32) : Fin 2 → Nat :=
  let c128_i32_2470 : BitVec 32 := 128#32
  let v2450 : BitVec 32 := Scalar.muli v2449 c128_i32_2470
  let c0_i32_2471 : BitVec 32 := 0#32
  let v2451 : BitVec 32 := Scalar.addi v2450 c0_i32_2471
  let v2452 : Index := Scalar.indexCast v2451
  let c0_2472 : Index := 0#32
  ![v2452.toNat, 0]

def k0_chk91 (v2449 : BitVec 32) : Prop :=
  (∀ a, (k0_off180 v2449) a + S64x128.size a ≤ S4096x128.size a)
theorem k0_off180_inb : ∀ (v2449 : BitVec 32) (k0_hw91 : k0_chk91 v2449), ∀ a, (k0_off180 v2449) a + S64x128.size a ≤ S4096x128.size a := fun v2449 k0_hw91 => k0_hw91

def k0_dev91 (v4 : BitVec 32) : Nat :=
  let c0_i32_2481 : BitVec 32 := 0#32
  let c1_i32_2480 : BitVec 32 := 1#32
  let v2462 : BitVec 32 := Scalar.muli v4 c1_i32_2480
  let v2463 : BitVec 32 := Scalar.addi c0_i32_2481 v2462
  v2463.toNat
def k0_off181 (d0 : Dev nD) : Fin 2 → Nat :=
  let c9_2497 : Index := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2476 : Index := Scalar.indexCast v2
  ![9, v2476.toNat]
def k0_off182 (v2477 : BitVec 32) : Fin 2 → Nat :=
  let c128_i32_2498 : BitVec 32 := 128#32
  let v2478 : BitVec 32 := Scalar.muli v2477 c128_i32_2498
  let c64_i32_2499 : BitVec 32 := 64#32
  let v2479 : BitVec 32 := Scalar.addi v2478 c64_i32_2499
  let v2480 : Index := Scalar.indexCast v2479
  let c0_2500 : Index := 0#32
  ![v2480.toNat, 0]

def k0_chk92 (v2477 : BitVec 32) : Prop :=
  (∀ a, (k0_off182 v2477) a + S64x128.size a ≤ S4096x128.size a)
theorem k0_off182_inb : ∀ (v2477 : BitVec 32) (k0_hw92 : k0_chk92 v2477), ∀ a, (k0_off182 v2477) a + S64x128.size a ≤ S4096x128.size a := fun v2477 k0_hw92 => k0_hw92

def k0_dev92 (v4 : BitVec 32) : Nat :=
  let c0_i32_2510 : BitVec 32 := 0#32
  let c1_i32_2509 : BitVec 32 := 1#32
  let v2490 : BitVec 32 := Scalar.muli v4 c1_i32_2509
  let v2491 : BitVec 32 := Scalar.addi c0_i32_2510 v2490
  v2491.toNat
def k0_off183 (d0 : Dev nD) : Fin 2 → Nat :=
  let c23_2526 : Index := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2504 : Index := Scalar.indexCast v2
  ![23, v2504.toNat]
def k0_off184 (v2505 : BitVec 32) : Fin 2 → Nat :=
  let c128_i32_2527 : BitVec 32 := 128#32
  let v2506 : BitVec 32 := Scalar.muli v2505 c128_i32_2527
  let c0_i32_2528 : BitVec 32 := 0#32
  let v2507 : BitVec 32 := Scalar.addi v2506 c0_i32_2528
  let v2508 : Index := Scalar.indexCast v2507
  let c0_2529 : Index := 0#32
  ![v2508.toNat, 0]

def k0_chk93 (v2505 : BitVec 32) : Prop :=
  (∀ a, (k0_off184 v2505) a + S64x128.size a ≤ S4096x128.size a)
theorem k0_off184_inb : ∀ (v2505 : BitVec 32) (k0_hw93 : k0_chk93 v2505), ∀ a, (k0_off184 v2505) a + S64x128.size a ≤ S4096x128.size a := fun v2505 k0_hw93 => k0_hw93

def k0_dev93 (v6 : BitVec 32) : Nat :=
  let c0_i32_2539 : BitVec 32 := 0#32
  let c1_i32_2538 : BitVec 32 := 1#32
  let v2518 : BitVec 32 := Scalar.muli v6 c1_i32_2538
  let v2519 : BitVec 32 := Scalar.addi c0_i32_2539 v2518
  v2519.toNat
def k0_off185 (d0 : Dev nD) : Fin 2 → Nat :=
  let c23_2555 : Index := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2532 : Index := Scalar.indexCast v2
  ![23, v2532.toNat]
def k0_off186 (v2533 : BitVec 32) : Fin 2 → Nat :=
  let c128_i32_2556 : BitVec 32 := 128#32
  let v2534 : BitVec 32 := Scalar.muli v2533 c128_i32_2556
  let c64_i32_2557 : BitVec 32 := 64#32
  let v2535 : BitVec 32 := Scalar.addi v2534 c64_i32_2557
  let v2536 : Index := Scalar.indexCast v2535
  let c0_2558 : Index := 0#32
  ![v2536.toNat, 0]

def k0_chk94 (v2533 : BitVec 32) : Prop :=
  (∀ a, (k0_off186 v2533) a + S64x128.size a ≤ S4096x128.size a)
theorem k0_off186_inb : ∀ (v2533 : BitVec 32) (k0_hw94 : k0_chk94 v2533), ∀ a, (k0_off186 v2533) a + S64x128.size a ≤ S4096x128.size a := fun v2533 k0_hw94 => k0_hw94

def k0_dev94 (v6 : BitVec 32) : Nat :=
  let c0_i32_2568 : BitVec 32 := 0#32
  let c1_i32_2567 : BitVec 32 := 1#32
  let v2546 : BitVec 32 := Scalar.muli v6 c1_i32_2567
  let v2547 : BitVec 32 := Scalar.addi c0_i32_2568 v2546
  v2547.toNat
def k0_off187 (d0 : Dev nD) : Fin 2 → Nat :=
  let c8_2584 : Index := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2560 : Index := Scalar.indexCast v2
  ![8, v2560.toNat]
def k0_off188 (v2561 : BitVec 32) : Fin 2 → Nat :=
  let c128_i32_2585 : BitVec 32 := 128#32
  let v2562 : BitVec 32 := Scalar.muli v2561 c128_i32_2585
  let c0_i32_2586 : BitVec 32 := 0#32
  let v2563 : BitVec 32 := Scalar.addi v2562 c0_i32_2586
  let v2564 : Index := Scalar.indexCast v2563
  let c0_2587 : Index := 0#32
  ![v2564.toNat, 0]

def k0_chk95 (v2561 : BitVec 32) : Prop :=
  (∀ a, (k0_off188 v2561) a + S64x128.size a ≤ S4096x128.size a)
theorem k0_off188_inb : ∀ (v2561 : BitVec 32) (k0_hw95 : k0_chk95 v2561), ∀ a, (k0_off188 v2561) a + S64x128.size a ≤ S4096x128.size a := fun v2561 k0_hw95 => k0_hw95

def k0_dev95 (v4 : BitVec 32) : Nat :=
  let c0_i32_2596 : BitVec 32 := 0#32
  let c1_i32_2595 : BitVec 32 := 1#32
  let v2574 : BitVec 32 := Scalar.muli v4 c1_i32_2595
  let v2575 : BitVec 32 := Scalar.addi c0_i32_2596 v2574
  v2575.toNat
def k0_off189 (d0 : Dev nD) : Fin 2 → Nat :=
  let c8_2612 : Index := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2588 : Index := Scalar.indexCast v2
  ![8, v2588.toNat]
def k0_off190 (v2589 : BitVec 32) : Fin 2 → Nat :=
  let c128_i32_2613 : BitVec 32 := 128#32
  let v2590 : BitVec 32 := Scalar.muli v2589 c128_i32_2613
  let c64_i32_2614 : BitVec 32 := 64#32
  let v2591 : BitVec 32 := Scalar.addi v2590 c64_i32_2614
  let v2592 : Index := Scalar.indexCast v2591
  let c0_2615 : Index := 0#32
  ![v2592.toNat, 0]

def k0_chk96 (v2589 : BitVec 32) : Prop :=
  (∀ a, (k0_off190 v2589) a + S64x128.size a ≤ S4096x128.size a)
theorem k0_off190_inb : ∀ (v2589 : BitVec 32) (k0_hw96 : k0_chk96 v2589), ∀ a, (k0_off190 v2589) a + S64x128.size a ≤ S4096x128.size a := fun v2589 k0_hw96 => k0_hw96

def k0_dev96 (v4 : BitVec 32) : Nat :=
  let c0_i32_2625 : BitVec 32 := 0#32
  let c1_i32_2624 : BitVec 32 := 1#32
  let v2602 : BitVec 32 := Scalar.muli v4 c1_i32_2624
  let v2603 : BitVec 32 := Scalar.addi c0_i32_2625 v2602
  v2603.toNat
def k0_off191 (d0 : Dev nD) : Fin 2 → Nat :=
  let c24_2641 : Index := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2616 : Index := Scalar.indexCast v2
  ![24, v2616.toNat]
def k0_off192 (v2617 : BitVec 32) : Fin 2 → Nat :=
  let c128_i32_2642 : BitVec 32 := 128#32
  let v2618 : BitVec 32 := Scalar.muli v2617 c128_i32_2642
  let c0_i32_2643 : BitVec 32 := 0#32
  let v2619 : BitVec 32 := Scalar.addi v2618 c0_i32_2643
  let v2620 : Index := Scalar.indexCast v2619
  let c0_2644 : Index := 0#32
  ![v2620.toNat, 0]

def k0_chk97 (v2617 : BitVec 32) : Prop :=
  (∀ a, (k0_off192 v2617) a + S64x128.size a ≤ S4096x128.size a)
theorem k0_off192_inb : ∀ (v2617 : BitVec 32) (k0_hw97 : k0_chk97 v2617), ∀ a, (k0_off192 v2617) a + S64x128.size a ≤ S4096x128.size a := fun v2617 k0_hw97 => k0_hw97

def k0_dev97 (v6 : BitVec 32) : Nat :=
  let c0_i32_2654 : BitVec 32 := 0#32
  let c1_i32_2653 : BitVec 32 := 1#32
  let v2630 : BitVec 32 := Scalar.muli v6 c1_i32_2653
  let v2631 : BitVec 32 := Scalar.addi c0_i32_2654 v2630
  v2631.toNat
def k0_off193 (d0 : Dev nD) : Fin 2 → Nat :=
  let c24_2670 : Index := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2644 : Index := Scalar.indexCast v2
  ![24, v2644.toNat]
def k0_off194 (v2645 : BitVec 32) : Fin 2 → Nat :=
  let c128_i32_2671 : BitVec 32 := 128#32
  let v2646 : BitVec 32 := Scalar.muli v2645 c128_i32_2671
  let c64_i32_2672 : BitVec 32 := 64#32
  let v2647 : BitVec 32 := Scalar.addi v2646 c64_i32_2672
  let v2648 : Index := Scalar.indexCast v2647
  let c0_2673 : Index := 0#32
  ![v2648.toNat, 0]

def k0_chk98 (v2645 : BitVec 32) : Prop :=
  (∀ a, (k0_off194 v2645) a + S64x128.size a ≤ S4096x128.size a)
theorem k0_off194_inb : ∀ (v2645 : BitVec 32) (k0_hw98 : k0_chk98 v2645), ∀ a, (k0_off194 v2645) a + S64x128.size a ≤ S4096x128.size a := fun v2645 k0_hw98 => k0_hw98

def k0_dev98 (v6 : BitVec 32) : Nat :=
  let c0_i32_2683 : BitVec 32 := 0#32
  let c1_i32_2682 : BitVec 32 := 1#32
  let v2658 : BitVec 32 := Scalar.muli v6 c1_i32_2682
  let v2659 : BitVec 32 := Scalar.addi c0_i32_2683 v2658
  v2659.toNat
def k0_off195 (d0 : Dev nD) : Fin 2 → Nat :=
  let c7_2699 : Index := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2672 : Index := Scalar.indexCast v2
  ![7, v2672.toNat]
def k0_off196 (v2673 : BitVec 32) : Fin 2 → Nat :=
  let c128_i32_2700 : BitVec 32 := 128#32
  let v2674 : BitVec 32 := Scalar.muli v2673 c128_i32_2700
  let c0_i32_2701 : BitVec 32 := 0#32
  let v2675 : BitVec 32 := Scalar.addi v2674 c0_i32_2701
  let v2676 : Index := Scalar.indexCast v2675
  let c0_2702 : Index := 0#32
  ![v2676.toNat, 0]

def k0_chk99 (v2673 : BitVec 32) : Prop :=
  (∀ a, (k0_off196 v2673) a + S64x128.size a ≤ S4096x128.size a)
theorem k0_off196_inb : ∀ (v2673 : BitVec 32) (k0_hw99 : k0_chk99 v2673), ∀ a, (k0_off196 v2673) a + S64x128.size a ≤ S4096x128.size a := fun v2673 k0_hw99 => k0_hw99

def k0_dev99 (v4 : BitVec 32) : Nat :=
  let c0_i32_2711 : BitVec 32 := 0#32
  let c1_i32_2710 : BitVec 32 := 1#32
  let v2686 : BitVec 32 := Scalar.muli v4 c1_i32_2710
  let v2687 : BitVec 32 := Scalar.addi c0_i32_2711 v2686
  v2687.toNat
def k0_off197 (d0 : Dev nD) : Fin 2 → Nat :=
  let c7_2727 : Index := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2700 : Index := Scalar.indexCast v2
  ![7, v2700.toNat]
def k0_off198 (v2701 : BitVec 32) : Fin 2 → Nat :=
  let c128_i32_2728 : BitVec 32 := 128#32
  let v2702 : BitVec 32 := Scalar.muli v2701 c128_i32_2728
  let c64_i32_2729 : BitVec 32 := 64#32
  let v2703 : BitVec 32 := Scalar.addi v2702 c64_i32_2729
  let v2704 : Index := Scalar.indexCast v2703
  let c0_2730 : Index := 0#32
  ![v2704.toNat, 0]

def k0_chk100 (v2701 : BitVec 32) : Prop :=
  (∀ a, (k0_off198 v2701) a + S64x128.size a ≤ S4096x128.size a)
theorem k0_off198_inb : ∀ (v2701 : BitVec 32) (k0_hw100 : k0_chk100 v2701), ∀ a, (k0_off198 v2701) a + S64x128.size a ≤ S4096x128.size a := fun v2701 k0_hw100 => k0_hw100

def k0_dev100 (v4 : BitVec 32) : Nat :=
  let c0_i32_2740 : BitVec 32 := 0#32
  let c1_i32_2739 : BitVec 32 := 1#32
  let v2714 : BitVec 32 := Scalar.muli v4 c1_i32_2739
  let v2715 : BitVec 32 := Scalar.addi c0_i32_2740 v2714
  v2715.toNat
def k0_off199 (d0 : Dev nD) : Fin 2 → Nat :=
  let c25_2756 : Index := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2728 : Index := Scalar.indexCast v2
  ![25, v2728.toNat]
def k0_off200 (v2729 : BitVec 32) : Fin 2 → Nat :=
  let c128_i32_2757 : BitVec 32 := 128#32
  let v2730 : BitVec 32 := Scalar.muli v2729 c128_i32_2757
  let c0_i32_2758 : BitVec 32 := 0#32
  let v2731 : BitVec 32 := Scalar.addi v2730 c0_i32_2758
  let v2732 : Index := Scalar.indexCast v2731
  let c0_2759 : Index := 0#32
  ![v2732.toNat, 0]

def k0_chk101 (v2729 : BitVec 32) : Prop :=
  (∀ a, (k0_off200 v2729) a + S64x128.size a ≤ S4096x128.size a)
theorem k0_off200_inb : ∀ (v2729 : BitVec 32) (k0_hw101 : k0_chk101 v2729), ∀ a, (k0_off200 v2729) a + S64x128.size a ≤ S4096x128.size a := fun v2729 k0_hw101 => k0_hw101

def k0_dev101 (v6 : BitVec 32) : Nat :=
  let c0_i32_2769 : BitVec 32 := 0#32
  let c1_i32_2768 : BitVec 32 := 1#32
  let v2742 : BitVec 32 := Scalar.muli v6 c1_i32_2768
  let v2743 : BitVec 32 := Scalar.addi c0_i32_2769 v2742
  v2743.toNat
def k0_off201 (d0 : Dev nD) : Fin 2 → Nat :=
  let c25_2785 : Index := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2756 : Index := Scalar.indexCast v2
  ![25, v2756.toNat]
def k0_off202 (v2757 : BitVec 32) : Fin 2 → Nat :=
  let c128_i32_2786 : BitVec 32 := 128#32
  let v2758 : BitVec 32 := Scalar.muli v2757 c128_i32_2786
  let c64_i32_2787 : BitVec 32 := 64#32
  let v2759 : BitVec 32 := Scalar.addi v2758 c64_i32_2787
  let v2760 : Index := Scalar.indexCast v2759
  let c0_2788 : Index := 0#32
  ![v2760.toNat, 0]

def k0_chk102 (v2757 : BitVec 32) : Prop :=
  (∀ a, (k0_off202 v2757) a + S64x128.size a ≤ S4096x128.size a)
theorem k0_off202_inb : ∀ (v2757 : BitVec 32) (k0_hw102 : k0_chk102 v2757), ∀ a, (k0_off202 v2757) a + S64x128.size a ≤ S4096x128.size a := fun v2757 k0_hw102 => k0_hw102

def k0_dev102 (v6 : BitVec 32) : Nat :=
  let c0_i32_2798 : BitVec 32 := 0#32
  let c1_i32_2797 : BitVec 32 := 1#32
  let v2770 : BitVec 32 := Scalar.muli v6 c1_i32_2797
  let v2771 : BitVec 32 := Scalar.addi c0_i32_2798 v2770
  v2771.toNat
def k0_off203 (d0 : Dev nD) : Fin 2 → Nat :=
  let c6_2814 : Index := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2784 : Index := Scalar.indexCast v2
  ![6, v2784.toNat]
def k0_off204 (v2785 : BitVec 32) : Fin 2 → Nat :=
  let c128_i32_2815 : BitVec 32 := 128#32
  let v2786 : BitVec 32 := Scalar.muli v2785 c128_i32_2815
  let c0_i32_2816 : BitVec 32 := 0#32
  let v2787 : BitVec 32 := Scalar.addi v2786 c0_i32_2816
  let v2788 : Index := Scalar.indexCast v2787
  let c0_2817 : Index := 0#32
  ![v2788.toNat, 0]

def k0_chk103 (v2785 : BitVec 32) : Prop :=
  (∀ a, (k0_off204 v2785) a + S64x128.size a ≤ S4096x128.size a)
theorem k0_off204_inb : ∀ (v2785 : BitVec 32) (k0_hw103 : k0_chk103 v2785), ∀ a, (k0_off204 v2785) a + S64x128.size a ≤ S4096x128.size a := fun v2785 k0_hw103 => k0_hw103

def k0_dev103 (v4 : BitVec 32) : Nat :=
  let c0_i32_2826 : BitVec 32 := 0#32
  let c1_i32_2825 : BitVec 32 := 1#32
  let v2798 : BitVec 32 := Scalar.muli v4 c1_i32_2825
  let v2799 : BitVec 32 := Scalar.addi c0_i32_2826 v2798
  v2799.toNat
def k0_off205 (d0 : Dev nD) : Fin 2 → Nat :=
  let c6_2842 : Index := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2812 : Index := Scalar.indexCast v2
  ![6, v2812.toNat]
def k0_off206 (v2813 : BitVec 32) : Fin 2 → Nat :=
  let c128_i32_2843 : BitVec 32 := 128#32
  let v2814 : BitVec 32 := Scalar.muli v2813 c128_i32_2843
  let c64_i32_2844 : BitVec 32 := 64#32
  let v2815 : BitVec 32 := Scalar.addi v2814 c64_i32_2844
  let v2816 : Index := Scalar.indexCast v2815
  let c0_2845 : Index := 0#32
  ![v2816.toNat, 0]

def k0_chk104 (v2813 : BitVec 32) : Prop :=
  (∀ a, (k0_off206 v2813) a + S64x128.size a ≤ S4096x128.size a)
theorem k0_off206_inb : ∀ (v2813 : BitVec 32) (k0_hw104 : k0_chk104 v2813), ∀ a, (k0_off206 v2813) a + S64x128.size a ≤ S4096x128.size a := fun v2813 k0_hw104 => k0_hw104

def k0_dev104 (v4 : BitVec 32) : Nat :=
  let c0_i32_2855 : BitVec 32 := 0#32
  let c1_i32_2854 : BitVec 32 := 1#32
  let v2826 : BitVec 32 := Scalar.muli v4 c1_i32_2854
  let v2827 : BitVec 32 := Scalar.addi c0_i32_2855 v2826
  v2827.toNat
def k0_off207 (d0 : Dev nD) : Fin 2 → Nat :=
  let c26_2871 : Index := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2840 : Index := Scalar.indexCast v2
  ![26, v2840.toNat]
def k0_off208 (v2841 : BitVec 32) : Fin 2 → Nat :=
  let c128_i32_2872 : BitVec 32 := 128#32
  let v2842 : BitVec 32 := Scalar.muli v2841 c128_i32_2872
  let c0_i32_2873 : BitVec 32 := 0#32
  let v2843 : BitVec 32 := Scalar.addi v2842 c0_i32_2873
  let v2844 : Index := Scalar.indexCast v2843
  let c0_2874 : Index := 0#32
  ![v2844.toNat, 0]

def k0_chk105 (v2841 : BitVec 32) : Prop :=
  (∀ a, (k0_off208 v2841) a + S64x128.size a ≤ S4096x128.size a)
theorem k0_off208_inb : ∀ (v2841 : BitVec 32) (k0_hw105 : k0_chk105 v2841), ∀ a, (k0_off208 v2841) a + S64x128.size a ≤ S4096x128.size a := fun v2841 k0_hw105 => k0_hw105

def k0_dev105 (v6 : BitVec 32) : Nat :=
  let c0_i32_2884 : BitVec 32 := 0#32
  let c1_i32_2883 : BitVec 32 := 1#32
  let v2854 : BitVec 32 := Scalar.muli v6 c1_i32_2883
  let v2855 : BitVec 32 := Scalar.addi c0_i32_2884 v2854
  v2855.toNat
def k0_off209 (d0 : Dev nD) : Fin 2 → Nat :=
  let c26_2900 : Index := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2868 : Index := Scalar.indexCast v2
  ![26, v2868.toNat]
def k0_off210 (v2869 : BitVec 32) : Fin 2 → Nat :=
  let c128_i32_2901 : BitVec 32 := 128#32
  let v2870 : BitVec 32 := Scalar.muli v2869 c128_i32_2901
  let c64_i32_2902 : BitVec 32 := 64#32
  let v2871 : BitVec 32 := Scalar.addi v2870 c64_i32_2902
  let v2872 : Index := Scalar.indexCast v2871
  let c0_2903 : Index := 0#32
  ![v2872.toNat, 0]

def k0_chk106 (v2869 : BitVec 32) : Prop :=
  (∀ a, (k0_off210 v2869) a + S64x128.size a ≤ S4096x128.size a)
theorem k0_off210_inb : ∀ (v2869 : BitVec 32) (k0_hw106 : k0_chk106 v2869), ∀ a, (k0_off210 v2869) a + S64x128.size a ≤ S4096x128.size a := fun v2869 k0_hw106 => k0_hw106

def k0_dev106 (v6 : BitVec 32) : Nat :=
  let c0_i32_2913 : BitVec 32 := 0#32
  let c1_i32_2912 : BitVec 32 := 1#32
  let v2882 : BitVec 32 := Scalar.muli v6 c1_i32_2912
  let v2883 : BitVec 32 := Scalar.addi c0_i32_2913 v2882
  v2883.toNat
def k0_off211 (d0 : Dev nD) : Fin 2 → Nat :=
  let c5_2929 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2896 : Index := Scalar.indexCast v2
  ![5, v2896.toNat]
def k0_off212 (v2897 : BitVec 32) : Fin 2 → Nat :=
  let c128_i32_2930 : BitVec 32 := 128#32
  let v2898 : BitVec 32 := Scalar.muli v2897 c128_i32_2930
  let c0_i32_2931 : BitVec 32 := 0#32
  let v2899 : BitVec 32 := Scalar.addi v2898 c0_i32_2931
  let v2900 : Index := Scalar.indexCast v2899
  let c0_2932 : Index := 0#32
  ![v2900.toNat, 0]

def k0_chk107 (v2897 : BitVec 32) : Prop :=
  (∀ a, (k0_off212 v2897) a + S64x128.size a ≤ S4096x128.size a)
theorem k0_off212_inb : ∀ (v2897 : BitVec 32) (k0_hw107 : k0_chk107 v2897), ∀ a, (k0_off212 v2897) a + S64x128.size a ≤ S4096x128.size a := fun v2897 k0_hw107 => k0_hw107

def k0_dev107 (v4 : BitVec 32) : Nat :=
  let c0_i32_2941 : BitVec 32 := 0#32
  let c1_i32_2940 : BitVec 32 := 1#32
  let v2910 : BitVec 32 := Scalar.muli v4 c1_i32_2940
  let v2911 : BitVec 32 := Scalar.addi c0_i32_2941 v2910
  v2911.toNat
def k0_off213 (d0 : Dev nD) : Fin 2 → Nat :=
  let c5_2957 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2924 : Index := Scalar.indexCast v2
  ![5, v2924.toNat]
def k0_off214 (v2925 : BitVec 32) : Fin 2 → Nat :=
  let c128_i32_2958 : BitVec 32 := 128#32
  let v2926 : BitVec 32 := Scalar.muli v2925 c128_i32_2958
  let c64_i32_2959 : BitVec 32 := 64#32
  let v2927 : BitVec 32 := Scalar.addi v2926 c64_i32_2959
  let v2928 : Index := Scalar.indexCast v2927
  let c0_2960 : Index := 0#32
  ![v2928.toNat, 0]

def k0_chk108 (v2925 : BitVec 32) : Prop :=
  (∀ a, (k0_off214 v2925) a + S64x128.size a ≤ S4096x128.size a)
theorem k0_off214_inb : ∀ (v2925 : BitVec 32) (k0_hw108 : k0_chk108 v2925), ∀ a, (k0_off214 v2925) a + S64x128.size a ≤ S4096x128.size a := fun v2925 k0_hw108 => k0_hw108

def k0_dev108 (v4 : BitVec 32) : Nat :=
  let c0_i32_2970 : BitVec 32 := 0#32
  let c1_i32_2969 : BitVec 32 := 1#32
  let v2938 : BitVec 32 := Scalar.muli v4 c1_i32_2969
  let v2939 : BitVec 32 := Scalar.addi c0_i32_2970 v2938
  v2939.toNat
def k0_off215 (d0 : Dev nD) : Fin 2 → Nat :=
  let c27_2986 : Index := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2952 : Index := Scalar.indexCast v2
  ![27, v2952.toNat]
def k0_off216 (v2953 : BitVec 32) : Fin 2 → Nat :=
  let c128_i32_2987 : BitVec 32 := 128#32
  let v2954 : BitVec 32 := Scalar.muli v2953 c128_i32_2987
  let c0_i32_2988 : BitVec 32 := 0#32
  let v2955 : BitVec 32 := Scalar.addi v2954 c0_i32_2988
  let v2956 : Index := Scalar.indexCast v2955
  let c0_2989 : Index := 0#32
  ![v2956.toNat, 0]

def k0_chk109 (v2953 : BitVec 32) : Prop :=
  (∀ a, (k0_off216 v2953) a + S64x128.size a ≤ S4096x128.size a)
theorem k0_off216_inb : ∀ (v2953 : BitVec 32) (k0_hw109 : k0_chk109 v2953), ∀ a, (k0_off216 v2953) a + S64x128.size a ≤ S4096x128.size a := fun v2953 k0_hw109 => k0_hw109

def k0_dev109 (v6 : BitVec 32) : Nat :=
  let c0_i32_2999 : BitVec 32 := 0#32
  let c1_i32_2998 : BitVec 32 := 1#32
  let v2966 : BitVec 32 := Scalar.muli v6 c1_i32_2998
  let v2967 : BitVec 32 := Scalar.addi c0_i32_2999 v2966
  v2967.toNat
def k0_off217 (d0 : Dev nD) : Fin 2 → Nat :=
  let c27_3015 : Index := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2980 : Index := Scalar.indexCast v2
  ![27, v2980.toNat]
def k0_off218 (v2981 : BitVec 32) : Fin 2 → Nat :=
  let c128_i32_3016 : BitVec 32 := 128#32
  let v2982 : BitVec 32 := Scalar.muli v2981 c128_i32_3016
  let c64_i32_3017 : BitVec 32 := 64#32
  let v2983 : BitVec 32 := Scalar.addi v2982 c64_i32_3017
  let v2984 : Index := Scalar.indexCast v2983
  let c0_3018 : Index := 0#32
  ![v2984.toNat, 0]

def k0_chk110 (v2981 : BitVec 32) : Prop :=
  (∀ a, (k0_off218 v2981) a + S64x128.size a ≤ S4096x128.size a)
theorem k0_off218_inb : ∀ (v2981 : BitVec 32) (k0_hw110 : k0_chk110 v2981), ∀ a, (k0_off218 v2981) a + S64x128.size a ≤ S4096x128.size a := fun v2981 k0_hw110 => k0_hw110

def k0_dev110 (v6 : BitVec 32) : Nat :=
  let c0_i32_3028 : BitVec 32 := 0#32
  let c1_i32_3027 : BitVec 32 := 1#32
  let v2994 : BitVec 32 := Scalar.muli v6 c1_i32_3027
  let v2995 : BitVec 32 := Scalar.addi c0_i32_3028 v2994
  v2995.toNat
def k0_off219 (d0 : Dev nD) : Fin 2 → Nat :=
  let c4_3044 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3008 : Index := Scalar.indexCast v2
  ![4, v3008.toNat]
def k0_off220 (v3009 : BitVec 32) : Fin 2 → Nat :=
  let c128_i32_3045 : BitVec 32 := 128#32
  let v3010 : BitVec 32 := Scalar.muli v3009 c128_i32_3045
  let c0_i32_3046 : BitVec 32 := 0#32
  let v3011 : BitVec 32 := Scalar.addi v3010 c0_i32_3046
  let v3012 : Index := Scalar.indexCast v3011
  let c0_3047 : Index := 0#32
  ![v3012.toNat, 0]

def k0_chk111 (v3009 : BitVec 32) : Prop :=
  (∀ a, (k0_off220 v3009) a + S64x128.size a ≤ S4096x128.size a)
theorem k0_off220_inb : ∀ (v3009 : BitVec 32) (k0_hw111 : k0_chk111 v3009), ∀ a, (k0_off220 v3009) a + S64x128.size a ≤ S4096x128.size a := fun v3009 k0_hw111 => k0_hw111

def k0_dev111 (v4 : BitVec 32) : Nat :=
  let c0_i32_3056 : BitVec 32 := 0#32
  let c1_i32_3055 : BitVec 32 := 1#32
  let v3022 : BitVec 32 := Scalar.muli v4 c1_i32_3055
  let v3023 : BitVec 32 := Scalar.addi c0_i32_3056 v3022
  v3023.toNat
def k0_off221 (d0 : Dev nD) : Fin 2 → Nat :=
  let c4_3072 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3036 : Index := Scalar.indexCast v2
  ![4, v3036.toNat]
def k0_off222 (v3037 : BitVec 32) : Fin 2 → Nat :=
  let c128_i32_3073 : BitVec 32 := 128#32
  let v3038 : BitVec 32 := Scalar.muli v3037 c128_i32_3073
  let c64_i32_3074 : BitVec 32 := 64#32
  let v3039 : BitVec 32 := Scalar.addi v3038 c64_i32_3074
  let v3040 : Index := Scalar.indexCast v3039
  let c0_3075 : Index := 0#32
  ![v3040.toNat, 0]

def k0_chk112 (v3037 : BitVec 32) : Prop :=
  (∀ a, (k0_off222 v3037) a + S64x128.size a ≤ S4096x128.size a)
theorem k0_off222_inb : ∀ (v3037 : BitVec 32) (k0_hw112 : k0_chk112 v3037), ∀ a, (k0_off222 v3037) a + S64x128.size a ≤ S4096x128.size a := fun v3037 k0_hw112 => k0_hw112

def k0_dev112 (v4 : BitVec 32) : Nat :=
  let c0_i32_3085 : BitVec 32 := 0#32
  let c1_i32_3084 : BitVec 32 := 1#32
  let v3050 : BitVec 32 := Scalar.muli v4 c1_i32_3084
  let v3051 : BitVec 32 := Scalar.addi c0_i32_3085 v3050
  v3051.toNat
def k0_off223 (d0 : Dev nD) : Fin 2 → Nat :=
  let c28_3101 : Index := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3064 : Index := Scalar.indexCast v2
  ![28, v3064.toNat]
def k0_off224 (v3065 : BitVec 32) : Fin 2 → Nat :=
  let c128_i32_3102 : BitVec 32 := 128#32
  let v3066 : BitVec 32 := Scalar.muli v3065 c128_i32_3102
  let c0_i32_3103 : BitVec 32 := 0#32
  let v3067 : BitVec 32 := Scalar.addi v3066 c0_i32_3103
  let v3068 : Index := Scalar.indexCast v3067
  let c0_3104 : Index := 0#32
  ![v3068.toNat, 0]

def k0_chk113 (v3065 : BitVec 32) : Prop :=
  (∀ a, (k0_off224 v3065) a + S64x128.size a ≤ S4096x128.size a)
theorem k0_off224_inb : ∀ (v3065 : BitVec 32) (k0_hw113 : k0_chk113 v3065), ∀ a, (k0_off224 v3065) a + S64x128.size a ≤ S4096x128.size a := fun v3065 k0_hw113 => k0_hw113

def k0_dev113 (v6 : BitVec 32) : Nat :=
  let c0_i32_3114 : BitVec 32 := 0#32
  let c1_i32_3113 : BitVec 32 := 1#32
  let v3078 : BitVec 32 := Scalar.muli v6 c1_i32_3113
  let v3079 : BitVec 32 := Scalar.addi c0_i32_3114 v3078
  v3079.toNat
def k0_off225 (d0 : Dev nD) : Fin 2 → Nat :=
  let c28_3130 : Index := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3092 : Index := Scalar.indexCast v2
  ![28, v3092.toNat]
def k0_off226 (v3093 : BitVec 32) : Fin 2 → Nat :=
  let c128_i32_3131 : BitVec 32 := 128#32
  let v3094 : BitVec 32 := Scalar.muli v3093 c128_i32_3131
  let c64_i32_3132 : BitVec 32 := 64#32
  let v3095 : BitVec 32 := Scalar.addi v3094 c64_i32_3132
  let v3096 : Index := Scalar.indexCast v3095
  let c0_3133 : Index := 0#32
  ![v3096.toNat, 0]

def k0_chk114 (v3093 : BitVec 32) : Prop :=
  (∀ a, (k0_off226 v3093) a + S64x128.size a ≤ S4096x128.size a)
theorem k0_off226_inb : ∀ (v3093 : BitVec 32) (k0_hw114 : k0_chk114 v3093), ∀ a, (k0_off226 v3093) a + S64x128.size a ≤ S4096x128.size a := fun v3093 k0_hw114 => k0_hw114

def k0_dev114 (v6 : BitVec 32) : Nat :=
  let c0_i32_3143 : BitVec 32 := 0#32
  let c1_i32_3142 : BitVec 32 := 1#32
  let v3106 : BitVec 32 := Scalar.muli v6 c1_i32_3142
  let v3107 : BitVec 32 := Scalar.addi c0_i32_3143 v3106
  v3107.toNat
def k0_off227 (d0 : Dev nD) : Fin 2 → Nat :=
  let c3_3159 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3120 : Index := Scalar.indexCast v2
  ![3, v3120.toNat]
def k0_off228 (v3121 : BitVec 32) : Fin 2 → Nat :=
  let c128_i32_3160 : BitVec 32 := 128#32
  let v3122 : BitVec 32 := Scalar.muli v3121 c128_i32_3160
  let c0_i32_3161 : BitVec 32 := 0#32
  let v3123 : BitVec 32 := Scalar.addi v3122 c0_i32_3161
  let v3124 : Index := Scalar.indexCast v3123
  let c0_3162 : Index := 0#32
  ![v3124.toNat, 0]

def k0_chk115 (v3121 : BitVec 32) : Prop :=
  (∀ a, (k0_off228 v3121) a + S64x128.size a ≤ S4096x128.size a)
theorem k0_off228_inb : ∀ (v3121 : BitVec 32) (k0_hw115 : k0_chk115 v3121), ∀ a, (k0_off228 v3121) a + S64x128.size a ≤ S4096x128.size a := fun v3121 k0_hw115 => k0_hw115

def k0_dev115 (v4 : BitVec 32) : Nat :=
  let c0_i32_3171 : BitVec 32 := 0#32
  let c1_i32_3170 : BitVec 32 := 1#32
  let v3134 : BitVec 32 := Scalar.muli v4 c1_i32_3170
  let v3135 : BitVec 32 := Scalar.addi c0_i32_3171 v3134
  v3135.toNat
def k0_off229 (d0 : Dev nD) : Fin 2 → Nat :=
  let c3_3187 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3148 : Index := Scalar.indexCast v2
  ![3, v3148.toNat]
def k0_off230 (v3149 : BitVec 32) : Fin 2 → Nat :=
  let c128_i32_3188 : BitVec 32 := 128#32
  let v3150 : BitVec 32 := Scalar.muli v3149 c128_i32_3188
  let c64_i32_3189 : BitVec 32 := 64#32
  let v3151 : BitVec 32 := Scalar.addi v3150 c64_i32_3189
  let v3152 : Index := Scalar.indexCast v3151
  let c0_3190 : Index := 0#32
  ![v3152.toNat, 0]

def k0_chk116 (v3149 : BitVec 32) : Prop :=
  (∀ a, (k0_off230 v3149) a + S64x128.size a ≤ S4096x128.size a)
theorem k0_off230_inb : ∀ (v3149 : BitVec 32) (k0_hw116 : k0_chk116 v3149), ∀ a, (k0_off230 v3149) a + S64x128.size a ≤ S4096x128.size a := fun v3149 k0_hw116 => k0_hw116

def k0_dev116 (v4 : BitVec 32) : Nat :=
  let c0_i32_3200 : BitVec 32 := 0#32
  let c1_i32_3199 : BitVec 32 := 1#32
  let v3162 : BitVec 32 := Scalar.muli v4 c1_i32_3199
  let v3163 : BitVec 32 := Scalar.addi c0_i32_3200 v3162
  v3163.toNat
def k0_off231 (d0 : Dev nD) : Fin 2 → Nat :=
  let c29_3216 : Index := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3176 : Index := Scalar.indexCast v2
  ![29, v3176.toNat]
def k0_off232 (v3177 : BitVec 32) : Fin 2 → Nat :=
  let c128_i32_3217 : BitVec 32 := 128#32
  let v3178 : BitVec 32 := Scalar.muli v3177 c128_i32_3217
  let c0_i32_3218 : BitVec 32 := 0#32
  let v3179 : BitVec 32 := Scalar.addi v3178 c0_i32_3218
  let v3180 : Index := Scalar.indexCast v3179
  let c0_3219 : Index := 0#32
  ![v3180.toNat, 0]

def k0_chk117 (v3177 : BitVec 32) : Prop :=
  (∀ a, (k0_off232 v3177) a + S64x128.size a ≤ S4096x128.size a)
theorem k0_off232_inb : ∀ (v3177 : BitVec 32) (k0_hw117 : k0_chk117 v3177), ∀ a, (k0_off232 v3177) a + S64x128.size a ≤ S4096x128.size a := fun v3177 k0_hw117 => k0_hw117

def k0_dev117 (v6 : BitVec 32) : Nat :=
  let c0_i32_3229 : BitVec 32 := 0#32
  let c1_i32_3228 : BitVec 32 := 1#32
  let v3190 : BitVec 32 := Scalar.muli v6 c1_i32_3228
  let v3191 : BitVec 32 := Scalar.addi c0_i32_3229 v3190
  v3191.toNat
def k0_off233 (d0 : Dev nD) : Fin 2 → Nat :=
  let c29_3245 : Index := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3204 : Index := Scalar.indexCast v2
  ![29, v3204.toNat]
def k0_off234 (v3205 : BitVec 32) : Fin 2 → Nat :=
  let c128_i32_3246 : BitVec 32 := 128#32
  let v3206 : BitVec 32 := Scalar.muli v3205 c128_i32_3246
  let c64_i32_3247 : BitVec 32 := 64#32
  let v3207 : BitVec 32 := Scalar.addi v3206 c64_i32_3247
  let v3208 : Index := Scalar.indexCast v3207
  let c0_3248 : Index := 0#32
  ![v3208.toNat, 0]

def k0_chk118 (v3205 : BitVec 32) : Prop :=
  (∀ a, (k0_off234 v3205) a + S64x128.size a ≤ S4096x128.size a)
theorem k0_off234_inb : ∀ (v3205 : BitVec 32) (k0_hw118 : k0_chk118 v3205), ∀ a, (k0_off234 v3205) a + S64x128.size a ≤ S4096x128.size a := fun v3205 k0_hw118 => k0_hw118

def k0_dev118 (v6 : BitVec 32) : Nat :=
  let c0_i32_3258 : BitVec 32 := 0#32
  let c1_i32_3257 : BitVec 32 := 1#32
  let v3218 : BitVec 32 := Scalar.muli v6 c1_i32_3257
  let v3219 : BitVec 32 := Scalar.addi c0_i32_3258 v3218
  v3219.toNat
def k0_off235 (d0 : Dev nD) : Fin 2 → Nat :=
  let c2_3274 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3232 : Index := Scalar.indexCast v2
  ![2, v3232.toNat]
def k0_off236 (v3233 : BitVec 32) : Fin 2 → Nat :=
  let c128_i32_3275 : BitVec 32 := 128#32
  let v3234 : BitVec 32 := Scalar.muli v3233 c128_i32_3275
  let c0_i32_3276 : BitVec 32 := 0#32
  let v3235 : BitVec 32 := Scalar.addi v3234 c0_i32_3276
  let v3236 : Index := Scalar.indexCast v3235
  let c0_3277 : Index := 0#32
  ![v3236.toNat, 0]

def k0_chk119 (v3233 : BitVec 32) : Prop :=
  (∀ a, (k0_off236 v3233) a + S64x128.size a ≤ S4096x128.size a)
theorem k0_off236_inb : ∀ (v3233 : BitVec 32) (k0_hw119 : k0_chk119 v3233), ∀ a, (k0_off236 v3233) a + S64x128.size a ≤ S4096x128.size a := fun v3233 k0_hw119 => k0_hw119

def k0_dev119 (v4 : BitVec 32) : Nat :=
  let c0_i32_3286 : BitVec 32 := 0#32
  let c1_i32_3285 : BitVec 32 := 1#32
  let v3246 : BitVec 32 := Scalar.muli v4 c1_i32_3285
  let v3247 : BitVec 32 := Scalar.addi c0_i32_3286 v3246
  v3247.toNat
def k0_off237 (d0 : Dev nD) : Fin 2 → Nat :=
  let c2_3302 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3260 : Index := Scalar.indexCast v2
  ![2, v3260.toNat]
def k0_off238 (v3261 : BitVec 32) : Fin 2 → Nat :=
  let c128_i32_3303 : BitVec 32 := 128#32
  let v3262 : BitVec 32 := Scalar.muli v3261 c128_i32_3303
  let c64_i32_3304 : BitVec 32 := 64#32
  let v3263 : BitVec 32 := Scalar.addi v3262 c64_i32_3304
  let v3264 : Index := Scalar.indexCast v3263
  let c0_3305 : Index := 0#32
  ![v3264.toNat, 0]

def k0_chk120 (v3261 : BitVec 32) : Prop :=
  (∀ a, (k0_off238 v3261) a + S64x128.size a ≤ S4096x128.size a)
theorem k0_off238_inb : ∀ (v3261 : BitVec 32) (k0_hw120 : k0_chk120 v3261), ∀ a, (k0_off238 v3261) a + S64x128.size a ≤ S4096x128.size a := fun v3261 k0_hw120 => k0_hw120

def k0_dev120 (v4 : BitVec 32) : Nat :=
  let c0_i32_3315 : BitVec 32 := 0#32
  let c1_i32_3314 : BitVec 32 := 1#32
  let v3274 : BitVec 32 := Scalar.muli v4 c1_i32_3314
  let v3275 : BitVec 32 := Scalar.addi c0_i32_3315 v3274
  v3275.toNat
def k0_off239 (d0 : Dev nD) : Fin 2 → Nat :=
  let c30_3331 : Index := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3288 : Index := Scalar.indexCast v2
  ![30, v3288.toNat]
def k0_off240 (v3289 : BitVec 32) : Fin 2 → Nat :=
  let c128_i32_3332 : BitVec 32 := 128#32
  let v3290 : BitVec 32 := Scalar.muli v3289 c128_i32_3332
  let c0_i32_3333 : BitVec 32 := 0#32
  let v3291 : BitVec 32 := Scalar.addi v3290 c0_i32_3333
  let v3292 : Index := Scalar.indexCast v3291
  let c0_3334 : Index := 0#32
  ![v3292.toNat, 0]

def k0_chk121 (v3289 : BitVec 32) : Prop :=
  (∀ a, (k0_off240 v3289) a + S64x128.size a ≤ S4096x128.size a)
theorem k0_off240_inb : ∀ (v3289 : BitVec 32) (k0_hw121 : k0_chk121 v3289), ∀ a, (k0_off240 v3289) a + S64x128.size a ≤ S4096x128.size a := fun v3289 k0_hw121 => k0_hw121

def k0_dev121 (v6 : BitVec 32) : Nat :=
  let c0_i32_3344 : BitVec 32 := 0#32
  let c1_i32_3343 : BitVec 32 := 1#32
  let v3302 : BitVec 32 := Scalar.muli v6 c1_i32_3343
  let v3303 : BitVec 32 := Scalar.addi c0_i32_3344 v3302
  v3303.toNat
def k0_off241 (d0 : Dev nD) : Fin 2 → Nat :=
  let c30_3360 : Index := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3316 : Index := Scalar.indexCast v2
  ![30, v3316.toNat]
def k0_off242 (v3317 : BitVec 32) : Fin 2 → Nat :=
  let c128_i32_3361 : BitVec 32 := 128#32
  let v3318 : BitVec 32 := Scalar.muli v3317 c128_i32_3361
  let c64_i32_3362 : BitVec 32 := 64#32
  let v3319 : BitVec 32 := Scalar.addi v3318 c64_i32_3362
  let v3320 : Index := Scalar.indexCast v3319
  let c0_3363 : Index := 0#32
  ![v3320.toNat, 0]

def k0_chk122 (v3317 : BitVec 32) : Prop :=
  (∀ a, (k0_off242 v3317) a + S64x128.size a ≤ S4096x128.size a)
theorem k0_off242_inb : ∀ (v3317 : BitVec 32) (k0_hw122 : k0_chk122 v3317), ∀ a, (k0_off242 v3317) a + S64x128.size a ≤ S4096x128.size a := fun v3317 k0_hw122 => k0_hw122

def k0_dev122 (v6 : BitVec 32) : Nat :=
  let c0_i32_3373 : BitVec 32 := 0#32
  let c1_i32_3372 : BitVec 32 := 1#32
  let v3330 : BitVec 32 := Scalar.muli v6 c1_i32_3372
  let v3331 : BitVec 32 := Scalar.addi c0_i32_3373 v3330
  v3331.toNat
def k0_off243 (d0 : Dev nD) : Fin 2 → Nat :=
  let c1_3389 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3344 : Index := Scalar.indexCast v2
  ![1, v3344.toNat]
def k0_off244 (v3345 : BitVec 32) : Fin 2 → Nat :=
  let c128_i32_3390 : BitVec 32 := 128#32
  let v3346 : BitVec 32 := Scalar.muli v3345 c128_i32_3390
  let c0_i32_3391 : BitVec 32 := 0#32
  let v3347 : BitVec 32 := Scalar.addi v3346 c0_i32_3391
  let v3348 : Index := Scalar.indexCast v3347
  let c0_3392 : Index := 0#32
  ![v3348.toNat, 0]

def k0_chk123 (v3345 : BitVec 32) : Prop :=
  (∀ a, (k0_off244 v3345) a + S64x128.size a ≤ S4096x128.size a)
theorem k0_off244_inb : ∀ (v3345 : BitVec 32) (k0_hw123 : k0_chk123 v3345), ∀ a, (k0_off244 v3345) a + S64x128.size a ≤ S4096x128.size a := fun v3345 k0_hw123 => k0_hw123

def k0_dev123 (v4 : BitVec 32) : Nat :=
  let c0_i32_3401 : BitVec 32 := 0#32
  let c1_i32_3400 : BitVec 32 := 1#32
  let v3358 : BitVec 32 := Scalar.muli v4 c1_i32_3400
  let v3359 : BitVec 32 := Scalar.addi c0_i32_3401 v3358
  v3359.toNat
def k0_off245 (d0 : Dev nD) : Fin 2 → Nat :=
  let c1_3417 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3372 : Index := Scalar.indexCast v2
  ![1, v3372.toNat]
def k0_off246 (v3373 : BitVec 32) : Fin 2 → Nat :=
  let c128_i32_3418 : BitVec 32 := 128#32
  let v3374 : BitVec 32 := Scalar.muli v3373 c128_i32_3418
  let c64_i32_3419 : BitVec 32 := 64#32
  let v3375 : BitVec 32 := Scalar.addi v3374 c64_i32_3419
  let v3376 : Index := Scalar.indexCast v3375
  let c0_3420 : Index := 0#32
  ![v3376.toNat, 0]

def k0_chk124 (v3373 : BitVec 32) : Prop :=
  (∀ a, (k0_off246 v3373) a + S64x128.size a ≤ S4096x128.size a)
theorem k0_off246_inb : ∀ (v3373 : BitVec 32) (k0_hw124 : k0_chk124 v3373), ∀ a, (k0_off246 v3373) a + S64x128.size a ≤ S4096x128.size a := fun v3373 k0_hw124 => k0_hw124

def k0_dev124 (v4 : BitVec 32) : Nat :=
  let c0_i32_3430 : BitVec 32 := 0#32
  let c1_i32_3429 : BitVec 32 := 1#32
  let v3386 : BitVec 32 := Scalar.muli v4 c1_i32_3429
  let v3387 : BitVec 32 := Scalar.addi c0_i32_3430 v3386
  v3387.toNat

def k0_chk1_0 (v4 : BitVec 32) : Prop :=
  ((k0_dev1 v4) < nD) ∧
  ((k0_dev3 v4) < nD) ∧
  ((k0_dev5 v4) < nD) ∧
  ((k0_dev7 v4) < nD) ∧
  ((k0_dev8 v4) < nD) ∧
  ((k0_dev11 v4) < nD) ∧
  ((k0_dev12 v4) < nD) ∧
  ((k0_dev15 v4) < nD) ∧
  ((k0_dev16 v4) < nD) ∧
  ((k0_dev19 v4) < nD) ∧
  ((k0_dev20 v4) < nD) ∧
  ((k0_dev23 v4) < nD) ∧
  ((k0_dev24 v4) < nD) ∧
  ((k0_dev27 v4) < nD) ∧
  ((k0_dev28 v4) < nD) ∧
  ((k0_dev31 v4) < nD) ∧
  ((k0_dev32 v4) < nD) ∧
  ((k0_dev35 v4) < nD) ∧
  ((k0_dev36 v4) < nD) ∧
  ((k0_dev39 v4) < nD) ∧
  ((k0_dev40 v4) < nD) ∧
  ((k0_dev43 v4) < nD) ∧
  ((k0_dev44 v4) < nD) ∧
  ((k0_dev47 v4) < nD) ∧
  ((k0_dev48 v4) < nD) ∧
  ((k0_dev51 v4) < nD) ∧
  ((k0_dev52 v4) < nD) ∧
  ((k0_dev55 v4) < nD) ∧
  ((k0_dev56 v4) < nD) ∧
  ((k0_dev59 v4) < nD) ∧
  ((k0_dev60 v4) < nD) ∧
  ((k0_dev63 v4) < nD)
def k0_chk1_1 (v4 : BitVec 32) : Prop :=
  ((k0_dev64 v4) < nD) ∧
  ((k0_dev67 v4) < nD) ∧
  ((k0_dev68 v4) < nD) ∧
  ((k0_dev71 v4) < nD) ∧
  ((k0_dev72 v4) < nD) ∧
  ((k0_dev75 v4) < nD) ∧
  ((k0_dev76 v4) < nD) ∧
  ((k0_dev79 v4) < nD) ∧
  ((k0_dev80 v4) < nD) ∧
  ((k0_dev83 v4) < nD) ∧
  ((k0_dev84 v4) < nD) ∧
  ((k0_dev87 v4) < nD) ∧
  ((k0_dev88 v4) < nD) ∧
  ((k0_dev91 v4) < nD) ∧
  ((k0_dev92 v4) < nD) ∧
  ((k0_dev95 v4) < nD) ∧
  ((k0_dev96 v4) < nD) ∧
  ((k0_dev99 v4) < nD) ∧
  ((k0_dev100 v4) < nD) ∧
  ((k0_dev103 v4) < nD) ∧
  ((k0_dev104 v4) < nD) ∧
  ((k0_dev107 v4) < nD) ∧
  ((k0_dev108 v4) < nD) ∧
  ((k0_dev111 v4) < nD) ∧
  ((k0_dev112 v4) < nD) ∧
  ((k0_dev115 v4) < nD) ∧
  ((k0_dev116 v4) < nD) ∧
  ((k0_dev119 v4) < nD) ∧
  ((k0_dev120 v4) < nD) ∧
  ((k0_dev123 v4) < nD) ∧
  ((k0_dev124 v4) < nD)
def k0_chk1 (v4 : BitVec 32) : Prop :=
  k0_chk1_0 v4 ∧
  k0_chk1_1 v4
theorem k0_dev1_lt : ∀ (v4 : BitVec 32) (k0_hw1 : k0_chk1 v4), (k0_dev1 v4) < nD := fun v4 k0_hw1 => k0_hw1.1.1
theorem k0_dev3_lt : ∀ (v4 : BitVec 32) (k0_hw1 : k0_chk1 v4), (k0_dev3 v4) < nD := fun v4 k0_hw1 => k0_hw1.1.2.1
theorem k0_dev5_lt : ∀ (v4 : BitVec 32) (k0_hw1 : k0_chk1 v4), (k0_dev5 v4) < nD := fun v4 k0_hw1 => k0_hw1.1.2.2.1
theorem k0_dev7_lt : ∀ (v4 : BitVec 32) (k0_hw1 : k0_chk1 v4), (k0_dev7 v4) < nD := fun v4 k0_hw1 => k0_hw1.1.2.2.2.1
theorem k0_dev8_lt : ∀ (v4 : BitVec 32) (k0_hw1 : k0_chk1 v4), (k0_dev8 v4) < nD := fun v4 k0_hw1 => k0_hw1.1.2.2.2.2.1
theorem k0_dev11_lt : ∀ (v4 : BitVec 32) (k0_hw1 : k0_chk1 v4), (k0_dev11 v4) < nD := fun v4 k0_hw1 => k0_hw1.1.2.2.2.2.2.1
theorem k0_dev12_lt : ∀ (v4 : BitVec 32) (k0_hw1 : k0_chk1 v4), (k0_dev12 v4) < nD := fun v4 k0_hw1 => k0_hw1.1.2.2.2.2.2.2.1
theorem k0_dev15_lt : ∀ (v4 : BitVec 32) (k0_hw1 : k0_chk1 v4), (k0_dev15 v4) < nD := fun v4 k0_hw1 => k0_hw1.1.2.2.2.2.2.2.2.1
theorem k0_dev16_lt : ∀ (v4 : BitVec 32) (k0_hw1 : k0_chk1 v4), (k0_dev16 v4) < nD := fun v4 k0_hw1 => k0_hw1.1.2.2.2.2.2.2.2.2.1
theorem k0_dev19_lt : ∀ (v4 : BitVec 32) (k0_hw1 : k0_chk1 v4), (k0_dev19 v4) < nD := fun v4 k0_hw1 => k0_hw1.1.2.2.2.2.2.2.2.2.2.1
theorem k0_dev20_lt : ∀ (v4 : BitVec 32) (k0_hw1 : k0_chk1 v4), (k0_dev20 v4) < nD := fun v4 k0_hw1 => k0_hw1.1.2.2.2.2.2.2.2.2.2.2.1
theorem k0_dev23_lt : ∀ (v4 : BitVec 32) (k0_hw1 : k0_chk1 v4), (k0_dev23 v4) < nD := fun v4 k0_hw1 => k0_hw1.1.2.2.2.2.2.2.2.2.2.2.2.1
theorem k0_dev24_lt : ∀ (v4 : BitVec 32) (k0_hw1 : k0_chk1 v4), (k0_dev24 v4) < nD := fun v4 k0_hw1 => k0_hw1.1.2.2.2.2.2.2.2.2.2.2.2.2.1
theorem k0_dev27_lt : ∀ (v4 : BitVec 32) (k0_hw1 : k0_chk1 v4), (k0_dev27 v4) < nD := fun v4 k0_hw1 => k0_hw1.1.2.2.2.2.2.2.2.2.2.2.2.2.2.1
theorem k0_dev28_lt : ∀ (v4 : BitVec 32) (k0_hw1 : k0_chk1 v4), (k0_dev28 v4) < nD := fun v4 k0_hw1 => k0_hw1.1.2.2.2.2.2.2.2.2.2.2.2.2.2.2.1
theorem k0_dev31_lt : ∀ (v4 : BitVec 32) (k0_hw1 : k0_chk1 v4), (k0_dev31 v4) < nD := fun v4 k0_hw1 => k0_hw1.1.2.2.2.2.2.2.2.2.2.2.2.2.2.2.2.1
theorem k0_dev32_lt : ∀ (v4 : BitVec 32) (k0_hw1 : k0_chk1 v4), (k0_dev32 v4) < nD := fun v4 k0_hw1 => k0_hw1.1.2.2.2.2.2.2.2.2.2.2.2.2.2.2.2.2.1
theorem k0_dev35_lt : ∀ (v4 : BitVec 32) (k0_hw1 : k0_chk1 v4), (k0_dev35 v4) < nD := fun v4 k0_hw1 => k0_hw1.1.2.2.2.2.2.2.2.2.2.2.2.2.2.2.2.2.2.1
theorem k0_dev36_lt : ∀ (v4 : BitVec 32) (k0_hw1 : k0_chk1 v4), (k0_dev36 v4) < nD := fun v4 k0_hw1 => k0_hw1.1.2.2.2.2.2.2.2.2.2.2.2.2.2.2.2.2.2.2.1
theorem k0_dev39_lt : ∀ (v4 : BitVec 32) (k0_hw1 : k0_chk1 v4), (k0_dev39 v4) < nD := fun v4 k0_hw1 => k0_hw1.1.2.2.2.2.2.2.2.2.2.2.2.2.2.2.2.2.2.2.2.1
theorem k0_dev40_lt : ∀ (v4 : BitVec 32) (k0_hw1 : k0_chk1 v4), (k0_dev40 v4) < nD := fun v4 k0_hw1 => k0_hw1.1.2.2.2.2.2.2.2.2.2.2.2.2.2.2.2.2.2.2.2.2.1
theorem k0_dev43_lt : ∀ (v4 : BitVec 32) (k0_hw1 : k0_chk1 v4), (k0_dev43 v4) < nD := fun v4 k0_hw1 => k0_hw1.1.2.2.2.2.2.2.2.2.2.2.2.2.2.2.2.2.2.2.2.2.2.1
theorem k0_dev44_lt : ∀ (v4 : BitVec 32) (k0_hw1 : k0_chk1 v4), (k0_dev44 v4) < nD := fun v4 k0_hw1 => k0_hw1.1.2.2.2.2.2.2.2.2.2.2.2.2.2.2.2.2.2.2.2.2.2.2.1
theorem k0_dev47_lt : ∀ (v4 : BitVec 32) (k0_hw1 : k0_chk1 v4), (k0_dev47 v4) < nD := fun v4 k0_hw1 => k0_hw1.1.2.2.2.2.2.2.2.2.2.2.2.2.2.2.2.2.2.2.2.2.2.2.2.1
theorem k0_dev48_lt : ∀ (v4 : BitVec 32) (k0_hw1 : k0_chk1 v4), (k0_dev48 v4) < nD := fun v4 k0_hw1 => k0_hw1.1.2.2.2.2.2.2.2.2.2.2.2.2.2.2.2.2.2.2.2.2.2.2.2.2.1
theorem k0_dev51_lt : ∀ (v4 : BitVec 32) (k0_hw1 : k0_chk1 v4), (k0_dev51 v4) < nD := fun v4 k0_hw1 => k0_hw1.1.2.2.2.2.2.2.2.2.2.2.2.2.2.2.2.2.2.2.2.2.2.2.2.2.2.1
theorem k0_dev52_lt : ∀ (v4 : BitVec 32) (k0_hw1 : k0_chk1 v4), (k0_dev52 v4) < nD := fun v4 k0_hw1 => k0_hw1.1.2.2.2.2.2.2.2.2.2.2.2.2.2.2.2.2.2.2.2.2.2.2.2.2.2.2.1
theorem k0_dev55_lt : ∀ (v4 : BitVec 32) (k0_hw1 : k0_chk1 v4), (k0_dev55 v4) < nD := fun v4 k0_hw1 => k0_hw1.1.2.2.2.2.2.2.2.2.2.2.2.2.2.2.2.2.2.2.2.2.2.2.2.2.2.2.2.1
theorem k0_dev56_lt : ∀ (v4 : BitVec 32) (k0_hw1 : k0_chk1 v4), (k0_dev56 v4) < nD := fun v4 k0_hw1 => k0_hw1.1.2.2.2.2.2.2.2.2.2.2.2.2.2.2.2.2.2.2.2.2.2.2.2.2.2.2.2.2.1
theorem k0_dev59_lt : ∀ (v4 : BitVec 32) (k0_hw1 : k0_chk1 v4), (k0_dev59 v4) < nD := fun v4 k0_hw1 => k0_hw1.1.2.2.2.2.2.2.2.2.2.2.2.2.2.2.2.2.2.2.2.2.2.2.2.2.2.2.2.2.2.1
theorem k0_dev60_lt : ∀ (v4 : BitVec 32) (k0_hw1 : k0_chk1 v4), (k0_dev60 v4) < nD := fun v4 k0_hw1 => k0_hw1.1.2.2.2.2.2.2.2.2.2.2.2.2.2.2.2.2.2.2.2.2.2.2.2.2.2.2.2.2.2.2.1
theorem k0_dev63_lt : ∀ (v4 : BitVec 32) (k0_hw1 : k0_chk1 v4), (k0_dev63 v4) < nD := fun v4 k0_hw1 => k0_hw1.1.2.2.2.2.2.2.2.2.2.2.2.2.2.2.2.2.2.2.2.2.2.2.2.2.2.2.2.2.2.2.2
theorem k0_dev64_lt : ∀ (v4 : BitVec 32) (k0_hw1 : k0_chk1 v4), (k0_dev64 v4) < nD := fun v4 k0_hw1 => k0_hw1.2.1
theorem k0_dev67_lt : ∀ (v4 : BitVec 32) (k0_hw1 : k0_chk1 v4), (k0_dev67 v4) < nD := fun v4 k0_hw1 => k0_hw1.2.2.1
theorem k0_dev68_lt : ∀ (v4 : BitVec 32) (k0_hw1 : k0_chk1 v4), (k0_dev68 v4) < nD := fun v4 k0_hw1 => k0_hw1.2.2.2.1
theorem k0_dev71_lt : ∀ (v4 : BitVec 32) (k0_hw1 : k0_chk1 v4), (k0_dev71 v4) < nD := fun v4 k0_hw1 => k0_hw1.2.2.2.2.1
theorem k0_dev72_lt : ∀ (v4 : BitVec 32) (k0_hw1 : k0_chk1 v4), (k0_dev72 v4) < nD := fun v4 k0_hw1 => k0_hw1.2.2.2.2.2.1
theorem k0_dev75_lt : ∀ (v4 : BitVec 32) (k0_hw1 : k0_chk1 v4), (k0_dev75 v4) < nD := fun v4 k0_hw1 => k0_hw1.2.2.2.2.2.2.1
theorem k0_dev76_lt : ∀ (v4 : BitVec 32) (k0_hw1 : k0_chk1 v4), (k0_dev76 v4) < nD := fun v4 k0_hw1 => k0_hw1.2.2.2.2.2.2.2.1
theorem k0_dev79_lt : ∀ (v4 : BitVec 32) (k0_hw1 : k0_chk1 v4), (k0_dev79 v4) < nD := fun v4 k0_hw1 => k0_hw1.2.2.2.2.2.2.2.2.1
theorem k0_dev80_lt : ∀ (v4 : BitVec 32) (k0_hw1 : k0_chk1 v4), (k0_dev80 v4) < nD := fun v4 k0_hw1 => k0_hw1.2.2.2.2.2.2.2.2.2.1
theorem k0_dev83_lt : ∀ (v4 : BitVec 32) (k0_hw1 : k0_chk1 v4), (k0_dev83 v4) < nD := fun v4 k0_hw1 => k0_hw1.2.2.2.2.2.2.2.2.2.2.1
theorem k0_dev84_lt : ∀ (v4 : BitVec 32) (k0_hw1 : k0_chk1 v4), (k0_dev84 v4) < nD := fun v4 k0_hw1 => k0_hw1.2.2.2.2.2.2.2.2.2.2.2.1
theorem k0_dev87_lt : ∀ (v4 : BitVec 32) (k0_hw1 : k0_chk1 v4), (k0_dev87 v4) < nD := fun v4 k0_hw1 => k0_hw1.2.2.2.2.2.2.2.2.2.2.2.2.1
theorem k0_dev88_lt : ∀ (v4 : BitVec 32) (k0_hw1 : k0_chk1 v4), (k0_dev88 v4) < nD := fun v4 k0_hw1 => k0_hw1.2.2.2.2.2.2.2.2.2.2.2.2.2.1
theorem k0_dev91_lt : ∀ (v4 : BitVec 32) (k0_hw1 : k0_chk1 v4), (k0_dev91 v4) < nD := fun v4 k0_hw1 => k0_hw1.2.2.2.2.2.2.2.2.2.2.2.2.2.2.1
theorem k0_dev92_lt : ∀ (v4 : BitVec 32) (k0_hw1 : k0_chk1 v4), (k0_dev92 v4) < nD := fun v4 k0_hw1 => k0_hw1.2.2.2.2.2.2.2.2.2.2.2.2.2.2.2.1
theorem k0_dev95_lt : ∀ (v4 : BitVec 32) (k0_hw1 : k0_chk1 v4), (k0_dev95 v4) < nD := fun v4 k0_hw1 => k0_hw1.2.2.2.2.2.2.2.2.2.2.2.2.2.2.2.2.1
theorem k0_dev96_lt : ∀ (v4 : BitVec 32) (k0_hw1 : k0_chk1 v4), (k0_dev96 v4) < nD := fun v4 k0_hw1 => k0_hw1.2.2.2.2.2.2.2.2.2.2.2.2.2.2.2.2.2.1
theorem k0_dev99_lt : ∀ (v4 : BitVec 32) (k0_hw1 : k0_chk1 v4), (k0_dev99 v4) < nD := fun v4 k0_hw1 => k0_hw1.2.2.2.2.2.2.2.2.2.2.2.2.2.2.2.2.2.2.1
theorem k0_dev100_lt : ∀ (v4 : BitVec 32) (k0_hw1 : k0_chk1 v4), (k0_dev100 v4) < nD := fun v4 k0_hw1 => k0_hw1.2.2.2.2.2.2.2.2.2.2.2.2.2.2.2.2.2.2.2.1
theorem k0_dev103_lt : ∀ (v4 : BitVec 32) (k0_hw1 : k0_chk1 v4), (k0_dev103 v4) < nD := fun v4 k0_hw1 => k0_hw1.2.2.2.2.2.2.2.2.2.2.2.2.2.2.2.2.2.2.2.2.1
theorem k0_dev104_lt : ∀ (v4 : BitVec 32) (k0_hw1 : k0_chk1 v4), (k0_dev104 v4) < nD := fun v4 k0_hw1 => k0_hw1.2.2.2.2.2.2.2.2.2.2.2.2.2.2.2.2.2.2.2.2.2.1
theorem k0_dev107_lt : ∀ (v4 : BitVec 32) (k0_hw1 : k0_chk1 v4), (k0_dev107 v4) < nD := fun v4 k0_hw1 => k0_hw1.2.2.2.2.2.2.2.2.2.2.2.2.2.2.2.2.2.2.2.2.2.2.1
theorem k0_dev108_lt : ∀ (v4 : BitVec 32) (k0_hw1 : k0_chk1 v4), (k0_dev108 v4) < nD := fun v4 k0_hw1 => k0_hw1.2.2.2.2.2.2.2.2.2.2.2.2.2.2.2.2.2.2.2.2.2.2.2.1
theorem k0_dev111_lt : ∀ (v4 : BitVec 32) (k0_hw1 : k0_chk1 v4), (k0_dev111 v4) < nD := fun v4 k0_hw1 => k0_hw1.2.2.2.2.2.2.2.2.2.2.2.2.2.2.2.2.2.2.2.2.2.2.2.2.1
theorem k0_dev112_lt : ∀ (v4 : BitVec 32) (k0_hw1 : k0_chk1 v4), (k0_dev112 v4) < nD := fun v4 k0_hw1 => k0_hw1.2.2.2.2.2.2.2.2.2.2.2.2.2.2.2.2.2.2.2.2.2.2.2.2.2.1
theorem k0_dev115_lt : ∀ (v4 : BitVec 32) (k0_hw1 : k0_chk1 v4), (k0_dev115 v4) < nD := fun v4 k0_hw1 => k0_hw1.2.2.2.2.2.2.2.2.2.2.2.2.2.2.2.2.2.2.2.2.2.2.2.2.2.2.1
theorem k0_dev116_lt : ∀ (v4 : BitVec 32) (k0_hw1 : k0_chk1 v4), (k0_dev116 v4) < nD := fun v4 k0_hw1 => k0_hw1.2.2.2.2.2.2.2.2.2.2.2.2.2.2.2.2.2.2.2.2.2.2.2.2.2.2.2.1
theorem k0_dev119_lt : ∀ (v4 : BitVec 32) (k0_hw1 : k0_chk1 v4), (k0_dev119 v4) < nD := fun v4 k0_hw1 => k0_hw1.2.2.2.2.2.2.2.2.2.2.2.2.2.2.2.2.2.2.2.2.2.2.2.2.2.2.2.2.1
theorem k0_dev120_lt : ∀ (v4 : BitVec 32) (k0_hw1 : k0_chk1 v4), (k0_dev120 v4) < nD := fun v4 k0_hw1 => k0_hw1.2.2.2.2.2.2.2.2.2.2.2.2.2.2.2.2.2.2.2.2.2.2.2.2.2.2.2.2.2.1
theorem k0_dev123_lt : ∀ (v4 : BitVec 32) (k0_hw1 : k0_chk1 v4), (k0_dev123 v4) < nD := fun v4 k0_hw1 => k0_hw1.2.2.2.2.2.2.2.2.2.2.2.2.2.2.2.2.2.2.2.2.2.2.2.2.2.2.2.2.2.2.1
theorem k0_dev124_lt : ∀ (v4 : BitVec 32) (k0_hw1 : k0_chk1 v4), (k0_dev124 v4) < nD := fun v4 k0_hw1 => k0_hw1.2.2.2.2.2.2.2.2.2.2.2.2.2.2.2.2.2.2.2.2.2.2.2.2.2.2.2.2.2.2.2

def k0_off247 (d0 : Dev nD) : Fin 2 → Nat :=
  let c31_3446 : Index := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3400 : Index := Scalar.indexCast v2
  ![31, v3400.toNat]
def k0_off248 (v3401 : BitVec 32) : Fin 2 → Nat :=
  let c128_i32_3447 : BitVec 32 := 128#32
  let v3402 : BitVec 32 := Scalar.muli v3401 c128_i32_3447
  let c0_i32_3448 : BitVec 32 := 0#32
  let v3403 : BitVec 32 := Scalar.addi v3402 c0_i32_3448
  let v3404 : Index := Scalar.indexCast v3403
  let c0_3449 : Index := 0#32
  ![v3404.toNat, 0]

def k0_chk125 (v3401 : BitVec 32) : Prop :=
  (∀ a, (k0_off248 v3401) a + S64x128.size a ≤ S4096x128.size a)
theorem k0_off248_inb : ∀ (v3401 : BitVec 32) (k0_hw125 : k0_chk125 v3401), ∀ a, (k0_off248 v3401) a + S64x128.size a ≤ S4096x128.size a := fun v3401 k0_hw125 => k0_hw125

def k0_dev125 (v6 : BitVec 32) : Nat :=
  let c0_i32_3459 : BitVec 32 := 0#32
  let c1_i32_3458 : BitVec 32 := 1#32
  let v3414 : BitVec 32 := Scalar.muli v6 c1_i32_3458
  let v3415 : BitVec 32 := Scalar.addi c0_i32_3459 v3414
  v3415.toNat
def k0_off249 (d0 : Dev nD) : Fin 2 → Nat :=
  let c31_3475 : Index := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3428 : Index := Scalar.indexCast v2
  ![31, v3428.toNat]
def k0_off250 (v3429 : BitVec 32) : Fin 2 → Nat :=
  let c128_i32_3476 : BitVec 32 := 128#32
  let v3430 : BitVec 32 := Scalar.muli v3429 c128_i32_3476
  let c64_i32_3477 : BitVec 32 := 64#32
  let v3431 : BitVec 32 := Scalar.addi v3430 c64_i32_3477
  let v3432 : Index := Scalar.indexCast v3431
  let c0_3478 : Index := 0#32
  ![v3432.toNat, 0]

def k0_chk126 (v3429 : BitVec 32) : Prop :=
  (∀ a, (k0_off250 v3429) a + S64x128.size a ≤ S4096x128.size a)
theorem k0_off250_inb : ∀ (v3429 : BitVec 32) (k0_hw126 : k0_chk126 v3429), ∀ a, (k0_off250 v3429) a + S64x128.size a ≤ S4096x128.size a := fun v3429 k0_hw126 => k0_hw126

def k0_dev126 (v6 : BitVec 32) : Nat :=
  let c0_i32_3488 : BitVec 32 := 0#32
  let c1_i32_3487 : BitVec 32 := 1#32
  let v3442 : BitVec 32 := Scalar.muli v6 c1_i32_3487
  let v3443 : BitVec 32 := Scalar.addi c0_i32_3488 v3442
  v3443.toNat

def k0_chk2_0 (v6 : BitVec 32) : Prop :=
  ((k0_dev2 v6) < nD) ∧
  ((k0_dev4 v6) < nD) ∧
  ((k0_dev6 v6) < nD) ∧
  ((k0_dev9 v6) < nD) ∧
  ((k0_dev10 v6) < nD) ∧
  ((k0_dev13 v6) < nD) ∧
  ((k0_dev14 v6) < nD) ∧
  ((k0_dev17 v6) < nD) ∧
  ((k0_dev18 v6) < nD) ∧
  ((k0_dev21 v6) < nD) ∧
  ((k0_dev22 v6) < nD) ∧
  ((k0_dev25 v6) < nD) ∧
  ((k0_dev26 v6) < nD) ∧
  ((k0_dev29 v6) < nD) ∧
  ((k0_dev30 v6) < nD) ∧
  ((k0_dev33 v6) < nD) ∧
  ((k0_dev34 v6) < nD) ∧
  ((k0_dev37 v6) < nD) ∧
  ((k0_dev38 v6) < nD) ∧
  ((k0_dev41 v6) < nD) ∧
  ((k0_dev42 v6) < nD) ∧
  ((k0_dev45 v6) < nD) ∧
  ((k0_dev46 v6) < nD) ∧
  ((k0_dev49 v6) < nD) ∧
  ((k0_dev50 v6) < nD) ∧
  ((k0_dev53 v6) < nD) ∧
  ((k0_dev54 v6) < nD) ∧
  ((k0_dev57 v6) < nD) ∧
  ((k0_dev58 v6) < nD) ∧
  ((k0_dev61 v6) < nD) ∧
  ((k0_dev62 v6) < nD) ∧
  ((k0_dev65 v6) < nD)
def k0_chk2_1 (v6 : BitVec 32) : Prop :=
  ((k0_dev66 v6) < nD) ∧
  ((k0_dev69 v6) < nD) ∧
  ((k0_dev70 v6) < nD) ∧
  ((k0_dev73 v6) < nD) ∧
  ((k0_dev74 v6) < nD) ∧
  ((k0_dev77 v6) < nD) ∧
  ((k0_dev78 v6) < nD) ∧
  ((k0_dev81 v6) < nD) ∧
  ((k0_dev82 v6) < nD) ∧
  ((k0_dev85 v6) < nD) ∧
  ((k0_dev86 v6) < nD) ∧
  ((k0_dev89 v6) < nD) ∧
  ((k0_dev90 v6) < nD) ∧
  ((k0_dev93 v6) < nD) ∧
  ((k0_dev94 v6) < nD) ∧
  ((k0_dev97 v6) < nD) ∧
  ((k0_dev98 v6) < nD) ∧
  ((k0_dev101 v6) < nD) ∧
  ((k0_dev102 v6) < nD) ∧
  ((k0_dev105 v6) < nD) ∧
  ((k0_dev106 v6) < nD) ∧
  ((k0_dev109 v6) < nD) ∧
  ((k0_dev110 v6) < nD) ∧
  ((k0_dev113 v6) < nD) ∧
  ((k0_dev114 v6) < nD) ∧
  ((k0_dev117 v6) < nD) ∧
  ((k0_dev118 v6) < nD) ∧
  ((k0_dev121 v6) < nD) ∧
  ((k0_dev122 v6) < nD) ∧
  ((k0_dev125 v6) < nD) ∧
  ((k0_dev126 v6) < nD)
def k0_chk2 (v6 : BitVec 32) : Prop :=
  k0_chk2_0 v6 ∧
  k0_chk2_1 v6
theorem k0_dev2_lt : ∀ (v6 : BitVec 32) (k0_hw2 : k0_chk2 v6), (k0_dev2 v6) < nD := fun v6 k0_hw2 => k0_hw2.1.1
theorem k0_dev4_lt : ∀ (v6 : BitVec 32) (k0_hw2 : k0_chk2 v6), (k0_dev4 v6) < nD := fun v6 k0_hw2 => k0_hw2.1.2.1
theorem k0_dev6_lt : ∀ (v6 : BitVec 32) (k0_hw2 : k0_chk2 v6), (k0_dev6 v6) < nD := fun v6 k0_hw2 => k0_hw2.1.2.2.1
theorem k0_dev9_lt : ∀ (v6 : BitVec 32) (k0_hw2 : k0_chk2 v6), (k0_dev9 v6) < nD := fun v6 k0_hw2 => k0_hw2.1.2.2.2.1
theorem k0_dev10_lt : ∀ (v6 : BitVec 32) (k0_hw2 : k0_chk2 v6), (k0_dev10 v6) < nD := fun v6 k0_hw2 => k0_hw2.1.2.2.2.2.1
theorem k0_dev13_lt : ∀ (v6 : BitVec 32) (k0_hw2 : k0_chk2 v6), (k0_dev13 v6) < nD := fun v6 k0_hw2 => k0_hw2.1.2.2.2.2.2.1
theorem k0_dev14_lt : ∀ (v6 : BitVec 32) (k0_hw2 : k0_chk2 v6), (k0_dev14 v6) < nD := fun v6 k0_hw2 => k0_hw2.1.2.2.2.2.2.2.1
theorem k0_dev17_lt : ∀ (v6 : BitVec 32) (k0_hw2 : k0_chk2 v6), (k0_dev17 v6) < nD := fun v6 k0_hw2 => k0_hw2.1.2.2.2.2.2.2.2.1
theorem k0_dev18_lt : ∀ (v6 : BitVec 32) (k0_hw2 : k0_chk2 v6), (k0_dev18 v6) < nD := fun v6 k0_hw2 => k0_hw2.1.2.2.2.2.2.2.2.2.1
theorem k0_dev21_lt : ∀ (v6 : BitVec 32) (k0_hw2 : k0_chk2 v6), (k0_dev21 v6) < nD := fun v6 k0_hw2 => k0_hw2.1.2.2.2.2.2.2.2.2.2.1
theorem k0_dev22_lt : ∀ (v6 : BitVec 32) (k0_hw2 : k0_chk2 v6), (k0_dev22 v6) < nD := fun v6 k0_hw2 => k0_hw2.1.2.2.2.2.2.2.2.2.2.2.1
theorem k0_dev25_lt : ∀ (v6 : BitVec 32) (k0_hw2 : k0_chk2 v6), (k0_dev25 v6) < nD := fun v6 k0_hw2 => k0_hw2.1.2.2.2.2.2.2.2.2.2.2.2.1
theorem k0_dev26_lt : ∀ (v6 : BitVec 32) (k0_hw2 : k0_chk2 v6), (k0_dev26 v6) < nD := fun v6 k0_hw2 => k0_hw2.1.2.2.2.2.2.2.2.2.2.2.2.2.1
theorem k0_dev29_lt : ∀ (v6 : BitVec 32) (k0_hw2 : k0_chk2 v6), (k0_dev29 v6) < nD := fun v6 k0_hw2 => k0_hw2.1.2.2.2.2.2.2.2.2.2.2.2.2.2.1
theorem k0_dev30_lt : ∀ (v6 : BitVec 32) (k0_hw2 : k0_chk2 v6), (k0_dev30 v6) < nD := fun v6 k0_hw2 => k0_hw2.1.2.2.2.2.2.2.2.2.2.2.2.2.2.2.1
theorem k0_dev33_lt : ∀ (v6 : BitVec 32) (k0_hw2 : k0_chk2 v6), (k0_dev33 v6) < nD := fun v6 k0_hw2 => k0_hw2.1.2.2.2.2.2.2.2.2.2.2.2.2.2.2.2.1
theorem k0_dev34_lt : ∀ (v6 : BitVec 32) (k0_hw2 : k0_chk2 v6), (k0_dev34 v6) < nD := fun v6 k0_hw2 => k0_hw2.1.2.2.2.2.2.2.2.2.2.2.2.2.2.2.2.2.1
theorem k0_dev37_lt : ∀ (v6 : BitVec 32) (k0_hw2 : k0_chk2 v6), (k0_dev37 v6) < nD := fun v6 k0_hw2 => k0_hw2.1.2.2.2.2.2.2.2.2.2.2.2.2.2.2.2.2.2.1
theorem k0_dev38_lt : ∀ (v6 : BitVec 32) (k0_hw2 : k0_chk2 v6), (k0_dev38 v6) < nD := fun v6 k0_hw2 => k0_hw2.1.2.2.2.2.2.2.2.2.2.2.2.2.2.2.2.2.2.2.1
theorem k0_dev41_lt : ∀ (v6 : BitVec 32) (k0_hw2 : k0_chk2 v6), (k0_dev41 v6) < nD := fun v6 k0_hw2 => k0_hw2.1.2.2.2.2.2.2.2.2.2.2.2.2.2.2.2.2.2.2.2.1
theorem k0_dev42_lt : ∀ (v6 : BitVec 32) (k0_hw2 : k0_chk2 v6), (k0_dev42 v6) < nD := fun v6 k0_hw2 => k0_hw2.1.2.2.2.2.2.2.2.2.2.2.2.2.2.2.2.2.2.2.2.2.1
theorem k0_dev45_lt : ∀ (v6 : BitVec 32) (k0_hw2 : k0_chk2 v6), (k0_dev45 v6) < nD := fun v6 k0_hw2 => k0_hw2.1.2.2.2.2.2.2.2.2.2.2.2.2.2.2.2.2.2.2.2.2.2.1
theorem k0_dev46_lt : ∀ (v6 : BitVec 32) (k0_hw2 : k0_chk2 v6), (k0_dev46 v6) < nD := fun v6 k0_hw2 => k0_hw2.1.2.2.2.2.2.2.2.2.2.2.2.2.2.2.2.2.2.2.2.2.2.2.1
theorem k0_dev49_lt : ∀ (v6 : BitVec 32) (k0_hw2 : k0_chk2 v6), (k0_dev49 v6) < nD := fun v6 k0_hw2 => k0_hw2.1.2.2.2.2.2.2.2.2.2.2.2.2.2.2.2.2.2.2.2.2.2.2.2.1
theorem k0_dev50_lt : ∀ (v6 : BitVec 32) (k0_hw2 : k0_chk2 v6), (k0_dev50 v6) < nD := fun v6 k0_hw2 => k0_hw2.1.2.2.2.2.2.2.2.2.2.2.2.2.2.2.2.2.2.2.2.2.2.2.2.2.1
theorem k0_dev53_lt : ∀ (v6 : BitVec 32) (k0_hw2 : k0_chk2 v6), (k0_dev53 v6) < nD := fun v6 k0_hw2 => k0_hw2.1.2.2.2.2.2.2.2.2.2.2.2.2.2.2.2.2.2.2.2.2.2.2.2.2.2.1
theorem k0_dev54_lt : ∀ (v6 : BitVec 32) (k0_hw2 : k0_chk2 v6), (k0_dev54 v6) < nD := fun v6 k0_hw2 => k0_hw2.1.2.2.2.2.2.2.2.2.2.2.2.2.2.2.2.2.2.2.2.2.2.2.2.2.2.2.1
theorem k0_dev57_lt : ∀ (v6 : BitVec 32) (k0_hw2 : k0_chk2 v6), (k0_dev57 v6) < nD := fun v6 k0_hw2 => k0_hw2.1.2.2.2.2.2.2.2.2.2.2.2.2.2.2.2.2.2.2.2.2.2.2.2.2.2.2.2.1
theorem k0_dev58_lt : ∀ (v6 : BitVec 32) (k0_hw2 : k0_chk2 v6), (k0_dev58 v6) < nD := fun v6 k0_hw2 => k0_hw2.1.2.2.2.2.2.2.2.2.2.2.2.2.2.2.2.2.2.2.2.2.2.2.2.2.2.2.2.2.1
theorem k0_dev61_lt : ∀ (v6 : BitVec 32) (k0_hw2 : k0_chk2 v6), (k0_dev61 v6) < nD := fun v6 k0_hw2 => k0_hw2.1.2.2.2.2.2.2.2.2.2.2.2.2.2.2.2.2.2.2.2.2.2.2.2.2.2.2.2.2.2.1
theorem k0_dev62_lt : ∀ (v6 : BitVec 32) (k0_hw2 : k0_chk2 v6), (k0_dev62 v6) < nD := fun v6 k0_hw2 => k0_hw2.1.2.2.2.2.2.2.2.2.2.2.2.2.2.2.2.2.2.2.2.2.2.2.2.2.2.2.2.2.2.2.1
theorem k0_dev65_lt : ∀ (v6 : BitVec 32) (k0_hw2 : k0_chk2 v6), (k0_dev65 v6) < nD := fun v6 k0_hw2 => k0_hw2.1.2.2.2.2.2.2.2.2.2.2.2.2.2.2.2.2.2.2.2.2.2.2.2.2.2.2.2.2.2.2.2
theorem k0_dev66_lt : ∀ (v6 : BitVec 32) (k0_hw2 : k0_chk2 v6), (k0_dev66 v6) < nD := fun v6 k0_hw2 => k0_hw2.2.1
theorem k0_dev69_lt : ∀ (v6 : BitVec 32) (k0_hw2 : k0_chk2 v6), (k0_dev69 v6) < nD := fun v6 k0_hw2 => k0_hw2.2.2.1
theorem k0_dev70_lt : ∀ (v6 : BitVec 32) (k0_hw2 : k0_chk2 v6), (k0_dev70 v6) < nD := fun v6 k0_hw2 => k0_hw2.2.2.2.1
theorem k0_dev73_lt : ∀ (v6 : BitVec 32) (k0_hw2 : k0_chk2 v6), (k0_dev73 v6) < nD := fun v6 k0_hw2 => k0_hw2.2.2.2.2.1
theorem k0_dev74_lt : ∀ (v6 : BitVec 32) (k0_hw2 : k0_chk2 v6), (k0_dev74 v6) < nD := fun v6 k0_hw2 => k0_hw2.2.2.2.2.2.1
theorem k0_dev77_lt : ∀ (v6 : BitVec 32) (k0_hw2 : k0_chk2 v6), (k0_dev77 v6) < nD := fun v6 k0_hw2 => k0_hw2.2.2.2.2.2.2.1
theorem k0_dev78_lt : ∀ (v6 : BitVec 32) (k0_hw2 : k0_chk2 v6), (k0_dev78 v6) < nD := fun v6 k0_hw2 => k0_hw2.2.2.2.2.2.2.2.1
theorem k0_dev81_lt : ∀ (v6 : BitVec 32) (k0_hw2 : k0_chk2 v6), (k0_dev81 v6) < nD := fun v6 k0_hw2 => k0_hw2.2.2.2.2.2.2.2.2.1
theorem k0_dev82_lt : ∀ (v6 : BitVec 32) (k0_hw2 : k0_chk2 v6), (k0_dev82 v6) < nD := fun v6 k0_hw2 => k0_hw2.2.2.2.2.2.2.2.2.2.1
theorem k0_dev85_lt : ∀ (v6 : BitVec 32) (k0_hw2 : k0_chk2 v6), (k0_dev85 v6) < nD := fun v6 k0_hw2 => k0_hw2.2.2.2.2.2.2.2.2.2.2.1
theorem k0_dev86_lt : ∀ (v6 : BitVec 32) (k0_hw2 : k0_chk2 v6), (k0_dev86 v6) < nD := fun v6 k0_hw2 => k0_hw2.2.2.2.2.2.2.2.2.2.2.2.1
theorem k0_dev89_lt : ∀ (v6 : BitVec 32) (k0_hw2 : k0_chk2 v6), (k0_dev89 v6) < nD := fun v6 k0_hw2 => k0_hw2.2.2.2.2.2.2.2.2.2.2.2.2.1
theorem k0_dev90_lt : ∀ (v6 : BitVec 32) (k0_hw2 : k0_chk2 v6), (k0_dev90 v6) < nD := fun v6 k0_hw2 => k0_hw2.2.2.2.2.2.2.2.2.2.2.2.2.2.1
theorem k0_dev93_lt : ∀ (v6 : BitVec 32) (k0_hw2 : k0_chk2 v6), (k0_dev93 v6) < nD := fun v6 k0_hw2 => k0_hw2.2.2.2.2.2.2.2.2.2.2.2.2.2.2.1
theorem k0_dev94_lt : ∀ (v6 : BitVec 32) (k0_hw2 : k0_chk2 v6), (k0_dev94 v6) < nD := fun v6 k0_hw2 => k0_hw2.2.2.2.2.2.2.2.2.2.2.2.2.2.2.2.1
theorem k0_dev97_lt : ∀ (v6 : BitVec 32) (k0_hw2 : k0_chk2 v6), (k0_dev97 v6) < nD := fun v6 k0_hw2 => k0_hw2.2.2.2.2.2.2.2.2.2.2.2.2.2.2.2.2.1
theorem k0_dev98_lt : ∀ (v6 : BitVec 32) (k0_hw2 : k0_chk2 v6), (k0_dev98 v6) < nD := fun v6 k0_hw2 => k0_hw2.2.2.2.2.2.2.2.2.2.2.2.2.2.2.2.2.2.1
theorem k0_dev101_lt : ∀ (v6 : BitVec 32) (k0_hw2 : k0_chk2 v6), (k0_dev101 v6) < nD := fun v6 k0_hw2 => k0_hw2.2.2.2.2.2.2.2.2.2.2.2.2.2.2.2.2.2.2.1
theorem k0_dev102_lt : ∀ (v6 : BitVec 32) (k0_hw2 : k0_chk2 v6), (k0_dev102 v6) < nD := fun v6 k0_hw2 => k0_hw2.2.2.2.2.2.2.2.2.2.2.2.2.2.2.2.2.2.2.2.1
theorem k0_dev105_lt : ∀ (v6 : BitVec 32) (k0_hw2 : k0_chk2 v6), (k0_dev105 v6) < nD := fun v6 k0_hw2 => k0_hw2.2.2.2.2.2.2.2.2.2.2.2.2.2.2.2.2.2.2.2.2.1
theorem k0_dev106_lt : ∀ (v6 : BitVec 32) (k0_hw2 : k0_chk2 v6), (k0_dev106 v6) < nD := fun v6 k0_hw2 => k0_hw2.2.2.2.2.2.2.2.2.2.2.2.2.2.2.2.2.2.2.2.2.2.1
theorem k0_dev109_lt : ∀ (v6 : BitVec 32) (k0_hw2 : k0_chk2 v6), (k0_dev109 v6) < nD := fun v6 k0_hw2 => k0_hw2.2.2.2.2.2.2.2.2.2.2.2.2.2.2.2.2.2.2.2.2.2.2.1
theorem k0_dev110_lt : ∀ (v6 : BitVec 32) (k0_hw2 : k0_chk2 v6), (k0_dev110 v6) < nD := fun v6 k0_hw2 => k0_hw2.2.2.2.2.2.2.2.2.2.2.2.2.2.2.2.2.2.2.2.2.2.2.2.1
theorem k0_dev113_lt : ∀ (v6 : BitVec 32) (k0_hw2 : k0_chk2 v6), (k0_dev113 v6) < nD := fun v6 k0_hw2 => k0_hw2.2.2.2.2.2.2.2.2.2.2.2.2.2.2.2.2.2.2.2.2.2.2.2.2.1
theorem k0_dev114_lt : ∀ (v6 : BitVec 32) (k0_hw2 : k0_chk2 v6), (k0_dev114 v6) < nD := fun v6 k0_hw2 => k0_hw2.2.2.2.2.2.2.2.2.2.2.2.2.2.2.2.2.2.2.2.2.2.2.2.2.2.1
theorem k0_dev117_lt : ∀ (v6 : BitVec 32) (k0_hw2 : k0_chk2 v6), (k0_dev117 v6) < nD := fun v6 k0_hw2 => k0_hw2.2.2.2.2.2.2.2.2.2.2.2.2.2.2.2.2.2.2.2.2.2.2.2.2.2.2.1
theorem k0_dev118_lt : ∀ (v6 : BitVec 32) (k0_hw2 : k0_chk2 v6), (k0_dev118 v6) < nD := fun v6 k0_hw2 => k0_hw2.2.2.2.2.2.2.2.2.2.2.2.2.2.2.2.2.2.2.2.2.2.2.2.2.2.2.2.1
theorem k0_dev121_lt : ∀ (v6 : BitVec 32) (k0_hw2 : k0_chk2 v6), (k0_dev121 v6) < nD := fun v6 k0_hw2 => k0_hw2.2.2.2.2.2.2.2.2.2.2.2.2.2.2.2.2.2.2.2.2.2.2.2.2.2.2.2.2.1
theorem k0_dev122_lt : ∀ (v6 : BitVec 32) (k0_hw2 : k0_chk2 v6), (k0_dev122 v6) < nD := fun v6 k0_hw2 => k0_hw2.2.2.2.2.2.2.2.2.2.2.2.2.2.2.2.2.2.2.2.2.2.2.2.2.2.2.2.2.2.1
theorem k0_dev125_lt : ∀ (v6 : BitVec 32) (k0_hw2 : k0_chk2 v6), (k0_dev125 v6) < nD := fun v6 k0_hw2 => k0_hw2.2.2.2.2.2.2.2.2.2.2.2.2.2.2.2.2.2.2.2.2.2.2.2.2.2.2.2.2.2.2.1
theorem k0_dev126_lt : ∀ (v6 : BitVec 32) (k0_hw2 : k0_chk2 v6), (k0_dev126 v6) < nD := fun v6 k0_hw2 => k0_hw2.2.2.2.2.2.2.2.2.2.2.2.2.2.2.2.2.2.2.2.2.2.2.2.2.2.2.2.2.2.2.2

def k0_off251 (d0 : Dev nD) : Fin 2 → Nat :=
  let c0_3504 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3456 : Index := Scalar.indexCast v2
  ![0, v3456.toNat]
def k0_off252 (v3457 : BitVec 32) : Fin 2 → Nat :=
  let c128_i32_3505 : BitVec 32 := 128#32
  let v3458 : BitVec 32 := Scalar.muli v3457 c128_i32_3505
  let c0_i32_3506 : BitVec 32 := 0#32
  let v3459 : BitVec 32 := Scalar.addi v3458 c0_i32_3506
  let v3460 : Index := Scalar.indexCast v3459
  let c0_3507 : Index := 0#32
  ![v3460.toNat, 0]

def k0_chk127 (v3457 : BitVec 32) : Prop :=
  (∀ a, (k0_off252 v3457) a + S64x128.size a ≤ S4096x128.size a)
theorem k0_off252_inb : ∀ (v3457 : BitVec 32) (k0_hw127 : k0_chk127 v3457), ∀ a, (k0_off252 v3457) a + S64x128.size a ≤ S4096x128.size a := fun v3457 k0_hw127 => k0_hw127

def k0_off253 (d0 : Dev nD) : Fin 2 → Nat :=
  let c0_3525 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3478 : Index := Scalar.indexCast v2
  ![0, v3478.toNat]
def k0_off254 (v3479 : BitVec 32) : Fin 2 → Nat :=
  let c128_i32_3526 : BitVec 32 := 128#32
  let v3480 : BitVec 32 := Scalar.muli v3479 c128_i32_3526
  let c64_i32_3527 : BitVec 32 := 64#32
  let v3481 : BitVec 32 := Scalar.addi v3480 c64_i32_3527
  let v3482 : Index := Scalar.indexCast v3481
  let c0_3528 : Index := 0#32
  ![v3482.toNat, 0]

def k0_chk128 (v3479 : BitVec 32) : Prop :=
  (∀ a, (k0_off254 v3479) a + S64x128.size a ≤ S4096x128.size a)
theorem k0_off254_inb : ∀ (v3479 : BitVec 32) (k0_hw128 : k0_chk128 v3479), ∀ a, (k0_off254 v3479) a + S64x128.size a ≤ S4096x128.size a := fun v3479 k0_hw128 => k0_hw128

def k0_off255 (d0 : Dev nD) : Fin 2 → Nat :=
  let c0_3546 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3500 : Index := Scalar.indexCast v2
  ![0, v3500.toNat]
def k0_off256 (v3501 : BitVec 32) : Fin 2 → Nat :=
  let c128_i32_3547 : BitVec 32 := 128#32
  let v3502 : BitVec 32 := Scalar.muli v3501 c128_i32_3547
  let c0_i32_3548 : BitVec 32 := 0#32
  let v3503 : BitVec 32 := Scalar.addi v3502 c0_i32_3548
  let v3504 : Index := Scalar.indexCast v3503
  let c0_3549 : Index := 0#32
  ![v3504.toNat, 0]

def k0_chk129 (v3501 : BitVec 32) : Prop :=
  (∀ a, (k0_off256 v3501) a + S64x128.size a ≤ S4096x128.size a)
theorem k0_off256_inb : ∀ (v3501 : BitVec 32) (k0_hw129 : k0_chk129 v3501), ∀ a, (k0_off256 v3501) a + S64x128.size a ≤ S4096x128.size a := fun v3501 k0_hw129 => k0_hw129

def k0_off257 (d0 : Dev nD) : Fin 2 → Nat :=
  let c0_3567 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3522 : Index := Scalar.indexCast v2
  ![0, v3522.toNat]
def k0_off258 (v3523 : BitVec 32) : Fin 2 → Nat :=
  let c128_i32_3568 : BitVec 32 := 128#32
  let v3524 : BitVec 32 := Scalar.muli v3523 c128_i32_3568
  let c64_i32_3569 : BitVec 32 := 64#32
  let v3525 : BitVec 32 := Scalar.addi v3524 c64_i32_3569
  let v3526 : Index := Scalar.indexCast v3525
  let c0_3570 : Index := 0#32
  ![v3526.toNat, 0]

def k0_chk130 (v3523 : BitVec 32) : Prop :=
  (∀ a, (k0_off258 v3523) a + S64x128.size a ≤ S4096x128.size a)
theorem k0_off258_inb : ∀ (v3523 : BitVec 32) (k0_hw130 : k0_chk130 v3523), ∀ a, (k0_off258 v3523) a + S64x128.size a ≤ S4096x128.size a := fun v3523 k0_hw130 => k0_hw130

abbrev stage0_0 : Fin 1 → Memref sig .tc .smem S32x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Ring.lean ====
module

public import proofs.«01_k».proof.Proof.Gen.KernelIdeal.Launch

/-!
# The kernel's body, written once over the step

The printed body is one straight run of nine thousand statements.  Here the same body is written as a
program with the ring's step, the fragment of rows and the direction as variables, and the two are shown
to be one program.
-/

@[expose] public section

noncomputable section

namespace Cert.KernelIdeal.Ring

open Idealize.ShloMosaic Idealize.ShloMosaic.TcCoe
open Idealize.SL.Sem
open Facts₀ Facts

variable {F : FTy → Type} [FloatOps F]

/-- The table of device numbers, staged in scalar memory. -/
abbrev tabM : Memref sig .tc .smem S32x32 .i32 := Memref.whole cc0_stg0_0
/-- The device's columns of `x`. -/
abbrev xM : Memref sig .tc .vmem S4096x128 .f32 := Memref.whole cc0_stg1_0
/-- The device's rows of `w`. -/
abbrev wM : Memref sig .tc .vmem S128x2048 .f32 := Memref.whole cc0_stg2_0
/-- The device's block of the result. -/
abbrev oM : Memref sig .tc .vmem S128x2048 .f32 := Memref.whole cc0_stg3_0

/-- The buffer of accumulators of a direction: `false` runs along the cycle, `true` against it. -/
abbrev comM : Bool → Memref sig .tc .vmem S32x128x1024 .f32
  | false => Memref.whole cc0_scratch0
  | true => Memref.whole cc0_scratch1

/-- A fragment lies inside the buffer. -/
theorem frag_inb (n : Fin 32) (f : Fin 2) (a : Fin 3) :
    (![n.val, 64 * f.val, 0] : Fin 3 → Nat) a + S1x64x1024.size a ≤ S32x128x1024.size a := by
  revert n f a; decide

/-- Fragment `f` (64 rows) of slot `n` of a buffer of accumulators, as a rectangle. -/
abbrev fragR (n : Fin 32) (f : Fin 2) : Rect S32x128x1024 :=
  Rect.unit (s := S32x128x1024) ![n.val, 64 * f.val, 0] S1x64x1024.size (frag_inb n f)

/-- The same fragment, as the view the copies move. -/
abbrev fragV (z : Bool) (n : Fin 32) (f : Fin 2) : Memref sig .tc .vmem S64x1024 .f32 :=
  ((comM z).slice (fragR n f) (fun _ => rfl)).squeeze S64x1024 squeezes_S1x64x1024_S64x1024

/-- Column offset of the half of `w` a direction works on. -/
abbrev colOff : Bool → Nat
  | false => 0
  | true => 1024

theorem half_inb (z : Bool) (a : Fin 2) :
    (![0, colOff z] : Fin 2 → Nat) a + S128x1024.size a ≤ S128x2048.size a := by
  revert z a; decide

/-- A direction's half of the columns. -/
abbrev halfR (z : Bool) : Rect S128x2048 :=
  Rect.unit (s := S128x2048) ![0, colOff z] S128x1024.size (half_inb z)

theorem last_inb (a : Fin 3) :
    (![31, 0, 0] : Fin 3 → Nat) a + S1x128x1024.size a ≤ S32x128x1024.size a := by
  revert a; decide

/-- The last slot, whole. -/
abbrev lastR : Rect S32x128x1024 :=
  Rect.unit (s := S32x128x1024) ![31, 0, 0] S1x128x1024.size last_inb

/-- The column of the table a device reads: its own number, as the kernel computes it. -/
abbrev tabCol (d : Dev nD) : Nat :=
  (Scalar.indexCast (Scalar.remsi (Scalar.divsi (Dev.word d) 1#32) 32#32) : Index).toNat

theorem tab_inb (n : Fin 32) (d : Dev nD) (a : Fin 2) :
    (![n.val, tabCol d] : Fin 2 → Nat) a + S1x1.size a ≤ S32x32.size a := by
  revert n d a; decide +kernel

/-- The table's entry in row `n` for this device. -/
abbrev tabR (n : Fin 32) (d : Dev nD) : Rect S32x32 :=
  Rect.unit (s := S32x32) ![n.val, tabCol d] S1x1.size (tab_inb n d)

/-- First row of fragment `f` of the row block a table word names. -/
abbrev rowOff (v : BitVec 32) (f : Fin 2) : Fin 2 → Nat :=
  ![(Scalar.indexCast (Scalar.addi (Scalar.muli v 128#32) (BitVec.ofNat 32 (64 * f.val))) : Index).toNat, 0]

/-- The rows a table word names lie in `x`. -/
def RowOk (v : BitVec 32) (f : Fin 2) : Prop :=
  (∀ a, rowOff v f a + S64x128.size a ≤ S4096x128.size a)

instance RowOk.dec : ∀ (v : BitVec 32) (f : Fin 2), Decidable (RowOk v f) :=
  fun v f => decidable_of_iff' _ (Iff.of_eq (RowOk.eq_1 v f))

/-- The 64 rows of `x` a table word names. -/
abbrev rowR (v : BitVec 32) (f : Fin 2) (h : RowOk v f) : Rect S4096x128 :=
  Rect.unit (s := S4096x128) (rowOff v f) S64x128.size h

/-- The DMA semaphore of direction `z`, step `s`, fragment `f`; `r` is 0 for the sender's, 1 for the receiver's. -/
theorem semIx_le (z : Bool) (s : Fin 31) (f r : Fin 2) :
    (4 + (((z.toNat * 31 + s.val) * 2 + f.val) * 2 + r.val)) + S_.numel ≤ 252 := by
  have h1 : S_.numel = 1 := by decide
  have h2 : z.toNat ≤ 1 := by cases z <;> decide
  omega

abbrev semA (z : Bool) (s : Fin 31) (f r : Fin 2) : DmaSems sig S_ :=
  SemArray.consecutive (4 + (((z.toNat * 31 + s.val) * 2 + f.val) * 2 + r.val)) S_ (semIx_le z s f r)

/-- One device's product for one fragment. -/
def prodOf (x : Vec F S64x128 .f32) (w : Vec F S128x1024 .f32) : FVec F S64x1024 .f32 :=
  matmul dot_S64x128_S128x1024_S64x1024_1_0_0_1_n_n none
    (shapeCast S64x128 x shapeCasts_S64x128_S64x128)
    (shapeCast S128x1024 w shapeCasts_S128x1024_S128x1024) (constant S64x1024 .f32 0x00000000#32)

/-- What the first stores write. -/
def firstOf (x : Vec F S64x128 .f32) (w : Vec F S128x1024 .f32) : FVec F S1x64x1024 .f32 :=
  shapeCast S1x64x1024 (prodOf x w) shapeCasts_S64x1024_S1x64x1024

/-- What a step's store writes: the accumulator that arrived plus this device's product. -/
def accOf (a : Vec F S1x64x1024 .f32) (x : Vec F S64x128 .f32) (w : Vec F S128x1024 .f32) :
    FVec F S1x64x1024 .f32 :=
  shapeCast S1x64x1024 (addf (shapeCast S64x1024 a shapeCasts_S1x64x1024_S64x1024) (prodOf x w))
    shapeCasts_S64x1024_S1x64x1024

/-- What the result's half is: the last accumulator through `y * logistic y`. -/
def outOf (a : Vec F S1x128x1024 .f32) : FVec F S128x1024 .f32 :=
  mulf (shapeCast S128x1024 a shapeCasts_S1x128x1024_S128x1024)
    (logistic (shapeCast S128x1024 a shapeCasts_S1x128x1024_S128x1024))

/-- The programs of the body. -/
abbrev 𝔅 (F : FTy → Type) [FloatOps F] := Prog (TpuEff nD τ sig (Elt F) Λ₀ .tc) PUnit

/-- Read the table's entry in row `n` and check that its rows lie in `x`. -/
def word (n : Fin 32) (d : Dev nD) (f : Fin 2)
    (k : (v : Elt F .i32) → RowOk v f → 𝔅 F) : 𝔅 F := do
  let v : Elt F .i32 ← smemLoad tabM (tabR n d) numel1_S1x1 rfl
  have h : RowOk v f := (← Prog.lift (TpuEff.assume (RowOk v f) (RowOk.dec v f))).down
  k v h

/-- The first product of a direction and fragment, written to slot 0. -/
def first (d : Dev nD) (z : Bool) (f : Fin 2) (n : Fin 32) (k : 𝔅 F) : 𝔅 F :=
  word n d f fun v h => do
    let x : Vec F S64x128 .f32 ← Prog.lift (.load xM (rowR v f h).toLoadRect (View.loadsAt_vmem h_S64x128))
    let w : Vec F S128x1024 .f32 ← Prog.lift (.load wM (halfR z).toLoadRect (View.loadsAt_vmem h_S128x1024))
    let _ : Vec F S1x64x1024 .f32 ← Prog.lift (.load (comM z) (fragR 0 f).toLoadRect (View.loadsAt_vmem h_S1x64x1024))
    Prog.lift (.store (comM z) (fragR 0 f) (firstOf x w) Finset.univ (View.stores_vmem_bits_univ h_S1x64x1024 rfl) (.inl rfl))
    k

/-- The device a table word names, as a copy's or a signal's address. -/
abbrev devOf (v : BitVec 32) : Nat :=
  (Scalar.addi 0#32 (Scalar.muli v 1#32)).toNat

/-- Start the copy of step `s`: slot `s` here to slot `s + 1` of the neighbour. -/
def send (z : Bool) (s : Fin 31) (f : Fin 2) (v : BitVec 32) (h : devOf v < nD) (k : 𝔅 F) : 𝔅 F := do
  Prog.lift (.enqueueDma (fragV z s.castSucc f)
    (.remote (Dev.tc (⟨devOf v, h⟩ : Dev nD)) (fragV z s.succ f) (.dma (semA z s f 0).sem)) (.dma (semA z s f 1).sem)
    ((View.wordExact_bits rfl).reshape _ _) ((View.wordExact_bits rfl).reshape _ _) ⟨⟨rfl, Or.inl rfl⟩, trivial⟩)
  k

/-- The table's row a direction reads at step `s`. -/
abbrev rowAt (z : Bool) (s : Fin 31) : Fin 32 :=
  match z with
  | false => ⟨30 - s.val, by omega⟩
  | true => ⟨(s.val + 2) % 32, by omega⟩

/-- Receive step `s`'s accumulator and add this device's product to it. -/
def recv (d : Dev nD) (z : Bool) (s : Fin 31) (f : Fin 2) (k : 𝔅 F) : 𝔅 F := do
  Prog.lift (.waitDma2 (semA z s f 1).sem (fragV z s.castSucc f) (fragV z s.succ f)
    ((View.wordExact_bits rfl).reshape _ _) ((View.wordExact_bits rfl).reshape _ _))
  let a : Vec F S1x64x1024 .f32 ← Prog.lift (.load (comM z) (fragR s.succ f).toLoadRect (View.loadsAt_vmem h_S1x64x1024))
  word (rowAt z s) d f fun v h => do
    let x : Vec F S64x128 .f32 ← Prog.lift (.load xM (rowR v f h).toLoadRect (View.loadsAt_vmem h_S64x128))
    let w : Vec F S128x1024 .f32 ← Prog.lift (.load wM (halfR z).toLoadRect (View.loadsAt_vmem h_S128x1024))
    let _ : Vec F S1x64x1024 .f32 ← Prog.lift (.load (comM z) (fragR s.succ f).toLoadRect (View.loadsAt_vmem h_S1x64x1024))
    Prog.lift (.store (comM z) (fragR s.succ f) (accOf a x w) Finset.univ (View.stores_vmem_bits_univ h_S1x64x1024 rfl) (.inl rfl))
    k

/-- One fragment's step: receive, add, and start the next step's copy if there is one. -/
def hop (d : Dev nD) (z : Bool) (s : Fin 31) (f : Fin 2) (v : BitVec 32) (h : devOf v < nD) (k : 𝔅 F) : 𝔅 F :=
  recv d z s f (if g : s.val + 1 < 31 then send z ⟨s.val + 1, g⟩ f v h k else k)

/-- The last `n` steps, in order. -/
def hops (d : Dev nD) (v4 v6 : BitVec 32) (h4 : devOf v4 < nD) (h6 : devOf v6 < nD) (k : 𝔅 F) :
    (n : Nat) → 𝔅 F
  | 0 => k
  | n + 1 =>
    hop d false ⟨30 - n, by omega⟩ 0 v4 h4 <| hop d false ⟨30 - n, by omega⟩ 1 v4 h4 <|
    hop d true ⟨30 - n, by omega⟩ 0 v6 h6 <| hop d true ⟨30 - n, by omega⟩ 1 v6 h6 <|
    hops d v4 v6 h4 h6 k n

/-- Wait until a copy of this device's has been read out. -/
def drain (z : Bool) (s : Fin 31) (f : Fin 2) (k : 𝔅 F) : 𝔅 F := do
  Prog.lift (.waitDma2 (semA z s f 0).sem (fragV z s.succ f) (fragV z s.castSucc f)
    ((View.wordExact_bits rfl).reshape _ _) ((View.wordExact_bits rfl).reshape _ _))
  k

/-- The last `n` steps' sends, in order. -/
def drains (k : 𝔅 F) : (n : Nat) → 𝔅 F
  | 0 => k
  | n + 1 =>
    drain false ⟨30 - n, by omega⟩ 0 <| drain true ⟨30 - n, by omega⟩ 0 <|
    drain false ⟨30 - n, by omega⟩ 1 <| drain true ⟨30 - n, by omega⟩ 1 <|
    drains k n

/-- The result's two halves from the last slots. -/
def finish : 𝔅 F := do
  let a : Vec F S1x128x1024 .f32 ← Prog.lift (.load (comM false) lastR.toLoadRect (View.loadsAt_vmem h_S1x128x1024))
  let b : Vec F S1x128x1024 .f32 ← Prog.lift (.load (comM true) lastR.toLoadRect (View.loadsAt_vmem h_S1x128x1024))
  let _ : Vec F S128x1024 .f32 ← Prog.lift (.load oM (halfR false).toLoadRect (View.loadsAt_vmem h_S128x1024))
  Prog.lift (.store oM (halfR false) (outOf a) Finset.univ (View.stores_vmem_bits_univ h_S128x1024 rfl) (.inl rfl))
  let _ : Vec F S128x1024 .f32 ← Prog.lift (.load oM (halfR true).toLoadRect (View.loadsAt_vmem h_S128x1024))
  Prog.lift (.store oM (halfR true) (outOf b) Finset.univ (View.stores_vmem_bits_univ h_S128x1024 rfl) (.inl rfl))
  pure ⟨⟩

/-- Read who the neighbours are, and meet both at the barrier. -/
def meet (k : (d : Dev nD) → (v4 v6 : BitVec 32) → devOf v4 < nD → devOf v6 < nD → 𝔅 F) : 𝔅 F := do
  let d : Dev nD ← Prog.lift .deviceId
  let v4 : Elt F .i32 ← smemLoad tabM (tabR 1 d) numel1_S1x1 rfl
  have h4 : k0_chk1 v4 := (← Prog.lift (TpuEff.assume (k0_chk1 v4) (k0_chk1.dec v4))).down
  let v6 : Elt F .i32 ← smemLoad tabM (tabR 31 d) numel1_S1x1 rfl
  have h6 : k0_chk2 v6 := (← Prog.lift (TpuEff.assume (k0_chk2 v6) (k0_chk2.dec v6))).down
  semSignalWord (⟨devOf v4, k0_dev1_lt v4 h4⟩ : Dev nD) (sig.barrier 0 rfl) 1#32
  semSignalWord (⟨devOf v6, k0_dev2_lt v6 h6⟩ : Dev nD) (sig.barrier 0 rfl) 1#32
  semWaitWord (sig.barrier 0 rfl) 2#32
  k d v4 v6 (k0_dev1_lt v4 h4) (k0_dev2_lt v6 h6)

/-- The body. -/
def body : 𝔅 F :=
  meet fun d v4 v6 h4 h6 =>
    first d false 0 31 <| first d false 1 31 <| first d true 0 1 <| first d true 1 1 <|
    send false 0 0 v4 h4 <| send true 0 0 v6 h6 <| send false 0 1 v4 h4 <| send true 0 1 v6 h6 <|
    hops d v4 v6 h4 h6 (drains finish 31) 31

/-- The printed body is this one. -/
theorem body_eq (t : Fin cfg0.N) :
    defs₀ (F := F) .tc cfg0.body (cfg0.bodyArgs t (cfg0.slots t)) = body := by
  chain_rfl

end Cert.KernelIdeal.Ring
-- ==== Proof.Table.lean ====
module

public import proofs.«01_k».proof.Proof.Ring

/-!
# The table of device numbers

The table's row `n` holds, at each device, the device that lies `n` places further on the cycle.  Row 1
is the device a copy of the first direction goes to, row 31 that of the other.
-/

@[expose] public section

noncomputable section

namespace Cert.KernelIdeal.Ring

open Idealize.ShloMosaic Idealize.ShloMosaic.TcCoe
open Idealize.SL.Sem
open Facts₀ Facts

variable {F : FTy → Type} [FloatOps F]

/-- The table's word in row `n` and column `d`. -/
def tw (n : Fin 32) (d : Dev nD) : BitVec 32 := lit0 ⟨32 * n.val + d.val, by have := n.isLt; have : d.val < 32 := d.isLt; show _ < 1024; omega⟩

theorem tw_lt (n : Fin 32) (d : Dev nD) : (tw n d).toNat < 32 := by
  revert n d; decide +kernel

/-- The device that lies `n` places on. -/
def at' (n : Fin 32) (d : Dev nD) : Dev nD := ⟨(tw n d).toNat, tw_lt n d⟩

theorem rowOk (n : Fin 32) (d : Dev nD) (f : Fin 2) : RowOk (tw n d) f := by
  revert n d f; decide +kernel

theorem chk1 (d : Dev nD) : k0_chk1 (tw 1 d) := by revert d; decide +kernel
theorem chk2 (d : Dev nD) : k0_chk2 (tw 31 d) := by revert d; decide +kernel

theorem devOf_tw (n : Fin 32) (d : Dev nD) : devOf (tw n d) = (at' n d).val := by
  revert n d; decide +kernel

/-- First row of the fragment, as a number. -/
theorem rowOff_tw (n : Fin 32) (d : Dev nD) (f : Fin 2) :
    rowOff (tw n d) f = ![128 * (at' n d).val + 64 * f.val, 0] := by
  revert n d f; decide +kernel

theorem tabCol_eq (d : Dev nD) : tabCol d = d.val := by revert d; decide +kernel

/-- The row of the table that names the device a direction sends to. -/
abbrev rowDn : Bool → Fin 32
  | false => 1
  | true => 31

/-- The device a direction sends to. -/
def dn (z : Bool) (d : Dev nD) : Dev nD := at' (rowDn z) d
/-- The device a direction receives from. -/
def up (z : Bool) (d : Dev nD) : Dev nD := at' (rowDn (!z)) d

theorem dn_up (z : Bool) (d : Dev nD) : dn z (up z d) = d := by revert z d; decide +kernel
theorem up_dn (z : Bool) (d : Dev nD) : up z (dn z d) = d := by revert z d; decide +kernel
theorem up_eq (z : Bool) (d : Dev nD) : up z d = dn (!z) d := rfl

/-- Sending, as a permutation of the devices. -/
def along (z : Bool) : Dev nD ≃ Dev nD := ⟨dn z, up z, up_dn z, dn_up z⟩

theorem at_zero (d : Dev nD) : at' 0 d = d := by revert d; decide +kernel
/-- One place on, then `n` places on, is `n + 1` places on. -/
theorem at_up (n : Fin 32) (z : Bool) (d : Dev nD) :
    at' n (up z d) = at' (n + rowDn (!z)) d := by revert n z d; decide +kernel
theorem at_inj (d : Dev nD) : Function.Injective fun n => at' n d := by
  revert d; unfold Function.Injective; decide +kernel

/-- What the scalar memory holds: the table. -/
abbrev tabC : cc0_stg0_0.ty.Contents (Elt F) := fun i => lit0 (S32x32.rowMajor i)

/-- Reading the table in row `n` at the device's own column gives the word. -/
theorem read_tab (n : Fin 32) (d : Dev nD) :
    ((tabM.access (tabR n d)).read (Elt F) (tabC (F := F))) (Shape.Idx.first (numel1_S1x1.symm ▸ Nat.one_pos)) = tw n d := by
  show lit0 (S32x32.rowMajor ((tabR n d).point numel1_S1x1)) = _
  unfold tw
  congr 1
  exact Fin.ext (by revert n d; decide +kernel)

end Cert.KernelIdeal.Ring
-- ==== Proof.Protocol.lean ====
module

public import proofs.«01_k».proof.Proof.Table
public import Idealize.ShloMosaic.Lib.Rounds
public import Idealize.ShloMosaic.Lib.Tactic
public import Idealize.ShloMosaic.Lib.Pipeline.RegionTalk

/-!
# The protocol of the ring

Who waits on which semaphore, who pays it, and what a landing hands over.

* The barrier of a device is paid one unit by each neighbour.  The neighbour a direction sends to hands
  over, with its unit, the slots 1 to 31 of its buffer of that direction: the places the device's copies
  land in.
* The receive semaphore of direction `z`, step `s`, fragment `f` is paid by the copy of the neighbour the
  direction comes from.  The landing hands over the fragment of slot `s + 1`, holding the accumulator the
  neighbour had in slot `s`.
* The send semaphore is paid by the device's own copy, and hands the fragment of slot `s` back.

Every one of these semaphores serves one round.  A wait of step `s` sits below everything the device
still owes then, which are receive units of later steps.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## What a device works on -/

/-- Every device's columns of `x` and rows of `w`. -/
structure Inp (F : FTy → Type) [FloatOps F] where
  X : Dev nD → Vec F S4096x128 .f32
  W : Dev nD → Vec F S128x2048 .f32

/-- The 64 rows of `x` on device `c` that the table's row `n` names. -/
def xr (I : Inp F) (n : Fin 32) (c : Dev nD) (f : Fin 2) : Vec F S64x128 .f32 :=
  (xM.access (rowR (tw n c) f (rowOk n c f))).read (Elt F) (I.X c)

/-- A direction's half of `w` on device `c`. -/
def wr (I : Inp F) (z : Bool) (c : Dev nD) : Vec F S128x1024 .f32 :=
  (wM.access (halfR z)).read (Elt F) (I.W c)

/-- The table's row a direction starts with. -/
abbrev row0 : Bool → Fin 32
  | false => 31
  | true => 1

/-- The table's row a direction reads after step `n`. -/
abbrev rowN (z : Bool) (n : ℕ) : Fin 32 :=
  match z with
  | false => ⟨30 - n, by omega⟩
  | true => ⟨(n + 2) % 32, by omega⟩

/-- What slot `n` of a direction holds on a device once the device has added its own product. -/
def acc (I : Inp F) (z : Bool) (f : Fin 2) : ℕ → Dev nD → Vec F S1x64x1024 .f32
  | 0, c => firstOf (xr I (row0 z) c f) (wr I z c)
  | n + 1, c => accOf (acc I z f n (up z c)) (xr I (rowN z n) c f) (wr I z c)

/-! ## The resource algebra -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Cells -/

/-- Direction, step, fragment. -/
abbrev Hop := Bool × Fin 31 × Fin 2

abbrev barS : Sem sig := sig.barrier 0 rfl

/-- The semaphore of a hop: its sender's (`r = 0`) or its receiver's (`r = 1`). -/
def hsem (h : Hop) (r : Fin 2) : DmaSem sig := (semA h.1 h.2.1 h.2.2 r).sem

theorem hsem_val (h : Hop) (r : Fin 2) :
    (hsem h r).val = 4 + (((h.1.toNat * 31 + h.2.1.val) * 2 + h.2.2.val) * 2 + r.val) := by
  show _ + _ = _
  have h1 : (S_.rowMajor (fun i => i.elim0)).val < S_.numel := (S_.rowMajor _).isLt
  have h2 : S_.numel = 1 := by decide
  omega

/-- The hop a semaphore serves. -/
def hopOf (k : ℕ) : Hop :=
  (decide (31 ≤ (k - 4) / 4), ⟨(k - 4) / 4 % 31, Nat.mod_lt _ (by decide)⟩, ⟨(k - 4) / 2 % 2, Nat.mod_lt _ (by decide)⟩)

theorem hopOf_hsem (h : Hop) (r : Fin 2) : hopOf (hsem h r).val = h := by
  obtain ⟨z, s, f⟩ := h
  have hs := s.isLt; have hf := f.isLt; have hr := r.isLt
  rw [hsem_val]
  refine Prod.ext ?_ (Prod.ext (Fin.ext ?_) (Fin.ext ?_))
  · cases z
    · show decide _ = false
      refine decide_eq_false ?_
      dsimp only [Bool.toNat_false]; omega
    · show decide _ = true
      refine decide_eq_true ?_
      dsimp only [Bool.toNat_true]; omega
  · cases z
    · dsimp only [hopOf, Bool.toNat_false]; omega
    · dsimp only [hopOf, Bool.toNat_true]; omega
  · cases z
    · dsimp only [hopOf, Bool.toNat_false]; omega
    · dsimp only [hopOf, Bool.toNat_true]; omega

theorem hsem_end (h : Hop) (r : Fin 2) : (hsem h r).val % 2 = r.val := by
  rw [hsem_val]; have := r.isLt; omega

theorem hsem_four (h : Hop) (r : Fin 2) : 4 ≤ (hsem h r).val := by rw [hsem_val]; omega

theorem hsem_inj {h h' : Hop} {r r' : Fin 2} (e : hsem h r = hsem h' r') : h = h' ∧ r = r' := by
  refine ⟨?_, Fin.ext ?_⟩
  · rw [← hopOf_hsem h r, e, hopOf_hsem]
  · rw [← hsem_end h r, e, hsem_end]

abbrev barCell (c : Dev nD) : GSem nD τ sig := ((c : Thread nD τ), .reg barS)
abbrev qcell (c : Dev nD) (h : Hop) (r : Fin 2) : GSem nD τ sig := ((c : Thread nD τ), .dma (hsem h r))

theorem qcell_inj {c c' : Dev nD} {h h' : Hop} {r r' : Fin 2} (e : qcell c h r = qcell c' h' r') : c = c' ∧ h = h' ∧ r = r' := by
  refine ⟨congrArg (fun g : GSem nD τ sig => g.1.1) e, ?_⟩
  have e2 : SemLoc.dma (hsem h r) = SemLoc.dma (hsem h' r') := congrArg Prod.snd e
  exact hsem_inj (SemLoc.dma.inj e2)

/-- The units of one fragment's copy. -/
def N : ℕ := (fragV false 0 0).view.dmaCredit
theorem N_pos : 0 < N := View.dmaCredit_pos _ (by decide)
theorem credit_eq (z : Bool) (n : Fin 32) (f : Fin 2) : (fragV z n f).view.dmaCredit = N := by cases z <;> rfl

/-! ## Fragments held -/

/-- The fragment as the loads and stores name it. -/
abbrev fragA (z : Bool) (n : Fin 32) (f : Fin 2) : View sig .tc .vmem S1x64x1024 .f32 := (comM z).access (fragR n f)

/-- A device holds a fragment, at the given buffer contents. -/
def fragPts (c : Dev nD) (z : Bool) (n : Fin 32) (f : Fin 2) (g : Buf (Elt F) ((fragA z n f).loc (c : Thread nD τ))) : sProp 𝕄 :=
  (fragA z n f).loc (c : Thread nD τ) ↦[(fragA z n f).set]{fullShare} g

/-- A device holds a fragment, at contents not chosen. -/
def fragAny (c : Dev nD) (z : Bool) (n : Fin 32) (f : Fin 2) : sProp 𝕄 := iprop(∃ g, fragPts c z n f g)

/-- A device holds a fragment that reads `a`. -/
def fragAt (c : Dev nD) (z : Bool) (n : Fin 32) (f : Fin 2) (a : Vec F S1x64x1024 .f32) : sProp 𝕄 :=
  iprop(∃ g, ⌜(fragA z n f).read (Elt F) g = a⌝ ∗ fragPts c z n f g)

theorem fragAt_any (c : Dev nD) (z : Bool) (n : Fin 32) (f : Fin 2) (a : Vec F S1x64x1024 .f32) :
    (fragAt c z n f a : sProp 𝕄) ⊢ fragAny c z n f := by
  unfold fragAt fragAny
  iintro ⟨%g, -, H⟩; iexists g; iexact H

/-! ## The schedule -/

/-- The places a direction's copies land in on device `d`, and that its receive semaphores stand at round 0. -/
def lands (z : Bool) (d : Dev nD) : sProp 𝕄 :=
  bigSep Finset.univ fun p : Fin 31 × Fin 2 => iprop(fragAny d z p.1.succ p.2 ∗ reached ER (qcell d (z, p) 1) 0)

def recvPay (I : Inp F) (h : Hop) (c : Dev nD) : sProp 𝕄 :=
  fragAt c h.1 h.2.1.succ h.2.2 (acc I h.1 h.2.2 h.2.1.val (up h.1 c))

def sendPay (h : Hop) (c : Dev nD) : sProp 𝕄 := fragAny c h.1 h.2.1.castSucc h.2.2

/-- The duties of a semaphore: two on a barrier, one on a hop's. -/
def dutiesOf : SemLoc sig → Finset Bool
  | .reg _ => Finset.univ
  | .dma k => if 4 ≤ k.val then {false} else ∅

def amountOf' : SemLoc sig → ℕ
  | .reg _ => 1
  | .dma _ => N

def payOf (I : Inp F) (c : Dev nD) (d : Bool) : SemLoc sig → sProp 𝕄
  | .reg _ => lands d (dn d c)
  | .dma k => if k.val % 2 = 1 then recvPay I (hopOf k.val) c else sendPay (hopOf k.val) c

def Rd (I : Inp F) : Rounds.Schedule (GSem nD τ sig) Bool 𝕄 where
  duties g r := if r = 0 ∧ g.1.2 = .tc then dutiesOf g.2 else ∅
  unitless _ := False
  amount g _ _ := amountOf' g.2
  payload g _ d := payOf I g.1.1 d g.2
  amount_pos g _ _ _ := by
    obtain ⟨t, s⟩ := g
    cases s
    · exact Nat.one_pos
    · exact N_pos

instance lands_storable (z : Bool) (d : Dev nD) : BI.Storable (upEmb : UEmb _ 𝕄) (lands (F := F) z d) := by
  unfold lands fragAny fragPts; infer_instance

instance Rd_storable (I : Inp F) (g : GSem nD τ sig) (r : ℕ) (d : Bool) :
    BI.Storable (upEmb : UEmb _ 𝕄) ((Rd I).payload g r d) := by
  show BI.Storable upEmb (payOf I g.1.1 d g.2)
  obtain ⟨t, s⟩ := g
  cases s
  · unfold payOf; infer_instance
  · unfold payOf recvPay sendPay fragAt fragAny fragPts
    dsimp only
    split <;> infer_instance

section Sched

variable (I : Inp F) (c : Dev nD) (h : Hop)

theorem duties_bar : (Rd I).duties (barCell c) 0 = Finset.univ := by
  dsimp only [Rd]; exact if_pos ⟨rfl, rfl⟩
theorem duties_hop (r : Fin 2) : (Rd I).duties (qcell c h r) 0 = {false} := by
  dsimp only [Rd, dutiesOf]; rw [if_pos ⟨rfl, rfl⟩, if_pos (hsem_four h r)]
theorem duties_later (g : GSem nD τ sig) : ∀ r, 1 ≤ r → (Rd I).duties g r = ∅ :=
  fun r hr => by dsimp only [Rd]; exact if_neg (fun e => by have := e.1; omega)

theorem amount_hop (r : Fin 2) (d : Bool) : (Rd I).amount (qcell c h r) 0 d = N := rfl
theorem amount_bar (d : Bool) : (Rd I).amount (barCell c) 0 d = 1 := rfl

theorem expect_bar : (Rd I).expect (barCell c) 0 = 2 := by
  unfold Schedule.expect Schedule.amountOf; rw [duties_bar]; rfl
theorem expect_hop (r : Fin 2) : (Rd I).expect (qcell c h r) 0 = N := by
  unfold Schedule.expect Schedule.amountOf; rw [duties_hop, Finset.sum_singleton, amount_hop]

theorem payload_bar (d : Bool) : (Rd I).payload (barCell c) 0 d = lands d (dn d c) := rfl
theorem payload_recv (d : Bool) : (Rd I).payload (qcell c h 1) 0 d = recvPay I h c := by
  show (if (hsem h 1).val % 2 = 1 then recvPay I (hopOf (hsem h 1).val) c else sendPay (hopOf (hsem h 1).val) c) = _
  rw [hsem_end, if_pos (by rfl), hopOf_hsem]
theorem payload_send (d : Bool) : (Rd I).payload (qcell c h 0) 0 d = sendPay h c := by
  show (if (hsem h 0).val % 2 = 1 then recvPay I (hopOf (hsem h 0).val) c else sendPay (hopOf (hsem h 0).val) c) = _
  rw [hsem_end, if_neg (by decide), hopOf_hsem]

theorem rest_bar : bigSep ((Rd I).duties (barCell c) 0 \ ∅) (fun d => (Rd I).payload (barCell c) 0 d)
    = iprop(lands false (dn false c) ∗ lands true (dn true c)) := by
  rw [Finset.sdiff_empty, duties_bar, show (Finset.univ : Finset Bool) = {false, true} from by decide,
    bigSep_insert (by decide), bigSep_singleton, payload_bar, payload_bar]
  rfl
theorem rest_recv : bigSep ((Rd I).duties (qcell c h 1) 0 \ ∅) (fun d => (Rd I).payload (qcell c h 1) 0 d) = recvPay I h c := by
  rw [Finset.sdiff_empty, duties_hop, bigSep_singleton, payload_recv]
theorem rest_send : bigSep ((Rd I).duties (qcell c h 0) 0 \ ∅) (fun d => (Rd I).payload (qcell c h 0) 0 d) = sendPay h c := by
  rw [Finset.sdiff_empty, duties_hop, bigSep_singleton, payload_send]

end Sched

/-! ## What a device owes, and the levels -/

/-- The receive units a device still owes when the hops `D` have been sent. -/
def owedHops (c : Dev nD) (D : Finset Hop) : CellTallies nD τ sig Unit :=
  ∑ h ∈ Finset.univ \ D, tallyAt (qcell (dn h.1 c) h 1) () N

/-- What a device owes at launch: every hop, and a unit to each neighbour's barrier. -/
def O₀ (c : Dev nD) : CellTallies nD τ sig Unit :=
  owedHops c ∅ + tallyAt (barCell (up false c)) () 1 + tallyAt (barCell (up true c)) () 1

theorem owedHops_send (c : Dev nD) (D : Finset Hop) (h : Hop) (hD : h ∉ D) :
    owedHops c D = owedHops c (insert h D) + tallyAt (qcell (dn h.1 c) h 1) () N := by
  unfold owedHops
  rw [Finset.sdiff_insert, Finset.sum_erase_add]
  exact Finset.mem_sdiff.mpr ⟨Finset.mem_univ _, hD⟩

theorem owedHops_all (c : Dev nD) : owedHops c Finset.univ = 0 := by
  unfold owedHops; rw [Finset.sdiff_self, Finset.sum_empty]

theorem owedHops_pos {c : Dev nD} {D : Finset Hop} {g : GSem nD τ sig} {u : Unit} (e : 0 < owedHops c D g u) :
    ∃ h, h ∉ D ∧ g = qcell (dn h.1 c) h 1 := by
  unfold owedHops at e
  rw [Finset.sum_apply, Finsupp.finset_sum_apply] at e
  obtain ⟨h, hm, hp⟩ := Finset.exists_ne_zero_of_sum_ne_zero (Nat.pos_iff_ne_zero.mp e)
  refine ⟨h, (Finset.mem_sdiff.mp hm).2, ?_⟩
  rw [tallyAt_apply] at hp
  by_contra hn
  exact hp (if_neg fun hh => hn hh.1)

def L (g : GSem nD τ sig) : Finset Unit := if g.1.2 = .tc then {()} else ∅

/-- Barriers at 1, a receive semaphore of step `s` at `2 + s`, the rest at 0. -/
def levOf : SemLoc sig → ℕ
  | .reg _ => 1
  | .dma k => if 4 ≤ k.val ∧ k.val % 2 = 1 then 2 + (hopOf k.val).2.1.val else 0

def lv (g : GSem nD τ sig) (_ : Unit) : ℕ := levOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (h : Hop) (u : Unit) : lv (qcell c h 1) u = 2 + h.2.1.val := by
  show (if 4 ≤ (hsem h 1).val ∧ (hsem h 1).val % 2 = 1 then 2 + (hopOf (hsem h 1).val).2.1.val else 0) = _
  rw [if_pos ⟨hsem_four h 1, hsem_end h 1⟩, hopOf_hsem]

/-- A device may wait on a semaphore of level below every hop it has still to send. -/
theorem mayWait (c : Dev nD) (sm : SemLoc sig) (D : Finset Hop) (n : ℕ) (hn : levOf sm ≤ n)
    (hD : ∀ h, h ∉ D → n < 2 + h.2.1.val) :
    (levAts L lv : sProp 𝕄) ⊢ MayWait (c : Thread nD τ) sm () (owedHops c D) :=
  MayOwe.of_cut (L := L) (lev := lv) n (fun p hp => by rw [Finset.mem_singleton.mp hp, L_tc]; exact Finset.mem_singleton_self _)
    (fun g u hg => by
      obtain ⟨h, _, rfl⟩ := owedHops_pos hg
      rw [L_tc]; exact Finset.mem_singleton_self _)
    (fun p hp => by rw [Finset.mem_singleton.mp hp]; exact hn)
    (fun g u hg => by
      obtain ⟨h, hh, rfl⟩ := owedHops_pos hg
      rw [lv_recv]; exact hD h hh)

abbrev 𝒱₀ : Variants := Variants.none

end Cert.KernelIdeal.Ring
-- ==== Proof.Steps.lean ====
module

public import proofs.«01_k».proof.Proof.Protocol

/-!
# The steps of the ring

What each piece of the body takes and leaves: a table word, the first product, a copy, a receipt, and the
wait for a copy's source.  The ledgers `sends`, `recvs` and `drained` hold what a device has for every hop,
before or after it.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## What stays in hand throughout -/

/-- Every semaphore's invariant, at the names the launch gave. -/
def invAll (I : Inp F) (K : GSem nD τ sig → ℕ) : sProp 𝕄 :=
  iprop((bigSep Finset.univ fun d : Dev nD => cellInv ER (Rd I) (K (barCell d)) (barCell d))
    ∗ bigSep Finset.univ fun q : Dev nD × Hop × Fin 2 => cellInv ER (Rd I) (K (qcell q.1 q.2.1 q.2.2)) (qcell q.1 q.2.1 q.2.2))

instance invAll_persistent (I : Inp F) (K : GSem nD τ sig → ℕ) : BI.Persistent (invAll I K) := by unfold invAll; infer_instance

theorem inv_bar (I : Inp F) (K : GSem nD τ sig → ℕ) (d : Dev nD) :
    invAll I K ⊢ (cellInv ER (Rd I) (K (barCell d)) (barCell d) : sProp 𝕄) := by
  have e := bigSep_elim (s := Finset.univ) (Φ := fun d : Dev nD => (cellInv ER (Rd I) (K (barCell d)) (barCell d) : sProp 𝕄)) (Finset.mem_univ d)
  unfold invAll
  exact sep_elim_left.trans e

theorem inv_hop (I : Inp F) (K : GSem nD τ sig → ℕ) (d : Dev nD) (h : Hop) (r : Fin 2) :
    invAll I K ⊢ (cellInv ER (Rd I) (K (qcell d h r)) (qcell d h r) : sProp 𝕄) := by
  have e := bigSep_elim (s := Finset.univ) (Φ := fun q : Dev nD × Hop × Fin 2 => (cellInv ER (Rd I) (K (qcell q.1 q.2.1 q.2.2)) (qcell q.1 q.2.1 q.2.2) : sProp 𝕄)) (Finset.mem_univ (d, h, r))
  unfold invAll
  exact sep_elim_right.trans e

/-- The invariants and the levels. -/
def base (I : Inp F) (K : GSem nD τ sig → ℕ) : sProp 𝕄 := iprop(invAll I K ∗ levAts L lv)

instance base_persistent (I : Inp F) (K : GSem nD τ sig → ℕ) : BI.Persistent (base I K) := by unfold base; infer_instance

def tabPts (c : Dev nD) : sProp 𝕄 := tabM.view.loc (c : Thread nD τ) ↦{fullShare} (tabC (F := F))

/-- The table, the columns of `x`, the rows of `w`. -/
def ins (I : Inp F) (c : Dev nD) : sProp 𝕄 :=
  iprop(tabPts c ∗ (xM.view.loc (c : Thread nD τ) ↦{fullShare} I.X c) ∗ (wM.view.loc (c : Thread nD τ) ↦{fullShare} I.W c))

/-- What the device owes once the hops `D` are sent. -/
def owing (c : Dev nD) (D : Finset Hop) : sProp 𝕄 := iprop(∃ W, owes (c : Thread nD τ) (owedHops c D) W)

/-! ## The ledgers -/

def sendSt (c : Dev nD) (D : Finset Hop) (h : Hop) : sProp 𝕄 :=
  if h ∈ D then iprop(cred (tallyAt (qcell c h 0) () N) ∗ atPos ER (qcell c h 0) 0 ∅ 0)
  else iprop(dutyTok ER (qcell c h 0) 0 false ∗ reached ER (qcell c h 0) 0 ∗ dutyTok ER (qcell (dn h.1 c) h 1) 0 false
    ∗ (fragAny (dn h.1 c) h.1 h.2.1.succ h.2.2 ∗ reached ER (qcell (dn h.1 c) h 1) 0) ∗ atPos ER (qcell c h 0) 0 ∅ 0)

/-- For every hop, its copy's rights, or, once sent, what the wait for its source takes. -/
def sends (c : Dev nD) (D : Finset Hop) : sProp 𝕄 := bigSep Finset.univ (sendSt c D)

/-- The last slot's fragment, for the last step alone. -/
def lastAt (I : Inp F) (c : Dev nD) (h : Hop) : sProp 𝕄 :=
  if h.2.1.val = 30 then fragAt c h.1 31 h.2.2 (acc I h.1 h.2.2 31 c) else iprop(emp)

def recvSt (I : Inp F) (c : Dev nD) (D : Finset Hop) (h : Hop) : sProp 𝕄 :=
  if h ∈ D then iprop(atPos ER (qcell c h 1) 1 ∅ 0 ∗ lastAt I c h)
  else iprop(cred (tallyAt (qcell c h 1) () N) ∗ atPos ER (qcell c h 1) 0 ∅ 0)

/-- For every hop, what its receipt takes, or, once received, the position after it. -/
def recvs (I : Inp F) (c : Dev nD) (D : Finset Hop) : sProp 𝕄 := bigSep Finset.univ (recvSt I c D)

def drainSt (c : Dev nD) (D : Finset Hop) (h : Hop) : sProp 𝕄 :=
  if h ∈ D then iprop(atPos ER (qcell c h 0) 1 ∅ 0 ∗ fragAny c h.1 h.2.1.castSucc h.2.2)
  else iprop(cred (tallyAt (qcell c h 0) () N) ∗ atPos ER (qcell c h 0) 0 ∅ 0)

/-- For every hop, what the wait for its source takes, or, once waited, the source. -/
def drained (c : Dev nD) (D : Finset Hop) : sProp 𝕄 := bigSep Finset.univ (drainSt c D)

theorem drained_start (c : Dev nD) : (sends c Finset.univ : sProp 𝕄) ⊢ drained c ∅ := by
  unfold sends drained
  refine Entails.of_eq (bigSep_congr fun h _ => ?_)
  unfold sendSt drainSt
  rw [if_pos (Finset.mem_univ h), if_neg (Finset.notMem_empty h)]

theorem mem_insert_ne {D : Finset Hop} {h j : Hop} (hj : j ≠ h) : (j ∈ insert h D) = (j ∈ D) := by
  rw [Finset.mem_insert]; exact propext ⟨fun e => e.resolve_left hj, .inr⟩

theorem sendSt_in (c : Dev nD) {D : Finset Hop} {h : Hop} (hm : h ∈ D) :
    (sendSt c D h : sProp 𝕄) = iprop(cred (tallyAt (qcell c h 0) () N) ∗ atPos ER (qcell c h 0) 0 ∅ 0) := if_pos hm
theorem sendSt_out (c : Dev nD) {D : Finset Hop} {h : Hop} (hm : h ∉ D) :
    (sendSt c D h : sProp 𝕄) = iprop(dutyTok ER (qcell c h 0) 0 false ∗ reached ER (qcell c h 0) 0 ∗ dutyTok ER (qcell (dn h.1 c) h 1) 0 false
    ∗ (fragAny (dn h.1 c) h.1 h.2.1.succ h.2.2 ∗ reached ER (qcell (dn h.1 c) h 1) 0) ∗ atPos ER (qcell c h 0) 0 ∅ 0) := if_neg hm
theorem recvSt_in (I : Inp F) (c : Dev nD) {D : Finset Hop} {h : Hop} (hm : h ∈ D) :
    (recvSt I c D h : sProp 𝕄) = iprop(atPos ER (qcell c h 1) 1 ∅ 0 ∗ lastAt I c h) := if_pos hm
theorem recvSt_out (I : Inp F) (c : Dev nD) {D : Finset Hop} {h : Hop} (hm : h ∉ D) :
    (recvSt I c D h : sProp 𝕄) = iprop(cred (tallyAt (qcell c h 1) () N) ∗ atPos ER (qcell c h 1) 0 ∅ 0) := if_neg hm
theorem drainSt_in (c : Dev nD) {D : Finset Hop} {h : Hop} (hm : h ∈ D) :
    (drainSt c D h : sProp 𝕄) = iprop(atPos ER (qcell c h 0) 1 ∅ 0 ∗ fragAny c h.1 h.2.1.castSucc h.2.2) := if_pos hm
theorem drainSt_out (c : Dev nD) {D : Finset Hop} {h : Hop} (hm : h ∉ D) :
    (drainSt c D h : sProp 𝕄) = iprop(cred (tallyAt (qcell c h 0) () N) ∗ atPos ER (qcell c h 0) 0 ∅ 0) := if_neg hm

theorem sends_take (c : Dev nD) (D : Finset Hop) (h : Hop) :
    (sends c D : sProp 𝕄) ⊢ iprop(sendSt c D h ∗ (sendSt c (insert h D) h -∗ sends c (insert h D))) :=
  bigSep_univ_update h fun j hj => by
    unfold sendSt; simp only [mem_insert_ne hj]

theorem recvs_take (I : Inp F) (c : Dev nD) (D : Finset Hop) (h : Hop) :
    (recvs I c D : sProp 𝕄) ⊢ iprop(recvSt I c D h ∗ (recvSt I c (insert h D) h -∗ recvs I c (insert h D))) :=
  bigSep_univ_update h fun j hj => by
    unfold recvSt; simp only [mem_insert_ne hj]

theorem drained_take (c : Dev nD) (D : Finset Hop) (h : Hop) :
    (drained c D : sProp 𝕄) ⊢ iprop(drainSt c D h ∗ (drainSt c (insert h D) h -∗ drained c (insert h D))) :=
  bigSep_univ_update h fun j hj => by
    unfold drainSt; simp only [mem_insert_ne hj]

/-! ## The steps -/

/-- The rest of `word` once the word is read. -/
def wordThen (f : Fin 2) (k : (v : Elt F .i32) → RowOk v f → 𝔅 F) (v : Elt F .i32) : 𝔅 F :=
  .op (.assume (RowOk v f) (RowOk.dec v f)) fun h => k v h.down

theorem word_eq (c : Dev nD) (n : Fin 32) (f : Fin 2) (k : (v : Elt F .i32) → RowOk v f → 𝔅 F) :
    word n c f k = .op (.load tabM (tabR n c).toLoadRect (View.loadsAt_rect (View.loads_smem_one rfl numel1_S1x1))) fun g =>
      wordThen f k (g (Shape.Idx.first (numel1_S1x1.symm ▸ Nat.one_pos))) := rfl

theorem wp_word (c : Dev nD) (n : Fin 32) (f : Fin 2) (k : (v : Elt F .i32) → RowOk v f → 𝔅 F) (Kt : PUnit → sProp 𝕄) :
    iprop(tabPts c ∗ (tabPts c -∗ wp frame (wpE (defs₀ (F := F)) 𝒱₀ (c : Thread nD τ) none) Set.univ (k (tw n c) (rowOk n c f)) Kt))
      ⊢ wp frame (wpE (defs₀ (F := F)) 𝒱₀ (c : Thread nD τ) none) Set.univ (word n c f k) Kt := by
  unfold tabPts
  rw [word_eq]
  iintro ⟨Ht, Hk⟩
  iapply (wp_load_rect 𝒱₀ (c : Thread nD τ) none Set.univ (m := tabM) (r := tabR n c) (Finset.subset_univ _)) $$ Ht
  iintro Ht
  rw [read_tab]
  unfold wordThen
  rw [wp_assume_of 𝒱₀ (c : Thread nD τ) none Set.univ (rowOk n c f)]
  iapply Hk
  iexact Ht

theorem wp_first (I : Inp F) (c : Dev nD) (z : Bool) (f : Fin 2) (k : 𝔅 F) (Kt : PUnit → sProp 𝕄) :
    iprop(ins I c ∗ fragAny c z 0 f ∗ (iprop(ins I c ∗ fragAt c z 0 f (acc I z f 0 c)) -∗ wp frame (wpE (defs₀ (F := F)) 𝒱₀ (c : Thread nD τ) none) Set.univ k Kt))
      ⊢ wp frame (wpE (defs₀ (F := F)) 𝒱₀ (c : Thread nD τ) none) Set.univ (first c z f (row0 z) k) Kt := by
  unfold ins fragAny first
  iintro ⟨⟨Ht, Hx, Hw⟩, ⟨%g, Hg⟩, Hk⟩
  iapply (wp_word c (row0 z) f)
  isplitl [Ht]; · iexact Ht
  iintro Ht
  simp only [Prog.lift, Prog.bind_op, Prog.bind_ret]
  iapply (wp_load_rect 𝒱₀ (c : Thread nD τ) none Set.univ (m := xM) (r := rowR (tw (row0 z) c) f (rowOk (row0 z) c f)) (Finset.subset_univ _)) $$ Hx
  iintro Hx
  iapply (wp_load_rect 𝒱₀ (c : Thread nD τ) none Set.univ (m := wM) (r := halfR z) (Finset.subset_univ _)) $$ Hw
  iintro Hw
  unfold fragPts
  iapply (wp_load_rect 𝒱₀ (c : Thread nD τ) none Set.univ (m := comM z) (r := fragR 0 f) (Finset.Subset.refl _)) $$ Hg
  iintro Hg
  iapply (wp_store 𝒱₀ (c : Thread nD τ) none Set.univ (m := comM z) (r := fragR 0 f) (Mk := Finset.univ) (S := (fragA z 0 f).set) (Finset.Subset.refl _)) $$ Hg
  iintro Hg
  iapply Hk
  isplitl [Ht Hx Hw]
  · isplitl [Ht]; · iexact Ht
    isplitl [Hx] <;> iassumption
  unfold fragAt fragPts
  iexists _
  isplitr
  rotate_left
  · iexact Hg
  ipureintro
  exact View.read_write_univ _ _

/-- What a step's load, product and store make of the fragment that arrived. -/
theorem wp_recv (I : Inp F) (K : GSem nD τ sig → ℕ) (c : Dev nD) (z : Bool) (s : Fin 31) (f : Fin 2) (D : Finset Hop)
    (hD : ∀ h, h ∉ D → s.val < h.2.1.val) (k : 𝔅 F) (Kt : PUnit → sProp 𝕄) :
    iprop(base I K ∗ ins I c ∗ (cred (tallyAt (qcell c (z, s, f) 1) () N) ∗ atPos ER (qcell c (z, s, f) 1) 0 ∅ 0) ∗ owing c D
      ∗ (iprop(ins I c ∗ atPos ER (qcell c (z, s, f) 1) 1 ∅ 0 ∗ fragAt c z s.succ f (acc I z f (s.val + 1) c) ∗ owing c D)
          -∗ wp frame (wpE (defs₀ (F := F)) 𝒱₀ (c : Thread nD τ) none) Set.univ k Kt))
      ⊢ wp frame (wpE (defs₀ (F := F)) 𝒱₀ (c : Thread nD τ) none) Set.univ (recv c z s f k) Kt := by
  unfold base ins owing recv
  iintro ⟨⟨#HI, #Hlev⟩, ⟨Ht, Hx, Hw⟩, ⟨Hc, Hat⟩, ⟨%W, HO⟩, Hk⟩
  simp only [Prog.lift, Prog.bind_op, Prog.bind_ret]
  iapply (Rounds.wp_wait_rest_token 𝒱₀ ER (Rd I) (c : Thread nD τ) none (sm := .dma (hsem (z, s, f) 1)) (κ := K (qcell c (z, s, f) 1))
      (wpE_waitDma2_eq 𝒱₀ (c : Thread nD τ) none Set.univ) (Set.mem_univ _) () (O := owedHops c D) (W := W) (R := 0) (m := 0) (T := ∅)
      ((Nat.zero_add _).trans ((credit_eq z s.succ f).trans (expect_hop I c (z, s, f) 1).symm))) $$ [Hc HO Hat]
  · isplitr; · iapply (inv_hop I K c (z, s, f) 1); iexact HI
    isplitl [Hc]; · rw [credit_eq]; iexact Hc
    isplitl [HO]; · iexact HO
    isplitr
    · iapply (mayWait c (.dma (hsem (z, s, f) 1)) D (2 + s.val) (Nat.le_of_eq (lv_recv c (z, s, f) ())) (fun h hh => by have := hD h hh; omega))
      iexact Hlev
    iexact Hat
  iintro ⟨HO, Hat, -, Hpay⟩
  ihave Hp := (Entails.of_eq (rest_recv I c (z, s, f))) $$ Hpay
  unfold recvPay fragAt fragPts
  icases Hp with ⟨%g, %hg, Hg⟩
  iapply (wp_load_rect 𝒱₀ (c : Thread nD τ) none Set.univ (m := comM z) (r := fragR s.succ f) (Finset.Subset.refl _)) $$ Hg
  iintro Hg
  iapply (wp_word c (rowAt z s) f)
  isplitl [Ht]; · iexact Ht
  iintro Ht
  iapply (wp_load_rect 𝒱₀ (c : Thread nD τ) none Set.univ (m := xM) (r := rowR (tw (rowAt z s) c) f (rowOk (rowAt z s) c f)) (Finset.subset_univ _)) $$ Hx
  iintro Hx
  iapply (wp_load_rect 𝒱₀ (c : Thread nD τ) none Set.univ (m := wM) (r := halfR z) (Finset.subset_univ _)) $$ Hw
  iintro Hw
  iapply (wp_load_rect 𝒱₀ (c : Thread nD τ) none Set.univ (m := comM z) (r := fragR s.succ f) (Finset.Subset.refl _)) $$ Hg
  iintro Hg
  iapply (wp_store 𝒱₀ (c : Thread nD τ) none Set.univ (m := comM z) (r := fragR s.succ f) (Mk := Finset.univ) (S := (fragA z s.succ f).set) (Finset.Subset.refl _)) $$ Hg
  iintro Hg
  iapply Hk
  isplitl [Ht Hx Hw]
  · isplitl [Ht]; · iexact Ht
    isplitl [Hx] <;> iassumption
  isplitl [Hat]; · iexact Hat
  isplitl [Hg]
  · iexists _
    isplitr
    rotate_left
    · iexact Hg
    ipureintro
    refine (View.read_write_univ _ _).trans ?_
    rw [hg]
    cases z <;> rfl
  iexists _; iexact HO

/-- The views the copies move are the fragments. -/
theorem fragV_set (z : Bool) (n : Fin 32) (f : Fin 2) : (fragV z n f).view.set = (fragA z n f).set :=
  View.set_reshape _ _

/-- What lands reads as what was sent. -/
theorem read_landed (z : Bool) (n n' : Fin 32) (f : Fin 2) (c : Dev nD)
    (fd : Buf (Elt F) ((fragA z n' f).loc (c : Thread nD τ))) (fs : Buf (Elt F) ((fragA z n f).loc (c : Thread nD τ))) :
    (fragA z n' f).read (Elt F) ((fragV z n' f).view.write (Elt F) fd ((fragV z n f).view.read (Elt F) fs) Finset.univ)
      = (fragA z n f).read (Elt F) fs := by
  funext x
  obtain ⟨y, rfl⟩ := (Shape.reshapeEquiv squeezes_S1x64x1024_S64x1024.numel_eq).surjective x
  exact congrFun (View.read_write_univ (v := (fragV z n' f).view) fd ((fragV z n f).view.read (Elt F) fs)) y

/-- A copy's start, at a named device. -/
def sendTo (z : Bool) (s : Fin 31) (f : Fin 2) (d : Dev nD) (k : 𝔅 F) : 𝔅 F :=
  .op (.enqueueDma (fragV z s.castSucc f)
    (.remote (Dev.tc d) (fragV z s.succ f) (.dma (semA z s f 0).sem)) (.dma (semA z s f 1).sem)
    ((View.wordExact_bits rfl).reshape _ _) ((View.wordExact_bits rfl).reshape _ _) ⟨⟨rfl, Or.inl rfl⟩, trivial⟩) fun _ => k

theorem wp_send (I : Inp F) (K : GSem nD τ sig → ℕ) (c : Dev nD) (z : Bool) (s : Fin 31) (f : Fin 2) (D : Finset Hop)
    (hD : (z, s, f) ∉ D) (d : Dev nD) (hd : d = dn z c) (k : 𝔅 F) (Kt : PUnit → sProp 𝕄) :
    iprop(base I K ∗ fragAt c z s.castSucc f (acc I z f s.val c) ∗ sends c D ∗ owing c D
      ∗ (iprop(sends c (insert (z, s, f) D) ∗ owing c (insert (z, s, f) D)) -∗ wp frame (wpE (defs₀ (F := F)) 𝒱₀ (c : Thread nD τ) none) Set.univ k Kt))
      ⊢ wp frame (wpE (defs₀ (F := F)) 𝒱₀ (c : Thread nD τ) none) Set.univ (sendTo z s f d k) Kt := by
  subst hd
  unfold base owing sendTo fragAt fragPts
  iintro ⟨⟨#HI, #Hlev⟩, ⟨%g, %hg, Hg⟩, Hs, ⟨%W, HO⟩, Hk⟩
  ihave Hs2 := (sends_take c D (z, s, f)) $$ Hs
  icases Hs2 with ⟨Hh', Hback⟩
  ihave Hh := (Entails.of_eq (sendSt_out c hD)) $$ Hh'
  unfold fragAny fragPts
  icases Hh with ⟨HtS, #HrS, HtR, ⟨⟨%gd, Hd⟩, #HrR⟩, Hat⟩
  iapply (Rounds.wp_send_pointsTo 𝒱₀ ER (Rd I) (c : Thread nD τ) none (c' := (dn z c : Thread nD τ)) (src := fragV z s.castSucc f) (dst := fragV z s.succ f)
      (sS := .dma (hsem (z, s, f) 0)) (sem := .dma (hsem (z, s, f) 1)) (q := fullShare) (fs := g) (fd := gd)
      (κ₁ := K (qcell c (z, s, f) 0)) (κ₂ := K (qcell (dn z c) (z, s, f) 1))
      (r₁ := 0) (r₂ := 0) (d₁ := false) (d₂ := false)
      (by rw [duties_hop]; exact Finset.mem_singleton_self _) (by rw [duties_hop]; exact Finset.mem_singleton_self _)
      () () N (credit_eq z s.succ f) (amount_hop I c (z, s, f) 0 false) (amount_hop I (dn z c) (z, s, f) 1 false)
      (owedHops c (insert (z, s, f) D)) (owedHops_send c D (z, s, f) hD) (W := W)
      (by
        rw [payload_send, fragV_set]; unfold sendPay fragAny fragPts
        iintro H; iexists g; iexact H)
      (by
        rw [payload_recv, fragV_set]; unfold recvPay fragAt fragPts
        iintro H; iexists _
        isplitr
        rotate_left
        · iexact H
        ipureintro
        refine (read_landed z s.castSucc s.succ f c gd g).trans ?_
        rw [hg]; dsimp only; rw [up_dn])) $$ [Hg Hd HO HtS HtR]
  · isplitr; · iapply (inv_hop I K c (z, s, f) 0); iexact HI
    isplitr; · iapply (inv_hop I K (dn z c) (z, s, f) 1); iexact HI
    isplitl [Hg]; · rw [fragV_set]; iexact Hg
    isplitl [Hd]; · rw [fragV_set]; iexact Hd
    isplitl [HO]; · iexact HO
    isplitl [HtS]; · iexact HtS
    isplitr; · iexact HrS
    isplitl [HtR]; · iexact HtR
    iexact HrR
  iintro ⟨HcS, HO⟩
  iapply Hk
  isplitl [Hback HcS Hat]
  · iapply Hback
    iapply (Entails.of_eq (sendSt_in c (Finset.mem_insert_self (z, s, f) D)).symm)
    isplitl [HcS] <;> iassumption
  iexists W; iexact HO

end Cert.KernelIdeal.Ring
-- ==== Proof.Walk.lean ====
module

public import proofs.«01_k».proof.Proof.Steps

/-!
# The walk round the ring

The body's statements in order: the meeting at the barrier, the four first products and copies, the 31
steps, and the waits for the copies' sources.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## The order of the hops -/

/-- A hop's place among the steps. -/
def ix (h : Hop) : ℕ := 4 * h.2.1.val + 2 * h.1.toNat + h.2.2.val
/-- A hop's place among the waits for sources, and among the first four copies. -/
def ixd (h : Hop) : ℕ := 4 * h.2.1.val + 2 * h.2.2.val + h.1.toNat

def done (n : ℕ) : Finset Hop := Finset.univ.filter fun h => ix h < n
def doned (n : ℕ) : Finset Hop := Finset.univ.filter fun h => ixd h < n

theorem mem_done {n : ℕ} {h : Hop} : h ∈ done n ↔ ix h < n := by unfold done; rw [Finset.mem_filter]; exact and_iff_right (Finset.mem_univ _)
theorem mem_doned {n : ℕ} {h : Hop} : h ∈ doned n ↔ ixd h < n := by unfold doned; rw [Finset.mem_filter]; exact and_iff_right (Finset.mem_univ _)

theorem toNat_le (z : Bool) : z.toNat ≤ 1 := by cases z <;> decide
theorem toNat_inj {z z' : Bool} (e : z.toNat = z'.toNat) : z = z' := by revert z z'; decide

theorem ix_inj {h h' : Hop} (e : ix h = ix h') : h = h' := by
  obtain ⟨z, s, f⟩ := h; obtain ⟨z', s', f'⟩ := h'
  have := toNat_le z; have := toNat_le z'; have := f.isLt; have := f'.isLt
  dsimp only [ix] at e
  have hz : z = z' := toNat_inj (by omega)
  have hs : s = s' := Fin.ext (by omega)
  have hf : f = f' := Fin.ext (by omega)
  rw [hz, hs, hf]

theorem ixd_inj {h h' : Hop} (e : ixd h = ixd h') : h = h' := by
  obtain ⟨z, s, f⟩ := h; obtain ⟨z', s', f'⟩ := h'
  have := toNat_le z; have := toNat_le z'; have := f.isLt; have := f'.isLt
  dsimp only [ixd] at e
  have hz : z = z' := toNat_inj (by omega)
  have hs : s = s' := Fin.ext (by omega)
  have hf : f = f' := Fin.ext (by omega)
  rw [hz, hs, hf]

theorem ix_lt (h : Hop) : ix h < 124 := by
  obtain ⟨z, s, f⟩ := h
  have := toNat_le z; have := f.isLt; have := s.isLt
  dsimp only [ix]; omega
theorem ixd_lt (h : Hop) : ixd h < 124 := by
  obtain ⟨z, s, f⟩ := h
  have := toNat_le z; have := f.isLt; have := s.isLt
  dsimp only [ixd]; omega

theorem insert_done (h : Hop) {n : ℕ} (hn : ix h = n) : insert h (done n) = done (n + 1) := by
  ext j
  rw [Finset.mem_insert, mem_done, mem_done]
  constructor
  · rintro (rfl | hj) <;> omega
  · intro hj
    rcases Nat.lt_succ_iff_lt_or_eq.mp hj with hj | hj
    · exact .inr hj
    · exact .inl (ix_inj (hj.trans hn.symm))
theorem insert_doned (h : Hop) {n : ℕ} (hn : ixd h = n) : insert h (doned n) = doned (n + 1) := by
  ext j
  rw [Finset.mem_insert, mem_doned, mem_doned]
  constructor
  · rintro (rfl | hj) <;> omega
  · intro hj
    rcases Nat.lt_succ_iff_lt_or_eq.mp hj with hj | hj
    · exact .inr hj
    · exact .inl (ixd_inj (hj.trans hn.symm))

theorem done_all {n : ℕ} (hn : 124 ≤ n) : done n = Finset.univ :=
  Finset.eq_univ_of_forall fun h => mem_done.mpr (lt_of_lt_of_le (ix_lt h) hn)
theorem doned_all : doned 124 = Finset.univ :=
  Finset.eq_univ_of_forall fun h => mem_doned.mpr (ixd_lt h)
theorem done_none : done 0 = ∅ := Finset.eq_empty_of_forall_notMem fun h e => absurd (mem_done.mp e) (Nat.not_lt_zero _)
theorem doned_none : doned 0 = ∅ := Finset.eq_empty_of_forall_notMem fun h e => absurd (mem_doned.mp e) (Nat.not_lt_zero _)
theorem doned_four : doned 4 = done 4 := by
  ext ⟨z, s, f⟩
  have := toNat_le z; have := f.isLt
  rw [mem_done, mem_doned]; dsimp only [ix, ixd]; omega

theorem hlt (m : ℕ) : 30 - m < 31 := by omega

/-! ## The 31 steps -/

/-- What a device holds when the first `n` hops are received. -/
def walk (I : Inp F) (c : Dev nD) (n : ℕ) : sProp 𝕄 :=
  iprop(ins I c ∗ recvs I c (done n) ∗ sends c (done (n + 4)) ∗ owing c (done (n + 4)))

theorem lastAt_mid (I : Inp F) (c : Dev nD) (z : Bool) (s : Fin 31) (f : Fin 2) (hs : s.val + 1 < 31) :
    (lastAt I c (z, s, f) : sProp 𝕄) = iprop(emp) := if_neg (by show s.val ≠ 30; omega)
theorem lastAt_end (I : Inp F) (c : Dev nD) (z : Bool) (s : Fin 31) (f : Fin 2) (hs : ¬ s.val + 1 < 31) :
    (fragAt c z s.succ f (acc I z f (s.val + 1) c) : sProp 𝕄) ⊢ lastAt I c (z, s, f) := by
  obtain rfl : s = 30 := Fin.ext (by have := s.isLt; show s.val = 30; omega)
  unfold lastAt
  exact Entails.of_eq (if_pos rfl).symm

theorem wp_hop (I : Inp F) (K : GSem nD τ sig → ℕ) (c : Dev nD) (z : Bool) (s : Fin 31) (f : Fin 2) (v : BitVec 32) (hv : devOf v < nD)
    (hd : (⟨devOf v, hv⟩ : Dev nD) = dn z c) (n : ℕ) (hn : ix (z, s, f) = n) (k : 𝔅 F) (Kt : PUnit → sProp 𝕄) :
    iprop(base I K ∗ walk I c n ∗ (walk I c (n + 1) -∗ wp frame (wpE (defs₀ (F := F)) 𝒱₀ (c : Thread nD τ) none) Set.univ k Kt))
      ⊢ wp frame (wpE (defs₀ (F := F)) 𝒱₀ (c : Thread nD τ) none) Set.univ (hop c z s f v hv k) Kt := by
  have hmem : (z, s, f) ∉ done n := fun e => by have := mem_done.mp e; omega
  have hlev : ∀ h, h ∉ done (n + 4) → s.val < h.2.1.val := fun h hh => by
    have h1 : ¬ ix h < n + 4 := fun e => hh (mem_done.mpr e)
    obtain ⟨z', s', f'⟩ := h
    have := toNat_le z; have := f.isLt; have := toNat_le z'; have := f'.isLt
    dsimp only [ix] at hn h1 ⊢; omega
  unfold walk
  iintro ⟨#HB, ⟨Hi, Hr, Hs, HO⟩, Hk⟩
  ihave Hr2 := (recvs_take I c (done n) (z, s, f)) $$ Hr
  icases Hr2 with ⟨Hh', Hback⟩
  ihave Hh := (Entails.of_eq (recvSt_out I c hmem)) $$ Hh'
  rw [insert_done (z, s, f) hn]
  unfold hop
  iapply (wp_recv I K c z s f (done (n + 4)) hlev)
  isplitr; · iexact HB
  isplitl [Hi]; · iexact Hi
  isplitl [Hh]; · iexact Hh
  isplitl [HO]; · iexact HO
  iintro ⟨Hi, Hat, Hg, HO⟩
  by_cases g : s.val + 1 < 31
  · rw [dif_pos g]
    have hix : ix (z, (⟨s.val + 1, g⟩ : Fin 31), f) = n + 4 := by dsimp only [ix] at hn ⊢; omega
    have hnot : (z, (⟨s.val + 1, g⟩ : Fin 31), f) ∉ done (n + 4) := fun e => by have := mem_done.mp e; omega
    have hsend : send z ⟨s.val + 1, g⟩ f v hv k = sendTo z ⟨s.val + 1, g⟩ f ⟨devOf v, hv⟩ k := rfl
    rw [hsend]
    iapply (wp_send I K c z ⟨s.val + 1, g⟩ f (done (n + 4)) hnot ⟨devOf v, hv⟩ hd)
    isplitr; · iexact HB
    isplitl [Hg]
    · iexact Hg
    isplitl [Hs]; · iexact Hs
    isplitl [HO]; · iexact HO
    rw [insert_done _ hix]
    iintro ⟨Hs, HO⟩
    iapply Hk
    isplitl [Hi]; · iexact Hi
    isplitl [Hback Hat]
    · iapply Hback
      iapply (Entails.of_eq (recvSt_in I c (mem_done.mpr (by omega) : (z, s, f) ∈ done (n + 1))).symm)
      isplitl [Hat]; · iexact Hat
      rw [lastAt_mid I c z s f g]
      iempintro
    isplitl [Hs]; · iexact Hs
    iexact HO
  · rw [dif_neg g]
    have hall : 124 ≤ n + 4 := by dsimp only [ix] at hn; have := s.isLt; omega
    have e1 : done (n + 1 + 4) = done (n + 4) := by rw [done_all hall, done_all (by omega)]
    rw [e1]
    iapply Hk
    isplitl [Hi]; · iexact Hi
    isplitl [Hback Hat Hg]
    · iapply Hback
      iapply (Entails.of_eq (recvSt_in I c (mem_done.mpr (by omega) : (z, s, f) ∈ done (n + 1))).symm)
      isplitl [Hat]; · iexact Hat
      iapply (lastAt_end I c z s f g); iexact Hg
    isplitl [Hs]; · iexact Hs
    iexact HO

theorem wp_hops (I : Inp F) (K : GSem nD τ sig → ℕ) (c : Dev nD) (v4 v6 : BitVec 32) (h4 : devOf v4 < nD) (h6 : devOf v6 < nD)
    (e4 : (⟨devOf v4, h4⟩ : Dev nD) = dn false c) (e6 : (⟨devOf v6, h6⟩ : Dev nD) = dn true c) (k : 𝔅 F) (Kt : PUnit → sProp 𝕄) :
    ∀ m : ℕ, m ≤ 31 →
    iprop(base I K ∗ walk I c (4 * (31 - m)) ∗ (walk I c 124 -∗ wp frame (wpE (defs₀ (F := F)) 𝒱₀ (c : Thread nD τ) none) Set.univ k Kt))
      ⊢ wp frame (wpE (defs₀ (F := F)) 𝒱₀ (c : Thread nD τ) none) Set.univ (hops c v4 v6 h4 h6 k m) Kt
  | 0, _ => by
    iintro ⟨-, Hw, Hk⟩
    unfold hops
    iapply Hk; iexact Hw
  | m + 1, hm => by
    have ih := wp_hops I K c v4 v6 h4 h6 e4 e6 k Kt m (by omega)
    iintro ⟨#HB, Hw, Hk⟩
    unfold hops
    iapply (wp_hop I K c false ⟨30 - m, hlt m⟩ 0 v4 h4 e4 (4 * (31 - (m + 1))) (by show 4 * (30 - m) + 2 * 0 + 0 = _; omega))
    isplitr; · iexact HB
    isplitl [Hw]; · iexact Hw
    iintro Hw
    iapply (wp_hop I K c false ⟨30 - m, hlt m⟩ 1 v4 h4 e4 (4 * (31 - (m + 1)) + 1) (by show 4 * (30 - m) + 2 * 0 + 1 = _; omega))
    isplitr; · iexact HB
    isplitl [Hw]; · iexact Hw
    iintro Hw
    iapply (wp_hop I K c true ⟨30 - m, hlt m⟩ 0 v6 h6 e6 (4 * (31 - (m + 1)) + 1 + 1) (by show 4 * (30 - m) + 2 * 1 + 0 = _; omega))
    isplitr; · iexact HB
    isplitl [Hw]; · iexact Hw
    iintro Hw
    iapply (wp_hop I K c true ⟨30 - m, hlt m⟩ 1 v6 h6 e6 (4 * (31 - (m + 1)) + 1 + 1 + 1) (by show 4 * (30 - m) + 2 * 1 + 1 = _; omega))
    isplitr; · iexact HB
    isplitl [Hw]; · iexact Hw
    iintro Hw
    iapply ih
    isplitr; · iexact HB
    isplitl [Hw]
    · rw [show 4 * (31 - m) = 4 * (31 - (m + 1)) + 1 + 1 + 1 + 1 from by omega]; iexact Hw
    iexact Hk

/-! ## The waits for the sources -/

theorem wp_drain (I : Inp F) (K : GSem nD τ sig → ℕ) (c : Dev nD) (z : Bool) (s : Fin 31) (f : Fin 2) (n : ℕ) (hn : ixd (z, s, f) = n) (k : 𝔅 F) (Kt : PUnit → sProp 𝕄) :
    iprop(base I K ∗ (drained c (doned n) ∗ owing c Finset.univ)
      ∗ (iprop(drained c (doned (n + 1)) ∗ owing c Finset.univ) -∗ wp frame (wpE (defs₀ (F := F)) 𝒱₀ (c : Thread nD τ) none) Set.univ k Kt))
      ⊢ wp frame (wpE (defs₀ (F := F)) 𝒱₀ (c : Thread nD τ) none) Set.univ (drain z s f k) Kt := by
  have hmem : (z, s, f) ∉ doned n := fun e => by have := mem_doned.mp e; omega
  unfold base owing drain
  iintro ⟨⟨#HI, #Hlev⟩, ⟨Hd, ⟨%W, HO⟩⟩, Hk⟩
  ihave Hd2 := (drained_take c (doned n) (z, s, f)) $$ Hd
  icases Hd2 with ⟨Hh', Hback⟩
  ihave Hh := (Entails.of_eq (drainSt_out c hmem)) $$ Hh'
  rw [insert_doned (z, s, f) hn]
  icases Hh with ⟨Hc, Hat⟩
  simp only [Prog.lift, Prog.bind_op, Prog.bind_ret]
  iapply (Rounds.wp_wait_rest_token 𝒱₀ ER (Rd I) (c : Thread nD τ) none (sm := .dma (hsem (z, s, f) 0)) (κ := K (qcell c (z, s, f) 0))
      (wpE_waitDma2_eq 𝒱₀ (c : Thread nD τ) none Set.univ) (Set.mem_univ _) () (O := owedHops c Finset.univ) (W := W) (R := 0) (m := 0) (T := ∅)
      ((Nat.zero_add _).trans ((credit_eq z s.castSucc f).trans (expect_hop I c (z, s, f) 0).symm))) $$ [Hc HO Hat]
  · isplitr; · iapply (inv_hop I K c (z, s, f) 0); iexact HI
    isplitl [Hc]; · rw [credit_eq]; iexact Hc
    isplitl [HO]; · iexact HO
    isplitr
    · rw [owedHops_all, MayWait_zero]; iempintro
    iexact Hat
  iintro ⟨HO, Hat, -, Hpay⟩
  ihave Hp := (Entails.of_eq (rest_send I c (z, s, f))) $$ Hpay
  unfold sendPay
  iapply Hk
  isplitl [Hback Hat Hp]
  · iapply Hback
    iapply (Entails.of_eq (drainSt_in c (mem_doned.mpr (by omega) : (z, s, f) ∈ doned (n + 1))).symm)
    isplitl [Hat] <;> iassumption
  iexists _; iexact HO

theorem wp_drains (I : Inp F) (K : GSem nD τ sig → ℕ) (c : Dev nD) (k : 𝔅 F) (Kt : PUnit → sProp 𝕄) :
    ∀ m : ℕ, m ≤ 31 →
    iprop(base I K ∗ (drained c (doned (4 * (31 - m))) ∗ owing c Finset.univ)
      ∗ (iprop(drained c (doned 124) ∗ owing c Finset.univ) -∗ wp frame (wpE (defs₀ (F := F)) 𝒱₀ (c : Thread nD τ) none) Set.univ k Kt))
      ⊢ wp frame (wpE (defs₀ (F := F)) 𝒱₀ (c : Thread nD τ) none) Set.univ (drains k m) Kt
  | 0, _ => by
    iintro ⟨-, Hw, Hk⟩
    unfold drains
    iapply Hk; iexact Hw
  | m + 1, hm => by
    have ih := wp_drains I K c k Kt m (by omega)
    iintro ⟨#HB, Hw, Hk⟩
    unfold drains
    iapply (wp_drain I K c false ⟨30 - m, hlt m⟩ 0 (4 * (31 - (m + 1))) (by show 4 * (30 - m) + 2 * 0 + 0 = _; omega))
    isplitr; · iexact HB
    isplitl [Hw]; · iexact Hw
    iintro Hw
    iapply (wp_drain I K c true ⟨30 - m, hlt m⟩ 0 (4 * (31 - (m + 1)) + 1) (by show 4 * (30 - m) + 2 * 0 + 1 = _; omega))
    isplitr; · iexact HB
    isplitl [Hw]; · iexact Hw
    iintro Hw
    iapply (wp_drain I K c false ⟨30 - m, hlt m⟩ 1 (4 * (31 - (m + 1)) + 1 + 1) (by show 4 * (30 - m) + 2 * 1 + 0 = _; omega))
    isplitr; · iexact HB
    isplitl [Hw]; · iexact Hw
    iintro Hw
    iapply (wp_drain I K c true ⟨30 - m, hlt m⟩ 1 (4 * (31 - (m + 1)) + 1 + 1 + 1) (by show 4 * (30 - m) + 2 * 1 + 1 = _; omega))
    isplitr; · iexact HB
    isplitl [Hw]; · iexact Hw
    iintro Hw
    iapply ih
    isplitr; · iexact HB
    isplitl [Hw]
    · rw [show 4 * (31 - m) = 4 * (31 - (m + 1)) + 1 + 1 + 1 + 1 from by omega]; iexact Hw
    iexact Hk

end Cert.KernelIdeal.Ring
-- ==== Proof.Pieces.lean ====
module

public import proofs.«01_k».proof.Proof.Walk

/-!
# Buffers and their fragments

A buffer of accumulators is its 64 fragments: it is split into them before the first store and joined from
them after the last wait.  The result's block is its two halves of columns.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## Which fragment an element lies in -/

theorem mem_fragR {n : Fin 32} {f : Fin 2} {i : S32x128x1024.Idx} :
    i ∈ (fragR n f).set ↔ (i 0).val = n.val ∧ 64 * f.val ≤ (i 1).val ∧ (i 1).val < 64 * f.val + 64 := by
  rw [Rect.mem_set_unit]
  constructor
  · intro h
    have h0 : n.val ≤ (i 0).val ∧ (i 0).val < n.val + 1 := h 0
    have h1 : 64 * f.val ≤ (i 1).val ∧ (i 1).val < 64 * f.val + 64 := h 1
    exact ⟨by omega, h1⟩
  · rintro ⟨h0, h1⟩ a
    match a with
    | 0 => exact (show n.val ≤ (i 0).val ∧ (i 0).val < n.val + 1 from ⟨by omega, by omega⟩)
    | 1 => exact h1
    | 2 => exact (show 0 ≤ (i 2).val ∧ (i 2).val < 0 + 1024 from ⟨Nat.zero_le _, by have : (i 2).val < 1024 := (i 2).isLt; omega⟩)

theorem frag_set (z : Bool) (n : Fin 32) (f : Fin 2) : (fragA z n f).set = (fragR n f).set.map (comM z).view.emb :=
  View.set_slice _ _

theorem frag_disjoint (z : Bool) (b b' : Fin 32 × Fin 2) (hb : b ≠ b') :
    Disjoint (fragA z b.1 b.2).set (fragA z b'.1 b'.2).set := by
  rw [frag_set, frag_set, Finset.disjoint_map, Finset.disjoint_left]
  intro i hi hi'
  obtain ⟨h0, h1, h2⟩ := mem_fragR.mp hi
  obtain ⟨h0', h1', h2'⟩ := mem_fragR.mp hi'
  exact hb (Prod.ext (Fin.ext (by omega)) (Fin.ext (by omega)))

theorem com_onto (z : Bool) (i : (comM z).view.ty.Idx) : ∃ j : S32x128x1024.Idx, (comM z).view.emb j = i := by
  cases z
  · exact ⟨i, rfl⟩
  · exact ⟨i, rfl⟩

/-- A fragment's elements, among its buffer's. -/
abbrev fragS (z : Bool) (b : Fin 32 × Fin 2) : Finset (comM z).view.ty.Idx := (fragA z b.1 b.2).set

theorem frag_cover (z : Bool) : Finset.univ.biUnion (fragS z) = Finset.univ := by
  refine Finset.eq_univ_of_forall fun i => ?_
  obtain ⟨j, rfl⟩ := com_onto z i
  rw [Finset.mem_biUnion]
  have h1 : (j 1).val < 128 := (j 1).isLt
  refine ⟨(⟨(j 0).val, (j 0).isLt⟩, ⟨(j 1).val / 64, by omega⟩), Finset.mem_univ _, ?_⟩
  unfold fragS; rw [frag_set]
  exact Finset.mem_map_of_mem _ (mem_fragR.mpr ⟨rfl, by show 64 * ((j 1).val / 64) ≤ _; omega, by show _ < 64 * ((j 1).val / 64) + 64; omega⟩)

/-! ## Splitting -/

/-- A direction's whole buffer on a device. -/
def whole (c : Dev nD) (z : Bool) (g : Buf (Elt F) ((comM z).view.loc (c : Thread nD τ))) : sProp 𝕄 :=
  (comM z).view.loc (c : Thread nD τ) ↦{fullShare} g

theorem univ_succ_sep {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

theorem univ_last_sep {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp [Fin.castSucc_ne_last]), bigSep_map]
  rfl

theorem univ_two_sep (Φ : Fin 2 → sProp 𝕄) : bigSep Finset.univ Φ = iprop(Φ 0 ∗ Φ 1) := by
  rw [show (Finset.univ : Finset (Fin 2)) = {0, 1} from by decide, bigSep_insert (by decide), bigSep_singleton]; rfl

theorem univ_bool_sep (Φ : Bool → sProp 𝕄) : bigSep Finset.univ Φ = iprop(Φ false ∗ Φ true) := by
  rw [show (Finset.univ : Finset Bool) = {false, true} from by decide, bigSep_insert (by decide), bigSep_singleton]; rfl

theorem fragPts_any (c : Dev nD) (z : Bool) (n : Fin 32) (f : Fin 2) (g : Buf (Elt F) ((fragA z n f).loc (c : Thread nD τ))) :
    (fragPts c z n f g : sProp 𝕄) ⊢ fragAny c z n f := by
  unfold fragAny; iintro H; iexists g; iexact H

theorem whole_split (c : Dev nD) (z : Bool) (g : Buf (Elt F) ((comM z).view.loc (c : Thread nD τ))) :
    (whole c z g : sProp 𝕄) ⊢ iprop((fragAny c z 0 0 ∗ fragAny c z 0 1)
      ∗ bigSep Finset.univ fun p : Fin 31 × Fin 2 => fragAny c z p.1.succ p.2) := by
  have e : (whole c z g : sProp 𝕄) = bigSep Finset.univ fun b : Fin 32 × Fin 2 => fragPts c z b.1 b.2 g := by
    unfold whole
    rw [← frag_cover z]
    exact pointsTo_biUnion (ℓ := (comM z).view.loc (c : Thread nD τ)) Finset.univ (fragS z) (fun b _ b' _ h => frag_disjoint z b b' h)
  have e2 : (bigSep Finset.univ fun b : Fin 32 × Fin 2 => (fragAny c z b.1 b.2 : sProp 𝕄)) = iprop((fragAny c z 0 0 ∗ fragAny c z 0 1)
      ∗ bigSep Finset.univ fun p : Fin 31 × Fin 2 => fragAny c z p.1.succ p.2) := by
    rw [bigSep_univ_prod, univ_succ_sep, univ_two_sep, bigSep_univ_prod]
  rw [e, ← e2]
  exact bigSep_mono fun b _ => fragPts_any c z b.1 b.2 g

/-! ## Joining -/

/-- A fragment at the end: the last slot's at the finished sum, any other at contents not chosen. -/
def piece (I : Inp F) (c : Dev nD) (z : Bool) (b : Fin 32 × Fin 2) : sProp 𝕄 :=
  iprop(∃ g, ⌜b.1 = 31 → (fragA z b.1 b.2).read (Elt F) g = acc I z b.2 31 c⌝ ∗ fragPts c z b.1 b.2 g)

theorem piece_last (I : Inp F) (c : Dev nD) (z : Bool) (f : Fin 2) :
    (fragAt c z 31 f (acc I z f 31 c) : sProp 𝕄) ⊢ piece I c z (31, f) := by
  unfold fragAt piece
  iintro ⟨%g, %hg, H⟩; iexists g
  isplitr; · ipureintro; exact fun _ => hg
  iexact H

theorem piece_early (I : Inp F) (c : Dev nD) (z : Bool) (s : Fin 31) (f : Fin 2) :
    (fragAny c z s.castSucc f : sProp 𝕄) ⊢ piece I c z (s.castSucc, f) := by
  unfold fragAny piece
  iintro ⟨%g, H⟩; iexists g
  isplitr; · ipureintro; exact fun h => absurd (congrArg Fin.val h) (by have := s.isLt; show s.val ≠ 31; omega)
  iexact H

theorem pieces_of (I : Inp F) (c : Dev nD) (z : Bool) :
    (iprop((bigSep Finset.univ fun p : Fin 31 × Fin 2 => lastAt I c (z, p)) ∗ bigSep Finset.univ fun p : Fin 31 × Fin 2 => fragAny c z p.1.castSucc p.2) : sProp 𝕄)
      ⊢ bigSep Finset.univ (piece I c z) := by
  rw [bigSep_univ_prod (Φ := piece I c z), univ_last_sep, bigSep_univ_prod, bigSep_univ_prod]
  have e1 : (bigSep Finset.univ fun s : Fin 31 => bigSep Finset.univ fun f : Fin 2 => (lastAt I c (z, s, f) : sProp 𝕄))
      ⊢ bigSep Finset.univ fun f : Fin 2 => piece I c z (Fin.last 31, f) :=
    (bigSep_elim (Finset.mem_univ (30 : Fin 31))).trans (bigSep_mono fun f _ =>
      (Entails.of_eq (show lastAt I c (z, 30, f) = fragAt c z 31 f (acc I z f 31 c) from if_pos rfl)).trans (piece_last I c z f))
  have e2 : (bigSep Finset.univ fun s : Fin 31 => bigSep Finset.univ fun f : Fin 2 => (fragAny c z s.castSucc f : sProp 𝕄))
      ⊢ bigSep Finset.univ fun s : Fin 31 => bigSep Finset.univ fun f : Fin 2 => piece I c z (s.castSucc, f) :=
    bigSep_mono fun s _ => bigSep_mono fun f _ => piece_early I c z s f
  iintro ⟨Ha, Hb⟩
  isplitl [Ha]
  · iapply e1; iexact Ha
  · iapply e2; iexact Hb

theorem whole_join (I : Inp F) (c : Dev nD) (z : Bool) :
    (bigSep Finset.univ (piece I c z) : sProp 𝕄)
      ⊢ iprop(∃ g, ⌜∀ f, (fragA z 31 f).read (Elt F) g = acc I z f 31 c⌝ ∗ whole c z g) := by
  have hne : ∀ b : Fin 32 × Fin 2, Nonempty (Buf (Elt F) ((fragA z b.1 b.2).loc (c : Thread nD τ))) := fun b => by
    cases z <;> exact ⟨fun _ => FloatOps.ofBits .f32 0⟩
  refine (bigSep_exists_pi Finset.univ (fun (b : Fin 32 × Fin 2) (g : Buf (Elt F) ((fragA z b.1 b.2).loc (c : Thread nD τ))) =>
    iprop(⌜b.1 = 31 → (fragA z b.1 b.2).read (Elt F) g = acc I z b.2 31 c⌝ ∗ fragPts c z b.1 b.2 g))).trans ?_
  iintro ⟨%gs, H⟩
  ihave H2 := (bigSep_pure_sep Finset.univ (fun b : Fin 32 × Fin 2 => b.1 = 31 → (fragA z b.1 b.2).read (Elt F) (gs b) = acc I z b.2 31 c)
    (fun b => fragPts c z b.1 b.2 (gs b))) $$ H
  icases H2 with ⟨%hgs, H⟩
  have ej := pointsTo_biUnion_join (nD := nD) (τ := τ) (sig := sig) (Ix := Unit) (Val := Elt F) (Name := ℕ) (U := UU) (Lvl := ℕ) (q := fullShare) (ℓ := (comM z).view.loc (c : Thread nD τ)) Finset.univ (fragS z) gs (gs (0, 0)) (fun b _ b' _ hb => frag_disjoint z b b' hb)
  rw [frag_cover z] at ej
  have e0 : (bigSep Finset.univ fun b : Fin 32 × Fin 2 => (fragPts c z b.1 b.2 (gs b) : sProp 𝕄))
      = bigSep Finset.univ fun t => (comM z).view.loc (c : Thread nD τ) ↦[fragS z t]{fullShare} gs t := rfl
  rw [← e0] at ej
  ihave H3 := ej $$ H
  icases H3 with ⟨%g, %hg, H⟩
  iexists g
  isplitr
  · ipureintro
    intro f
    rw [← hgs (31, f) (Finset.mem_univ _) rfl]
    funext x
    exact View.read_congr_at x (hg (31, f) (Finset.mem_univ _) _ (View.emb_mem_set _ x))
  unfold whole; iexact H

/-! ## The result -/

/-- An element of the last slot, within its fragment. -/
def fragIx (i : S1x128x1024.Idx) : S1x64x1024.Idx := fun a =>
  match a with
  | 0 => ⟨0, by decide⟩
  | 1 => ⟨(i 1).val % 64, Nat.mod_lt _ (by decide)⟩
  | 2 => ⟨(i 2).val, (i 2).isLt⟩

/-- The last slot, whole, when the walk is over. -/
def lastV (I : Inp F) (z : Bool) (c : Dev nD) : Vec F S1x128x1024 .f32 := fun i =>
  acc I z ⟨(i 1).val / 64, by have : (i 1).val < 128 := (i 1).isLt; omega⟩ 31 c (fragIx i)

theorem last_read (I : Inp F) (c : Dev nD) (z : Bool) (g : (comM z).view.ty.Contents (Elt F))
    (hg : ∀ f, (fragA z 31 f).read (Elt F) g = acc I z f 31 c) :
    ((comM z).access lastR).read (Elt F) g = lastV I z c := by
  funext i
  have h1 : (i 1).val < 128 := (i 1).isLt
  unfold lastV
  rw [← hg]
  refine congrArg (fun j => _root_.cast (congrArg (Elt F) (comM z).view.elt_eq) (g ((comM z).view.emb j))) (funext fun a => Fin.ext ?_)
  match a with
  | 0 =>
    have h0 : (i 0).val < 1 := (i 0).isLt
    show 31 + 1 * (i 0).val = 31 + 1 * 0
    omega
  | 1 =>
    show 0 + 1 * (i 1).val = 64 * ((i 1).val / 64) + 1 * ((i 1).val % 64)
    omega
  | 2 => rfl

/-- An element of the result, within its half of the columns. -/
def halfIx (i : S128x2048.Idx) : S128x1024.Idx := fun a =>
  match a with
  | 0 => ⟨(i 0).val, (i 0).isLt⟩
  | 1 => ⟨(i 1).val % 1024, Nat.mod_lt _ (by decide)⟩

/-- The direction that makes an element of the result. -/
def sideOf (i : S128x2048.Idx) : Bool := decide (1024 ≤ (i 1).val)

/-- A device's block of the result. -/
def res (I : Inp F) (c : Dev nD) : oM.view.ty.Contents (Elt F) := fun i : S128x2048.Idx =>
  outOf (lastV I (sideOf i) c) (halfIx i)

theorem half_at (i : S128x2048.Idx) : (halfR (sideOf i)).emb (halfIx i) = i := by
  refine funext fun a => Fin.ext ?_
  have h1 : (i 1).val < 2048 := (i 1).isLt
  match a with
  | 0 => show 0 + 1 * (i 0).val = (i 0).val; omega
  | 1 =>
    show colOff (sideOf i) + 1 * ((i 1).val % 1024) = (i 1).val
    by_cases h : 1024 ≤ (i 1).val
    · rw [show sideOf i = true from decide_eq_true h]; show 1024 + _ = _; omega
    · rw [show sideOf i = false from decide_eq_false h]; show 0 + _ = _; omega

theorem out_write (I : Inp F) (c : Dev nD) (g : oM.view.ty.Contents (Elt F)) :
    (oM.access (halfR true)).write (Elt F) ((oM.access (halfR false)).write (Elt F) g (outOf (lastV I false c)) Finset.univ)
      (outOf (lastV I true c)) Finset.univ = res I c := by
  funext i
  have e : ∀ z, sideOf i = z → (oM.access (halfR z)).emb (halfIx i) = i := fun z hz => by subst hz; exact half_at i
  by_cases h : 1024 ≤ ((id i : S128x2048.Idx) 1).val
  · have hs : sideOf i = true := decide_eq_true h
    unfold res; rw [hs]
    conv_lhs => rw [← e true hs]
    exact View.write_emb_of_mem _ _ (Finset.mem_univ _)
  · have hs : sideOf i = false := decide_eq_false h
    have hn : i ∉ (oM.access (halfR true)).setOn Finset.univ := fun hm => by
      rw [View.setOn_univ, View.set_slice_whole, Rect.mem_set_unit] at hm
      exact h (hm 1).1
    rw [View.write_of_not_mem _ _ _ hn]
    unfold res; rw [hs]
    conv_lhs => rw [← e false hs]
    exact View.write_emb_of_mem _ _ (Finset.mem_univ _)

/-- The result's block on a device, whole. -/
def outPts (c : Dev nD) (g : oM.view.ty.Contents (Elt F)) : sProp 𝕄 := oM.view.loc (c : Thread nD τ) ↦{fullShare} g

theorem wp_finish (I : Inp F) (c : Dev nD) (Kt : PUnit → sProp 𝕄) :
    iprop((∃ g, ⌜∀ f, (fragA false 31 f).read (Elt F) g = acc I false f 31 c⌝ ∗ whole c false g)
      ∗ (∃ g, ⌜∀ f, (fragA true 31 f).read (Elt F) g = acc I true f 31 c⌝ ∗ whole c true g)
      ∗ (∃ g, outPts c g)
      ∗ (iprop((∃ g, whole c false g) ∗ (∃ g, whole c true g) ∗ outPts c (res I c)) -∗ |={Set.univ}=> Kt ⟨⟩))
      ⊢ wp frame (wpE (defs₀ (F := F)) 𝒱₀ (c : Thread nD τ) none) Set.univ finish Kt := by
  unfold whole outPts finish
  simp only [Prog.lift, Prog.bind_op, Prog.bind_ret]
  iintro ⟨⟨%gp, %hp, Hp⟩, ⟨%gm, %hm, Hm⟩, ⟨%go, Ho⟩, Hk⟩
  iapply (wp_load_rect 𝒱₀ (c : Thread nD τ) none Set.univ (m := comM false) (r := lastR) (Finset.subset_univ _)) $$ Hp
  iintro Hp
  iapply (wp_load_rect 𝒱₀ (c : Thread nD τ) none Set.univ (m := comM true) (r := lastR) (Finset.subset_univ _)) $$ Hm
  iintro Hm
  iapply (wp_load_rect 𝒱₀ (c : Thread nD τ) none Set.univ (m := oM) (r := halfR false) (Finset.subset_univ _)) $$ Ho
  iintro Ho
  iapply (wp_store 𝒱₀ (c : Thread nD τ) none Set.univ (m := oM) (r := halfR false) (Mk := Finset.univ) (S := Finset.univ) (Finset.subset_univ _)) $$ Ho
  iintro Ho
  iapply (wp_load_rect 𝒱₀ (c : Thread nD τ) none Set.univ (m := oM) (r := halfR true) (Finset.subset_univ _)) $$ Ho
  iintro Ho
  iapply (wp_store 𝒱₀ (c : Thread nD τ) none Set.univ (m := oM) (r := halfR true) (Mk := Finset.univ) (S := Finset.univ) (Finset.subset_univ _)) $$ Ho
  iintro Ho
  rw [last_read I c false gp hp, last_read I c true gm hm, out_write]
  rw [show (Pure.pure PUnit.unit : 𝔅 F) = .ret ⟨⟩ from rfl, wp_ret]
  iapply Hk
  isplitl [Hp]; · iexists gp; iexact Hp
  isplitl [Hm]; · iexists gm; iexact Hm
  iexact Ho

end Cert.KernelIdeal.Ring
-- ==== Proof.Run.lean ====
module

public import proofs.«01_k».proof.Proof.Pieces

/-!
# The body's run

From the launch's hand-out to every semaphore back at zero and the result's block in place.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## The meeting -/

/-- The two signals and the wait. -/
def greet (v4 v6 : BitVec 32) (h4 : devOf v4 < nD) (h6 : devOf v6 < nD) (k : 𝔅 F) : 𝔅 F := do
  semSignalWord (⟨devOf v4, h4⟩ : Dev nD) (sig.barrier 0 rfl) 1#32
  semSignalWord (⟨devOf v6, h6⟩ : Dev nD) (sig.barrier 0 rfl) 1#32
  semWaitWord (sig.barrier 0 rfl) 2#32
  k

abbrev MeetK (F : FTy → Type) [FloatOps F] := (d : Dev nD) → (v4 v6 : BitVec 32) → devOf v4 < nD → devOf v6 < nD → 𝔅 F

/-- The meeting once both words are read. -/
def meetB (k : MeetK F) (d : Dev nD) (v4 : BitVec 32) (h4 : k0_chk1 v4) (v6 : BitVec 32) : 𝔅 F :=
  .op (.assume (k0_chk2 v6) (k0_chk2.dec v6)) fun h =>
    greet v4 v6 (k0_dev1_lt v4 h4) (k0_dev2_lt v6 h.down) (k d v4 v6 (k0_dev1_lt v4 h4) (k0_dev2_lt v6 h.down))

/-- The meeting once the first word is read. -/
def meetA (k : MeetK F) (d : Dev nD) (v4 : BitVec 32) : 𝔅 F :=
  .op (.assume (k0_chk1 v4) (k0_chk1.dec v4)) fun h =>
    .op (.load tabM (tabR 31 d).toLoadRect (View.loadsAt_rect (View.loads_smem_one rfl numel1_S1x1))) fun g =>
      meetB k d v4 h.down (g (Shape.Idx.first (numel1_S1x1.symm ▸ Nat.one_pos)))

theorem meet_eq (k : MeetK F) : meet k = .op .deviceId fun d : Dev nD =>
    .op (.load tabM (tabR 1 d).toLoadRect (View.loadsAt_rect (View.loads_smem_one rfl numel1_S1x1))) fun g =>
      meetA k d (g (Shape.Idx.first (numel1_S1x1.symm ▸ Nat.one_pos))) := rfl

/-- What the meeting takes of the launch's hand-out. -/
def barKit (c : Dev nD) : sProp 𝕄 :=
  iprop(dutyTok ER (barCell (up true c)) 0 true ∗ dutyTok ER (barCell (up false c)) 0 false
    ∗ reached ER (barCell (up true c)) 0 ∗ reached ER (barCell (up false c)) 0 ∗ atPos ER (barCell c) 0 ∅ 0)

theorem dn_false (c : Dev nD) (h : devOf (tw 1 c) < nD) : (⟨devOf (tw 1 c), h⟩ : Dev nD) = dn false c := Fin.ext (devOf_tw 1 c)
theorem dn_true (c : Dev nD) (h : devOf (tw 31 c) < nD) : (⟨devOf (tw 31 c), h⟩ : Dev nD) = dn true c := Fin.ext (devOf_tw 31 c)

set_option maxHeartbeats 800000 in
theorem wp_greet (I : Inp F) (K : GSem nD τ sig → ℕ) (c : Dev nD) (W : Waits sig Unit) (h4 : devOf (tw 1 c) < nD) (h6 : devOf (tw 31 c) < nD) (k : 𝔅 F) (Kt : PUnit → sProp 𝕄) :
    iprop(base I K ∗ (barKit c ∗ cred (tallyAt (barCell c) () 2)) ∗ (lands false c ∗ lands true c) ∗ owes (c : Thread nD τ) (O₀ c) W
      ∗ (iprop((atPos ER (barCell c) 1 ∅ 0 ∗ lands false (dn false c) ∗ lands true (dn true c)) ∗ owing c ∅)
          -∗ wp frame (wpE (defs₀ (F := F)) 𝒱₀ (c : Thread nD τ) none) Set.univ k Kt))
      ⊢ wp frame (wpE (defs₀ (F := F)) 𝒱₀ (c : Thread nD τ) none) Set.univ (greet (tw 1 c) (tw 31 c) h4 h6 k) Kt := by
  unfold greet
  rw [dn_false c h4, dn_true c h6, show dn false c = up true c from rfl, show dn true c = up false c from rfl]
  unfold base barKit
  simp only [semSignalWord, semWaitWord, Prog.lift, Prog.bind_op, Prog.bind_ret]
  iintro ⟨⟨#HI, #Hlev⟩, ⟨⟨Ht, Hf, #Hrt, #Hrf, Hat⟩, Hc⟩, ⟨Hlf, Hlt⟩, HO, Hk⟩
  iapply (Rounds.wp_signal 𝒱₀ ER (Rd I) (c : Thread nD τ) none (dst := ((up true c : Dev nD) : Thread nD τ)) (sem := barS) (r := 0) (d := true) (κ := K (barCell (up true c)))
      (by rw [duties_bar]; exact Finset.mem_univ _) (amount_bar I (up true c) true) () (owedHops c ∅ + tallyAt (barCell (up false c)) () 1) rfl) $$ [HO Ht Hlt]
  · isplitr; · iapply (inv_bar I K (up true c)); iexact HI
    isplitl [HO]; · iexact HO
    isplitl [Ht]; · iexact Ht
    isplitl [Hlt]
    · rw [payload_bar, dn_up]; iexact Hlt
    iexact Hrt
  iintro HO
  iapply (Rounds.wp_signal 𝒱₀ ER (Rd I) (c : Thread nD τ) none (dst := ((up false c : Dev nD) : Thread nD τ)) (sem := barS) (r := 0) (d := false) (κ := K (barCell (up false c)))
      (by rw [duties_bar]; exact Finset.mem_univ _) (amount_bar I (up false c) false) () (owedHops c ∅) rfl) $$ [HO Hf Hlf]
  · isplitr; · iapply (inv_bar I K (up false c)); iexact HI
    isplitl [HO]; · iexact HO
    isplitl [Hf]; · iexact Hf
    isplitl [Hlf]
    · rw [payload_bar, dn_up]; iexact Hlf
    iexact Hrf
  iintro HO
  iapply (Rounds.wp_wait_rest_token 𝒱₀ ER (Rd I) (c : Thread nD τ) none (sm := .reg barS) (κ := K (barCell c))
      (wpE_semWait_eq (k := 2) 𝒱₀ (c : Thread nD τ) none Set.univ) (Set.mem_univ _) () (O := owedHops c ∅) (W := W) (R := 0) (m := 0) (T := ∅)
      ((Nat.zero_add 2).trans (expect_bar I c).symm)) $$ [Hc HO Hat]
  · isplitr; · iapply (inv_bar I K c); iexact HI
    isplitl [Hc]; · iexact Hc
    isplitl [HO]; · iexact HO
    isplitr
    · iapply (mayWait c (.reg barS) ∅ 1 (Nat.le_refl _) (fun h _ => by omega)); iexact Hlev
    iexact Hat
  iintro ⟨HO, Hat, -, Hpay⟩
  ihave Hp := (Entails.of_eq (rest_bar I c)) $$ Hpay
  iapply Hk
  isplitr [HO]
  · isplitl [Hat]; · iexact Hat
    iexact Hp
  unfold owing
  iexists _; iexact HO

theorem wp_meet (I : Inp F) (K : GSem nD τ sig → ℕ) (c : Dev nD) (W : Waits sig Unit) (k : MeetK F) (Kt : PUnit → sProp 𝕄) :
    iprop(base I K ∗ ins I c ∗ (barKit c ∗ cred (tallyAt (barCell c) () 2)) ∗ (lands false c ∗ lands true c) ∗ owes (c : Thread nD τ) (O₀ c) W
      ∗ (iprop(ins I c ∗ (atPos ER (barCell c) 1 ∅ 0 ∗ lands false (dn false c) ∗ lands true (dn true c)) ∗ owing c ∅)
          -∗ wp frame (wpE (defs₀ (F := F)) 𝒱₀ (c : Thread nD τ) none) Set.univ
            (k c (tw 1 c) (tw 31 c) (k0_dev1_lt _ (chk1 c)) (k0_dev2_lt _ (chk2 c))) Kt))
      ⊢ wp frame (wpE (defs₀ (F := F)) 𝒱₀ (c : Thread nD τ) none) Set.univ (meet k) Kt := by
  rw [meet_eq, wp_deviceId]
  unfold ins tabPts
  iintro ⟨#HB, ⟨Ht, Hx, Hw⟩, Hbar, Hl, HO, Hk⟩
  iapply (wp_load_rect 𝒱₀ (c : Thread nD τ) none Set.univ (m := tabM) (r := tabR 1 c) (Finset.subset_univ _)) $$ Ht
  iintro Ht
  rw [read_tab]
  unfold meetA
  rw [wp_assume_of 𝒱₀ (c : Thread nD τ) none Set.univ (chk1 c)]
  iapply (wp_load_rect 𝒱₀ (c : Thread nD τ) none Set.univ (m := tabM) (r := tabR 31 c) (Finset.subset_univ _)) $$ Ht
  iintro Ht
  rw [read_tab]
  unfold meetB
  rw [wp_assume_of 𝒱₀ (c : Thread nD τ) none Set.univ (chk2 c)]
  iapply (wp_greet I K c W)
  isplitr; · iexact HB
  isplitl [Hbar]; · iexact Hbar
  isplitl [Hl]; · iexact Hl
  isplitl [HO]; · iexact HO
  iintro ⟨Ha, HO⟩
  iapply Hk
  isplitl [Ht Hx Hw]
  · isplitl [Ht]; · iexact Ht
    isplitl [Hx] <;> iassumption
  isplitl [Ha]; · iexact Ha
  iexact HO

/-! ## The hand-out and its use -/

/-- What a device has for a hop's copy before its neighbour's slot is lent. -/
def sendKit (c : Dev nD) (h : Hop) : sProp 𝕄 :=
  iprop(dutyTok ER (qcell c h 0) 0 false ∗ reached ER (qcell c h 0) 0 ∗ dutyTok ER (qcell (dn h.1 c) h 1) 0 false ∗ atPos ER (qcell c h 0) 0 ∅ 0)

/-- A lent slot. -/
def lent (c : Dev nD) (h : Hop) : sProp 𝕄 :=
  iprop(fragAny (dn h.1 c) h.1 h.2.1.succ h.2.2 ∗ reached ER (qcell (dn h.1 c) h 1) 0)

theorem lands_lent (c : Dev nD) : (iprop(lands false (dn false c) ∗ lands true (dn true c)) : sProp 𝕄) = bigSep Finset.univ (lent c) := by
  rw [bigSep_univ_prod, univ_bool_sep]; rfl

theorem sendSt_start (c : Dev nD) (h : Hop) : (iprop(sendKit c h ∗ lent c h) : sProp 𝕄) ⊢ sendSt c ∅ h := by
  rw [sendSt_out c (Finset.notMem_empty h)]
  unfold sendKit lent
  iintro ⟨⟨Ha, Hb, Hc, Hd⟩, He⟩
  isplitl [Ha]; · iexact Ha
  isplitl [Hb]; · iexact Hb
  isplitl [Hc]; · iexact Hc
  isplitl [He]; · iexact He
  iexact Hd

theorem sends_start (c : Dev nD) :
    (iprop((bigSep Finset.univ (sendKit c)) ∗ (lands false (dn false c) ∗ lands true (dn true c))) : sProp 𝕄) ⊢ sends c ∅ := by
  rw [lands_lent, ← bigSep_sep']
  exact bigSep_mono fun h _ => sendSt_start c h

/-- Round 0 of every receiver's semaphore of a device is reached. -/
def recvReached (c : Dev nD) : sProp 𝕄 := bigSep Finset.univ fun h : Hop => reached ER (qcell c h 1) 0

instance (c : Dev nD) : BI.Persistent (recvReached c : sProp 𝕄) := by unfold recvReached; infer_instance

theorem lands_start (c : Dev nD) (z : Bool) :
    (iprop(recvReached c ∗ bigSep Finset.univ fun p : Fin 31 × Fin 2 => fragAny c z p.1.succ p.2) : sProp 𝕄) ⊢ lands z c := by
  have e : (recvReached c : sProp 𝕄) ⊢ bigSep Finset.univ fun p : Fin 31 × Fin 2 => reached ER (qcell c (z, p) 1) 0 := by
    unfold recvReached
    rw [bigSep_univ_prod]
    exact bigSep_elim (Φ := fun z : Bool => bigSep Finset.univ fun p : Fin 31 × Fin 2 => (reached ER (qcell c (z, p) 1) 0 : sProp 𝕄)) (Finset.mem_univ z)
  unfold lands
  rw [bigSep_sep']
  iintro ⟨Hr, Hf⟩
  isplitl [Hf]; · iexact Hf
  iapply e; iexact Hr

/-- All a device starts its body with. -/
def runPre (I : Inp F) (K : GSem nD τ sig → ℕ) (c : Dev nD) (W : Waits sig Unit) : sProp 𝕄 :=
  iprop(base I K ∗ ins I c ∗ (barKit c ∗ cred (tallyAt (barCell c) () 2)) ∗ (bigSep Finset.univ (sendKit c)) ∗ recvs I c ∅ ∗ recvReached c
    ∗ ((∃ g, whole c false g) ∗ (∃ g, whole c true g)) ∗ (∃ g, outPts c g) ∗ owes (c : Thread nD τ) (O₀ c) W)

/-- All a device ends its body with. -/
def runPost (I : Inp F) (c : Dev nD) : sProp 𝕄 :=
  iprop(semVal (barCell c) 0 ∗ (bigSep Finset.univ fun q : Hop × Fin 2 => semVal (qcell c q.1 q.2) 0) ∗ ins I c
    ∗ ((∃ g, whole c false g) ∗ (∃ g, whole c true g)) ∗ outPts c (res I c) ∗ ∃ W, owes (c : Thread nD τ) (0 : CellTallies nD τ sig Unit) W)

/-! ## Closing the semaphores -/

theorem close_cell (I : Inp F) (κ : ℕ) (g : GSem nD τ sig) :
    (iprop(cellInv ER (Rd I) κ g ∗ atPos ER g 1 ∅ 0) : sProp 𝕄) ⊢ |={Set.univ}=> semVal g 0 :=
  Rounds.cell_close ER (Rd I) (Set.mem_univ κ) id (duties_later I g)

/-- Both positions of a hop's semaphores, at the end. -/
def hopEnd (c : Dev nD) (h : Hop) : sProp 𝕄 := iprop(atPos ER (qcell c h 0) 1 ∅ 0 ∗ atPos ER (qcell c h 1) 1 ∅ 0)

theorem close_hop (I : Inp F) (K : GSem nD τ sig → ℕ) (c : Dev nD) (h : Hop) :
    (iprop(base I K ∗ hopEnd c h) : sProp 𝕄) ⊢ |={Set.univ}=> bigSep Finset.univ fun r : Fin 2 => semVal (qcell c h r) 0 := by
  unfold hopEnd base
  rw [univ_two_sep]
  iintro ⟨⟨#HI, -⟩, H0, H1⟩
  imod (close_cell I (K (qcell c h 0)) (qcell c h 0)) $$ [H0] with S0
  · isplitr; · iapply (inv_hop I K c h 0); iexact HI
    iexact H0
  imod (close_cell I (K (qcell c h 1)) (qcell c h 1)) $$ [H1] with S1
  · isplitr; · iapply (inv_hop I K c h 1); iexact HI
    iexact H1
  imodintro
  isplitl [S0] <;> iassumption

/-- What stays in hand serves every member of a family. -/
theorem each_with {J : Type} [Fintype J] [DecidableEq J] (P : sProp 𝕄) [BI.Persistent P] (Φ Ψ : J → sProp 𝕄) (h : ∀ i, iprop(P ∗ Φ i) ⊢ Ψ i) :
    iprop(P ∗ bigSep Finset.univ Φ) ⊢ bigSep Finset.univ Ψ := by
  have e : (bigSep Finset.univ fun i : J => iprop(P ∗ Φ i)) ⊢ bigSep Finset.univ Ψ := bigSep_mono fun i _ => h i
  rw [bigSep_sep'] at e
  iintro ⟨#HP, H⟩
  iapply e
  isplitr
  · iapply (bigSep_of_persistent Finset.univ P); iexact HP
  iexact H

theorem close_hops (I : Inp F) (K : GSem nD τ sig → ℕ) (c : Dev nD) :
    (iprop(base I K ∗ bigSep Finset.univ (hopEnd c)) : sProp 𝕄)
      ⊢ |={Set.univ}=> bigSep Finset.univ fun q : Hop × Fin 2 => semVal (qcell c q.1 q.2) 0 := by
  rw [bigSep_univ_prod (fun q : Hop × Fin 2 => (semVal (qcell c q.1 q.2) 0 : sProp 𝕄))]
  have e := bigSep_fupd (Fr := Idealize.ShloMosaic.frame) (E := Set.univ) Finset.univ
    (fun h : Hop => bigSep Finset.univ fun r : Fin 2 => (semVal (qcell c h r) 0 : sProp 𝕄))
  exact (each_with (base I K) (hopEnd c) _ (close_hop I K c)).trans e

/-! ## The end of the walk -/

/-- The receipts' and the sources' ledgers, full, are both buffers and every hop's positions. -/
theorem ledgers_end (I : Inp F) (c : Dev nD) :
    (iprop(recvs I c Finset.univ ∗ drained c Finset.univ) : sProp 𝕄)
      ⊢ iprop((bigSep Finset.univ (hopEnd c)) ∗ (bigSep Finset.univ (piece I c false)) ∗ bigSep Finset.univ (piece I c true)) := by
  have er : (recvs I c Finset.univ : sProp 𝕄) = iprop((bigSep Finset.univ fun h : Hop => atPos ER (qcell c h 1) 1 ∅ 0) ∗ bigSep Finset.univ fun h : Hop => lastAt I c h) := by
    rw [← bigSep_sep']; exact bigSep_congr fun h _ => recvSt_in I c (Finset.mem_univ h)
  have ed : (drained c Finset.univ : sProp 𝕄) = iprop((bigSep Finset.univ fun h : Hop => atPos ER (qcell c h 0) 1 ∅ 0) ∗ bigSep Finset.univ fun h : Hop => fragAny c h.1 h.2.1.castSucc h.2.2) := by
    rw [← bigSep_sep']; exact bigSep_congr fun h _ => drainSt_in c (Finset.mem_univ h)
  have eh : (bigSep Finset.univ (hopEnd c) : sProp 𝕄) = iprop((bigSep Finset.univ fun h : Hop => atPos ER (qcell c h 0) 1 ∅ 0) ∗ bigSep Finset.univ fun h : Hop => atPos ER (qcell c h 1) 1 ∅ 0) := bigSep_sep' _ _ _
  have el : (bigSep Finset.univ fun h : Hop => (lastAt I c h : sProp 𝕄)) = iprop((bigSep Finset.univ fun p : Fin 31 × Fin 2 => lastAt I c (false, p)) ∗ bigSep Finset.univ fun p : Fin 31 × Fin 2 => lastAt I c (true, p)) := by
    rw [bigSep_univ_prod, univ_bool_sep]
  have ef : (bigSep Finset.univ fun h : Hop => (fragAny c h.1 h.2.1.castSucc h.2.2 : sProp 𝕄)) = iprop((bigSep Finset.univ fun p : Fin 31 × Fin 2 => fragAny c false p.1.castSucc p.2) ∗ bigSep Finset.univ fun p : Fin 31 × Fin 2 => fragAny c true p.1.castSucc p.2) := by
    rw [bigSep_univ_prod, univ_bool_sep]
  rw [er, ed, eh, el, ef]
  iintro ⟨⟨Hr, Hl0, Hl1⟩, Hd, Hf0, Hf1⟩
  isplitl [Hr Hd]
  · isplitl [Hd] <;> iassumption
  isplitl [Hl0 Hf0]
  · iapply (pieces_of I c false)
    isplitl [Hl0] <;> iassumption
  · iapply (pieces_of I c true)
    isplitl [Hl1] <;> iassumption

theorem walk_end (I : Inp F) (c : Dev nD) :
    (walk I c 124 : sProp 𝕄) ⊢ iprop(ins I c ∗ recvs I c Finset.univ ∗ drained c ∅ ∗ owing c Finset.univ) := by
  unfold walk
  rw [done_all (Nat.le_refl 124), done_all (by omega : 124 ≤ 124 + 4)]
  iintro ⟨Hi, Hr, Hs, HO⟩
  isplitl [Hi]; · iexact Hi
  isplitl [Hr]; · iexact Hr
  isplitl [Hs]; · iapply (drained_start c); iexact Hs
  iexact HO

/-! ## The whole body -/

set_option maxHeartbeats 1600000 in
theorem run (I : Inp F) (K : GSem nD τ sig → ℕ) (c : Dev nD) (W : Waits sig Unit) (Kt : PUnit → sProp 𝕄) :
    iprop(runPre I K c W ∗ (runPost I c -∗ Kt ⟨⟩))
      ⊢ wp frame (wpE (defs₀ (F := F)) 𝒱₀ (c : Thread nD τ) none) Set.univ body Kt := by
  have hs : ∀ (z : Bool) (f : Fin 2) (n : ℕ), ixd (z, 0, f) = n → (z, (0 : Fin 31), f) ∉ doned n := fun z f n hn e => by have := mem_doned.mp e; omega
  unfold runPre body
  iintro ⟨⟨#HB, Hi, Hbar, Hkit, Hr, #Hrr, ⟨⟨%gp, Hp⟩, ⟨%gm, Hm⟩⟩, Ho, HO⟩, Hk⟩
  ihave Hp' := (whole_split c false gp) $$ Hp
  ihave Hm' := (whole_split c true gm) $$ Hm
  icases Hp' with ⟨⟨Hp0, Hp1⟩, Hps⟩
  icases Hm' with ⟨⟨Hm0, Hm1⟩, Hms⟩
  iapply (wp_meet I K c W)
  isplitr; · iexact HB
  isplitl [Hi]; · iexact Hi
  isplitl [Hbar]; · iexact Hbar
  isplitl [Hps Hms]
  · isplitl [Hps]
    · iapply (lands_start c false); isplitr; · iexact Hrr
      iexact Hps
    · iapply (lands_start c true); isplitr; · iexact Hrr
      iexact Hms
  isplitl [HO]; · iexact HO
  iintro ⟨Hi, ⟨Hat, Hl⟩, HO⟩
  ihave Hs := (sends_start c) $$ [Hkit Hl]
  · isplitl [Hkit] <;> iassumption
  iapply (wp_first I c false 0)
  isplitl [Hi]; · iexact Hi
  isplitl [Hp0]; · iexact Hp0
  iintro ⟨Hi, Hp0⟩
  iapply (wp_first I c false 1)
  isplitl [Hi]; · iexact Hi
  isplitl [Hp1]; · iexact Hp1
  iintro ⟨Hi, Hp1⟩
  iapply (wp_first I c true 0)
  isplitl [Hi]; · iexact Hi
  isplitl [Hm0]; · iexact Hm0
  iintro ⟨Hi, Hm0⟩
  iapply (wp_first I c true 1)
  isplitl [Hi]; · iexact Hi
  isplitl [Hm1]; · iexact Hm1
  iintro ⟨Hi, Hm1⟩
  rw [← doned_none]
  iapply (wp_send I K c false 0 0 (doned 0) (hs false 0 0 rfl) _ (dn_false c _))
  isplitr; · iexact HB
  isplitl [Hp0]; · iexact Hp0
  isplitl [Hs]; · iexact Hs
  isplitl [HO]; · iexact HO
  rw [insert_doned (false, 0, 0) (n := 0) rfl]
  iintro ⟨Hs, HO⟩
  iapply (wp_send I K c true 0 0 (doned 1) (hs true 0 1 rfl) _ (dn_true c _))
  isplitr; · iexact HB
  isplitl [Hm0]; · iexact Hm0
  isplitl [Hs]; · iexact Hs
  isplitl [HO]; · iexact HO
  rw [insert_doned (true, 0, 0) (n := 1) rfl]
  iintro ⟨Hs, HO⟩
  iapply (wp_send I K c false 0 1 (doned 2) (hs false 1 2 rfl) _ (dn_false c _))
  isplitr; · iexact HB
  isplitl [Hp1]; · iexact Hp1
  isplitl [Hs]; · iexact Hs
  isplitl [HO]; · iexact HO
  rw [insert_doned (false, 0, 1) (n := 2) rfl]
  iintro ⟨Hs, HO⟩
  iapply (wp_send I K c true 0 1 (doned 3) (hs true 1 3 rfl) _ (dn_true c _))
  isplitr; · iexact HB
  isplitl [Hm1]; · iexact Hm1
  isplitl [Hs]; · iexact Hs
  isplitl [HO]; · iexact HO
  rw [insert_doned (true, 0, 1) (n := 3) rfl]
  iintro ⟨Hs, HO⟩
  iapply (wp_hops I K c (tw 1 c) (tw 31 c) _ _ (dn_false c _) (dn_true c _) _ _ 31 (Nat.le_refl 31))
  isplitr; · iexact HB
  isplitl [Hi Hr Hs HO]
  · unfold walk
    rw [show 4 * (31 - 31) = 0 from rfl, done_none, show (3 : ℕ) + 1 = 4 from rfl, doned_four]
    isplitl [Hi]; · iexact Hi
    isplitl [Hr]; · rw [doned_none]; iexact Hr
    isplitl [Hs] <;> iassumption
  iintro Hw
  ihave Hw' := (walk_end I c) $$ Hw
  icases Hw' with ⟨Hi, Hr, Hd, HO⟩
  iapply (wp_drains I K c _ _ 31 (Nat.le_refl 31))
  isplitr; · iexact HB
  isplitl [Hd HO]
  · rw [show 4 * (31 - 31) = 0 from rfl]
    isplitl [Hd]; · rw [doned_none]; iexact Hd
    iexact HO
  rw [doned_all]
  iintro ⟨Hd, HO⟩
  ihave He := (ledgers_end I c) $$ [Hr Hd]
  · isplitl [Hr] <;> iassumption
  icases He with ⟨Hh, Hp, Hm⟩
  iapply (wp_finish I c)
  isplitl [Hp]; · iapply (whole_join I c false); iexact Hp
  isplitl [Hm]; · iapply (whole_join I c true); iexact Hm
  isplitl [Ho]; · iexact Ho
  iintro ⟨Hp, Hm, Ho⟩
  imod (close_cell I (K (barCell c)) (barCell c)) $$ [Hat] with Hb0
  · isplitr
    · unfold base
      icases HB with ⟨#HI, -⟩
      iapply (inv_bar I K c); iexact HI
    iexact Hat
  imod (close_hops I K c) $$ [Hh] with Hq0
  · isplitr; · iexact HB
    iexact Hh
  imodintro
  iapply Hk
  unfold runPost owing
  icases HO with ⟨%W', HO⟩
  isplitl [Hb0]; · iexact Hb0
  isplitl [Hq0]; · iexact Hq0
  isplitl [Hi]; · iexact Hi
  isplitl [Hp Hm]
  · isplitl [Hp] <;> iassumption
  isplitl [Ho]; · iexact Ho
  iexists W'
  rw [owedHops_all]; iexact HO

end Cert.KernelIdeal.Ring
-- ==== Proof.Region.lean ====
module

public import proofs.«01_k».proof.Proof.Run
public import proofs.«01_k».proof.Proof.Gen.KernelIdeal.Frame
public import Idealize.ShloMosaic.Lib.Pipeline.RegionTalk

/-!
# The kernel's region

The four arrays a device stages, what they hold when the kernel starts and when it ends, and the region's
entry and exit: a device enters with its semaphores at zero and not yet opened, and leaves with all of them
at zero again.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts

variable {F : FTy → Type} [FloatOps F]

local notation "𝕄" => MT nD τ sig Unit (Elt F) ℕ UU ℕ

variable (m : (ℓ : Loc nD τ sig) → Buf (Elt F) ℓ)

/-! ## What the arrays hold -/

/-- A device's buffers at launch, -/
def V₀ (c : Dev nD) : Valuation τ sig (Elt F) := fun b => m (c, b)
/-- once the table is written, -/
def V₁ (c : Dev nD) : Valuation τ sig (Elt F) := StableHlo.after Gen.hostOps0 (V₀ m c)

/-- The inputs, device by device. -/
def inpOf : Inp F where
  X c := m ((c : Thread nD τ).loc main_arg0)
  W c := m ((c : Thread nD τ).loc main_arg1)

/-- and once the kernel is done. -/
def V₂ (c : Dev nD) : Valuation τ sig (Elt F) := Function.update (V₁ m c) (Proc.devRef .tc main_v1) (res (inpOf m) c)

theorem V₁_x (c : Dev nD) : V₁ m c (Proc.devRef .tc main_arg0) = (inpOf m).X c := Gen.V_main_arg0 m c
theorem V₁_w (c : Dev nD) : V₁ m c (Proc.devRef .tc main_arg1) = (inpOf m).W c := Gen.V_main_arg1 m c
theorem V₁_c (c : Dev nD) : V₁ m c (Proc.devRef .tc main_c) = (tabC (F := F)) := by
  unfold V₁ Gen.hostOps0
  rw [StableHlo.after_cons, StableHlo.after_nil]
  exact StableHlo.nullary_result _ _ _ _

theorem V₂_o (c : Dev nD) : V₂ m c (Proc.devRef .tc main_v1) = res (inpOf m) c := Function.update_self ..
theorem V₂_ne (c : Dev nD) (b : Ref sig .tc) (h : (Proc.devRef .tc b : DevRef τ sig) ≠ Proc.devRef .tc main_v1) :
    V₂ m c (Proc.devRef .tc b) = V₁ m c (Proc.devRef .tc b) := Function.update_of_ne h ..

/-! ## The region's own semaphores and what is kept for them -/

/-- The semaphores of the hops. -/
def osem (q : Hop × Fin 2) : SemLoc sig := .dma (hsem q.1 q.2)

theorem dma_scoped : ∀ k : DmaSem sig, (SemLoc.dma k : SemLoc sig).isScoped .tc = true := by decide +kernel
theorem stage_low : ∀ (w : Fin 4) (s : Fin (spec0 w).nbuf), ((spec0 w).sem s).val < 4 := by decide +kernel

theorem osem_inj : Function.Injective osem := fun _ _ e => by
  have e' := hsem_inj (SemLoc.dma.inj e)
  exact Prod.ext e'.1 e'.2

theorem ownSem : Pipeline.OwnSemFacts spec0 osem where
  isScoped _ := dma_scoped _
  inj := osem_inj
  disj q w s e := by
    have h4 := hsem_four q.1 q.2
    have hl := stage_low w s
    rw [SemLoc.dma.inj e] at h4
    exact absurd hl (Nat.not_lt.mpr h4)

theorem ownSems_eq (c : Dev nD) : (Pipeline.ownSems0 osem c : sProp 𝕄)
    = bigSep Finset.univ fun q : Hop × Fin 2 => (semVal (qcell c q.1 q.2) 0 : sProp 𝕄) := rfl

/-- The tokens with which a device sends a hop. -/
def hopToks (c : Dev nD) (h : Hop) : sProp 𝕄 := iprop(dutyTok ER (qcell c h 0) 0 false ∗ dutyTok ER (qcell (dn h.1 c) h 1) 0 false)

/-- From launch to the region: the invariants, the tokens, the right to open the semaphores. -/
def ghost (I : Inp F) (K : GSem nD τ sig → ℕ) (c : Dev nD) : sProp 𝕄 :=
  iprop(invAll I K ∗ barKit c ∗ (bigSep Finset.univ (hopToks c))
    ∗ bigSep Finset.univ fun q : Hop × Fin 2 => openTok ER (qcell c q.1 q.2))

def credits (c : Dev nD) : sProp 𝕄 :=
  iprop(cred (tallyAt (barCell c) () 2) ∗ bigSep Finset.univ fun h : Hop => cred (tallyAt (qcell c h 1) () N))

def Tk (I : Inp F) (c : Dev nD) : sProp 𝕄 := iprop((∃ K, ghost I K c) ∗ credits c)

/-- The same with the semaphores opened. -/
def Xk (I : Inp F) (c : Dev nD) : sProp 𝕄 :=
  iprop(∃ K, base I K ∗ (barKit c ∗ cred (tallyAt (barCell c) () 2)) ∗ (bigSep Finset.univ (sendKit c)) ∗ recvs I c ∅ ∗ recvReached c)

def Yk (c : Dev nD) : sProp 𝕄 := semVal (barCell c) 0

theorem open_cell (I : Inp F) (K : GSem nD τ sig → ℕ) (c : Dev nD) (q : Hop × Fin 2) :
    (iprop(invAll I K ∗ (openTok ER (qcell c q.1 q.2) ∗ semVal (qcell c q.1 q.2) 0)) : sProp 𝕄)
      ⊢ |={Set.univ}=> iprop(atPos ER (qcell c q.1 q.2) 0 ∅ 0 ∗ reached ER (qcell c q.1 q.2) 0) := by
  iintro ⟨#HI, Ho, Hv⟩
  iapply (Rounds.cell_open ER (Rd I) (g := qcell c q.1 q.2) (Set.mem_univ (K (qcell c q.1 q.2))))
  isplitr; · iapply (inv_hop I K c q.1 q.2); iexact HI
  isplitl [Ho] <;> iassumption

theorem open_cells (I : Inp F) (K : GSem nD τ sig → ℕ) (c : Dev nD) :
    (iprop(invAll I K ∗ bigSep Finset.univ fun q : Hop × Fin 2 => iprop(openTok ER (qcell c q.1 q.2) ∗ semVal (qcell c q.1 q.2) 0)) : sProp 𝕄)
      ⊢ |={Set.univ}=> bigSep Finset.univ fun q : Hop × Fin 2 => iprop(atPos ER (qcell c q.1 q.2) 0 ∅ 0 ∗ reached ER (qcell c q.1 q.2) 0) := by
  have e := bigSep_fupd (Fr := Idealize.ShloMosaic.frame) (E := Set.univ) Finset.univ
    (fun q : Hop × Fin 2 => (iprop(atPos ER (qcell c q.1 q.2) 0 ∅ 0 ∗ reached ER (qcell c q.1 q.2) 0) : sProp 𝕄))
  exact (each_with (invAll I K) _ _ (open_cell I K c)).trans e

/-- A family over hops and ends, as the sends' and the receipts'. -/
theorem hops_ends (Φ : Hop → Fin 2 → sProp 𝕄) :
    bigSep Finset.univ (fun q : Hop × Fin 2 => Φ q.1 q.2)
      = iprop((bigSep Finset.univ fun h => Φ h 0) ∗ bigSep Finset.univ fun h => Φ h 1) := by
  rw [bigSep_univ_prod (fun q : Hop × Fin 2 => Φ q.1 q.2), ← bigSep_sep']
  exact bigSep_congr fun h _ => univ_two_sep _

theorem sendKits (c : Dev nD) : (iprop((bigSep Finset.univ fun h : Hop => iprop(atPos ER (qcell c h 0) 0 ∅ 0 ∗ reached ER (qcell c h 0) 0))
    ∗ bigSep Finset.univ (hopToks c)) : sProp 𝕄) ⊢ bigSep Finset.univ (sendKit c) := by
  have e : (bigSep Finset.univ fun h : Hop => iprop(iprop(atPos ER (qcell c h 0) 0 ∅ 0 ∗ reached ER (qcell c h 0) 0) ∗ hopToks c h) : sProp 𝕄)
      ⊢ bigSep Finset.univ (sendKit c) := bigSep_mono fun h _ => by
    have e1 : (iprop(iprop(atPos ER (qcell c h 0) 0 ∅ 0 ∗ reached ER (qcell c h 0) 0) ∗ hopToks c h) : sProp 𝕄) ⊢ sendKit c h := by
      unfold hopToks sendKit
      iintro ⟨⟨Ha, Hr⟩, Hs, Hd⟩
      isplitl [Hs]; · iexact Hs
      isplitl [Hr]; · iexact Hr
      isplitl [Hd] <;> iassumption
    exact e1
  rw [bigSep_sep'] at e
  exact e

theorem recvs_start (I : Inp F) (c : Dev nD) : (iprop((bigSep Finset.univ fun h : Hop => cred (tallyAt (qcell c h 1) () N))
    ∗ bigSep Finset.univ fun h : Hop => iprop(atPos ER (qcell c h 1) 0 ∅ 0 ∗ reached ER (qcell c h 1) 0)) : sProp 𝕄)
      ⊢ iprop(recvs I c ∅ ∗ recvReached c) := by
  have e : recvs I c ∅ = (iprop((bigSep Finset.univ fun h : Hop => cred (tallyAt (qcell c h 1) () N))
      ∗ bigSep Finset.univ fun h : Hop => atPos ER (qcell c h 1) 0 ∅ 0) : sProp 𝕄) := by
    rw [← bigSep_sep']
    exact bigSep_congr fun h _ => if_neg (Finset.notMem_empty h)
  rw [bigSep_sep', e]
  unfold recvReached
  iintro ⟨Hc, Ha, Hr⟩
  isplitl [Hc Ha]
  · isplitl [Hc] <;> iassumption
  iexact Hr

theorem hopen (I : Inp F) (c : Dev nD) :
    (iprop(Tk I c ∗ Pipeline.ownSems0 osem c ∗ levAts L lv) : sProp 𝕄) ⊢ |={Set.univ}=> Xk I c := by
  rw [ownSems_eq]
  unfold Tk Xk ghost credits base
  iintro ⟨⟨⟨%K, #HI, Hb, Ht, Ho⟩, Hc2, Hcr⟩, Hv, #Hlev⟩
  imod (open_cells I K c) $$ [Ho Hv] with H
  · isplitr; · iexact HI
    iapply (Entails.of_eq (bigSep_sep' _ _ _).symm)
    isplitl [Ho] <;> iassumption
  ihave H' := (Entails.of_eq (hops_ends (F := F) (fun h r => iprop(atPos ER (qcell c h r) 0 ∅ 0 ∗ reached ER (qcell c h r) 0)))) $$ H
  icases H' with ⟨Hs, Hr⟩
  ihave HS := (sendKits (F := F) c) $$ [Hs Ht]
  · isplitl [Hs] <;> iassumption
  ihave HR := (recvs_start I c) $$ [Hcr Hr]
  · isplitl [Hcr] <;> iassumption
  imodintro
  iexists K
  isplitr
  · isplitr; · iexact HI
    iexact Hlev
  isplitl [Hb Hc2]
  · isplitl [Hb] <;> iassumption
  isplitl [HS]; · iexact HS
  iexact HR

/-! ## The region's data -/

/-- Both buffers of fragments, and the generator's register, at whatever they hold. -/
def spare (c : Dev nD) : sProp 𝕄 := iprop(((∃ g, whole c false g) ∗ (∃ g, whole c true g)) ∗ ∃ r, prngReg c r)

def dat (c : Dev nD) : Dat τ (Elt F) Unit ℕ UU ℕ cfg0 c where
  A w := V₁ m c (Proc.devRef .tc (Pipeline.arrRef spec0 w))
  after w _ := match w with
    | ⟨0, _⟩ => (tabC (F := F))
    | ⟨1, _⟩ => (inpOf m).X c
    | ⟨2, _⟩ => (inpOf m).W c
    | ⟨3, _⟩ => res (inpOf m) c
  Φ t := if t.val = 0 then iprop(Xk (inpOf m) c ∗ spare c)
    else iprop(Yk c ∗ (bigSep Finset.univ fun q : Hop × Fin 2 => semVal (qcell c q.1 q.2) 0) ∗ spare c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-! ### What the windows hold -/

theorem off0 (a : Fin 2) : (win0_0.index Gen.t0_0) a * main_c.ty.shape.size a = 0 := by revert a; decide
theorem off1 (a : Fin 2) : (win0_1.index Gen.t0_0) a * main_arg0.ty.shape.size a = 0 := by revert a; decide
theorem off2 (a : Fin 2) : (win0_2.index Gen.t0_0) a * main_arg1.ty.shape.size a = 0 := by revert a; decide
theorem off3 (a : Fin 2) : (win0_3.index Gen.t0_0) a * main_v1.ty.shape.size a = 0 := by revert a; decide

theorem before_c (c : Dev nD) (d) : (dat m c).before 0 Gen.t0_0 d = (tabC (F := F)) := by
  unfold Dat.before
  rw [if_pos (Gen.fetch0_0 Gen.t0_0)]
  exact (Memref.read_access_unit_zero (Elt F) main_c (funext off0) (fun a => by fin_cases a <;> decide) _).trans (V₁_c m c)
theorem before_x (c : Dev nD) (d) : (dat m c).before 1 Gen.t0_0 d = (inpOf m).X c := by
  unfold Dat.before
  rw [if_pos (Gen.fetch0_1 Gen.t0_0)]
  exact (Memref.read_access_unit_zero (Elt F) main_arg0 (funext off1) (fun a => by fin_cases a <;> decide) _).trans (V₁_x m c)
theorem before_w (c : Dev nD) (d) : (dat m c).before 2 Gen.t0_0 d = (inpOf m).W c := by
  unfold Dat.before
  rw [if_pos (Gen.fetch0_2 Gen.t0_0)]
  exact (Memref.read_access_unit_zero (Elt F) main_arg1 (funext off2) (fun a => by fin_cases a <;> decide) _).trans (V₁_w m c)

/-- What the result array holds in the end. -/
theorem array_o (c : Dev nD) : (dat m c).arrAt 3 cfg0.N = res (inpOf m) c := by
  have e : (win0_3.blk Gen.t0_0).view.read (Elt F) ((dat m c).arrAt 3 cfg0.N) = res (inpOf m) c := by
    rw [show cfg0.N = (Gen.t0_0 : Fin cfg0.N).val + 1 from Gen.N_0, (dat m c).arrAt_succ 3 Gen.t0_0, if_pos (Gen.flush0_3 Gen.t0_0)]
    exact View.read_write_univ _ _
  exact (Memref.read_access_unit_zero (Elt F) main_v1 (funext off3) (fun a => by fin_cases a <;> decide) _).symm.trans e

theorem array_start (c : Dev nD) (w : Fin 4) : (dat m c).arrAt w 0 = V₁ m c (Proc.devRef .tc (Pipeline.arrRef spec0 w)) := rfl

theorem array_end (c : Dev nD) : ∀ w : Fin 4, (dat m c).arrAt w cfg0.N = V₂ m c (Proc.devRef .tc (Pipeline.arrRef spec0 w))
  | ⟨0, _⟩ => ((dat m c).arrAt_in 0 rfl _).trans (V₂_ne m c main_c (by decide)).symm
  | ⟨1, _⟩ => ((dat m c).arrAt_in 1 rfl _).trans (V₂_ne m c main_arg0 (by decide)).symm
  | ⟨2, _⟩ => ((dat m c).arrAt_in 2 rfl _).trans (V₂_ne m c main_arg1 (by decide)).symm
  | ⟨3, _⟩ => (array_o m c).trans (V₂_o m c).symm

/-! ### The body -/

omit [FloatOps F] in
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

theorem owed_start (c : Dev nD) : (dat (F := F) m c).owed 0 = O₀ c := by dsimp only [dat]; exact if_pos rfl
theorem owed_end (c : Dev nD) : (dat (F := F) m c).owed Gen.t0_0.succ = 0 := by dsimp only [dat]; exact if_neg (Nat.succ_ne_zero _)

theorem inv_start (c : Dev nD) : (dat m c).Φ Gen.t0_0.castSucc = iprop(Xk (inpOf m) c ∗ spare c) := by dsimp only [dat]; exact if_pos rfl
theorem inv_end (c : Dev nD) : (dat m c).Φ Gen.t0_0.succ
    = iprop(Yk c ∗ (bigSep Finset.univ fun q : Hop × Fin 2 => semVal (qcell c q.1 q.2) 0) ∗ spare c) := by dsimp only [dat]; exact if_neg (Nat.succ_ne_zero _)

theorem owesAt_of (c : Dev nD) (W : Waits sig Unit) :
    (owes (c : Thread nD τ) (0 : CellTallies nD τ sig Unit) W : sProp 𝕄) ⊢ (dat m c).owesAt () Gen.t0_0.succ := by
  unfold Dat.owesAt Pipeline.owesWithin
  rw [owed_end]
  iintro HO
  iexists W
  isplitr; · ipureintro; exact fun _ _ => Or.inl trivial
  iexact HO

theorem of_owesAt (c : Dev nD) : ((dat m c).owesAt () Gen.t0_0.castSucc : sProp 𝕄) ⊢ iprop(∃ W, owes (c : Thread nD τ) (O₀ c) W) := by
  unfold Dat.owesAt Pipeline.owesWithin
  rw [show (dat m c).owed Gen.t0_0.castSucc = O₀ c from owed_start m c]
  iintro ⟨%W, -, HO⟩
  iexists W
  iexact HO

/-- One device's body, from its staged arrays. -/
theorem body_ok (c : Dev nD) : BodyObligation (dat m c) (defs₀ (F := F)) 𝒱₀ () Set.univ := fun t => by
  obtain rfl := Gen.fin_N0 t
  rw [Gen.bigSep_W0, Gen.bigSep_W0, body_eq, inv_start, inv_end]
  unfold Xk Yk spare
  iintro ⟨⟨⟨%K, HB, Hbar, HS, HR, Hrr⟩, Hsc, Hreg⟩, HO, ⟨%d0, H0⟩, ⟨%d1, H1⟩, ⟨%d2, H2⟩, ⟨%d3, H3⟩⟩
  ihave HO' := (of_owesAt m c) $$ HO
  icases HO' with ⟨%W, HO⟩
  iapply (run (inpOf m) K c W _)
  unfold runPre runPost
  isplitr [Hreg]
  · isplitl [HB]; · iexact HB
    isplitl [H0 H1 H2]
    · unfold ins tabPts
      isplitl [H0]; · iapply (Entails.of_eq (owns_eq c cc0_stg0_0 _)); rw [← before_c m c d0]; iexact H0
      isplitl [H1]; · iapply (Entails.of_eq (owns_eq c cc0_stg1_0 _)); rw [← before_x m c d1]; iexact H1
      iapply (Entails.of_eq (owns_eq c cc0_stg2_0 _)); rw [← before_w m c d2]; iexact H2
    isplitl [Hbar]; · iexact Hbar
    isplitl [HS]; · iexact HS
    isplitl [HR]; · iexact HR
    isplitl [Hrr]; · iexact Hrr
    isplitl [Hsc]; · iexact Hsc
    isplitl [H3]; · iexists _; unfold outPts; iapply (Entails.of_eq (owns_eq c cc0_stg3_0 _)); iexact H3
    iexact HO
  unfold ins tabPts outPts
  iintro ⟨Hb, Hq, ⟨H0, H1, H2⟩, Hsc, H3, ⟨%W', HO⟩⟩
  isplitr [HO H0 H1 H2 H3]
  · isplitl [Hb]; · iexact Hb
    isplitl [Hq]; · iexact Hq
    isplitl [Hsc]; · iexact Hsc
    iexact Hreg
  isplitl [HO]; · iapply (owesAt_of m c W'); iexact HO
  isplitl [H0]; · iapply (Entails.of_eq (owns_eq c cc0_stg0_0 _).symm); iexact H0
  isplitl [H1]; · iapply (Entails.of_eq (owns_eq c cc0_stg1_0 _).symm); iexact H1
  isplitl [H2]; · iapply (Entails.of_eq (owns_eq c cc0_stg2_0 _).symm); iexact H2
  iapply (Entails.of_eq (owns_eq c cc0_stg3_0 _).symm); iexact H3

/-! ## The region -/

theorem dat_cut (c : Dev nD) (t : Fin ((Pipeline.pin (pcfgs (F := F)) adm 0).N + 1)) (g : GSem nD τ sig) (u : Unit)
    (h : 0 < (pdats (F := F) m 0 c).owed t g u) : u ∈ L g ∧ (0 : ℕ) < lv g u := by
  have e : (pdats (F := F) m 0 c).owed t = if t.val = 0 then O₀ c else 0 := rfl
  rw [e] at h
  split at h
  · unfold O₀ at h
    rw [Pi.add_apply, Finsupp.add_apply, Pi.add_apply, Finsupp.add_apply, tallyAt_apply, tallyAt_apply] at h
    have tc (d : Dev nD) (sm : SemLoc sig) : u ∈ L ((d : Thread nD τ), sm) := by rw [L_tc]; exact Finset.mem_singleton_self _
    by_cases hh : 0 < owedHops c ∅ g u
    · obtain ⟨k, -, rfl⟩ := owedHops_pos hh
      exact ⟨tc _ _, by rw [lv_recv]; omega⟩
    by_cases h1 : g = barCell (up false c)
    · subst h1; exact ⟨tc _ _, Nat.one_pos⟩
    by_cases h2 : g = barCell (up true c)
    · subst h2; exact ⟨tc _ _, Nat.one_pos⟩
    rw [if_neg (fun h => h1 h.1), if_neg (fun h => h2 h.1)] at h
    omega
  · exact absurd h (Nat.lt_irrefl 0)

theorem stage_lv (c : Dev nD) (w : Fin 4) (s : Fin (spec0 w).nbuf) : lv ((c : Thread nD τ), .dma ((spec0 w).sem s)) () ≤ 0 := by
  have h := stage_low w s
  show (if 4 ≤ ((spec0 w).sem s).val ∧ ((spec0 w).sem s).val % 2 = 1 then _ else 0) ≤ 0
  rw [if_neg (fun e => by omega)]

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V₁ m c) ∗ Xk (inpOf m) c) ⊢ (pdats m 0 c).Φ 0 := by
  rw [show (pdats m 0 c).Φ 0 = iprop(Xk (inpOf m) c ∗ spare c) from inv_start m c]
  have e := (Gen.scopedRest0_eq (Ix := Unit) (Val := Elt F) (Name := ℕ) (U := UU) (Lvl := ℕ) c)
  unfold spare
  iintro ⟨Hs, Hp, -, HX⟩
  isplitl [HX]; · iexact HX
  isplitl [Hs]; · iapply (Entails.of_eq e); iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last (Pipeline.pin (pcfgs (F := F)) adm 0).N) = (dat m c).Φ Gen.t0_0.succ from rfl, inv_end, held_none, ownSems_eq]
  have e := (Gen.scopedRest0_eq (Ix := Unit) (Val := Elt F) (Name := ℕ) (U := UU) (Lvl := ℕ) c)
  unfold spare
  iintro ⟨HY, Hq, Hs, Hp⟩
  isplitl [Hs]; · iapply (Entails.of_eq e.symm); iexact Hs
  isplitl [Hp]; · iexact Hp
  isplitr; · iempintro
  isplitl [Hq]; · iexact Hq
  iexact HY

local notation "ℝ𝕊" => Pipeline.RegionSeg (pcfgs (F := F)) adm (pdats m) () defs₀ 𝒱₀ L lv

set_option backward.isDefEq.respectTransparency.types false in
/-- The kernel's region, entered with every semaphore at zero and left so. -/
def reg : ℝ𝕊 0 :=
  Pipeline.RegionSeg.ofTalk (pcfgs (F := F)) adm (pdats m) () defs₀ 𝒱₀ L lv 0 osem ownSem
    ∅ ∅ (Finset.Subset.refl _) kit rfl (fun c => (body_ok m c).loose)
    (fun _ => 0) O₀ (fun c => (owed_start m c).trans (zero_add _).symm) (fun c => owed_end m c) (fun _ => rfl)
    (fun c => (pdats m 0 c).share_full fun _ => rfl)
    (V₁ m) (V₂ m) (fun _ b hb => absurd hb (by rw [Finset.sdiff_self]; exact Finset.notMem_empty b))
    (Tk (inpOf m)) Yk (Xk (inpOf m)) Yk (hopen (inpOf m)) (hin m) (hout m)
    (fun c => by iintro H; imodintro; iexact H)
    (fun _ => 0)
    ⟨fun c w s => by rw [L_tc]; exact Finset.mem_singleton_self _, fun c w s => stage_lv c w s, fun c t g i h => dat_cut m c t g i h⟩
    (fun _ => iprop(emp))
    (fun c w => array_start m c w) (fun c w => array_end m c w)

end Cert.KernelIdeal.Ring

end
-- ==== Proof.Launch.lean ====
module

public import proofs.«01_k».proof.Proof.Region

/-!
# The launch and the run

Every semaphore's invariant is made at launch, the tokens and credits are dealt round the ring, and the
program's run on all devices follows.
-/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-! ## The buffers outside the kernel -/

/-- The buffers of the program that are no kernel's scratch: the four arrays. -/
abbrev bufs : Finset (DevRef τ sig) := Pipeline.arrRefs (τ := τ) spec0

theorem bufs_four : bufs = {Proc.devRef .tc main_c, Proc.devRef .tc main_arg0, Proc.devRef .tc main_arg1, Proc.devRef .tc main_v1} := by decide +kernel

theorem bufs_all : ((StableHlo.tcRefs τ sig).filter fun b => ¬ b.isScoped) = bufs := by decide +kernel

theorem launch_bufs (c : Dev nD) (W : Valuation τ sig (Elt F)) :
    (unscopedBufs c (fun b => W b) : sProp 𝕄) = StableHlo.held (c : Thread nD τ) bufs W := by
  rw [← bufs_all]
  unfold unscopedBufs StableHlo.held StableHlo.tcRefs
  rw [Finset.filter_map, BI.bigSep_map]
  rfl

theorem held_four (c : Dev nD) (W : Valuation τ sig (Elt F)) : (StableHlo.held (c : Thread nD τ) bufs W : sProp 𝕄)
    = iprop((((c : Thread nD τ).loc main_c) ↦{fullShare} (W (Proc.devRef .tc main_c))) ∗ (((c : Thread nD τ).loc main_arg0) ↦{fullShare} (W (Proc.devRef .tc main_arg0)))
      ∗ (((c : Thread nD τ).loc main_arg1) ↦{fullShare} (W (Proc.devRef .tc main_arg1))) ∗ (((c : Thread nD τ).loc main_v1) ↦{fullShare} (W (Proc.devRef .tc main_v1)))) := by
  unfold StableHlo.held
  rw [bigSep_eq_bigSepL_of_eq [Proc.devRef .tc main_c, Proc.devRef .tc main_arg0, Proc.devRef .tc main_arg1, Proc.devRef .tc main_v1] (by rw [bufs_four]; decide) (by decide)]
  rfl

theorem unscoped_bar : ∀ sm : SemLoc sig, sm.isScoped .tc = false → sm = .reg barS := by decide +kernel
theorem bar_unscoped : (SemLoc.reg barS : SemLoc sig).isScoped .tc = false := by decide

theorem launch_sems (c : Dev nD) : (unscopedSems0 c : sProp 𝕄) = semVal (barCell c) 0 := by
  unfold unscopedSems0
  rw [show (Finset.univ.filter fun sm : SemLoc sig => ¬ sm.isScoped .tc) = {SemLoc.reg barS} from by
    ext sm
    rw [Finset.mem_filter, Finset.mem_singleton]
    constructor
    · exact fun h => unscoped_bar sm (Bool.eq_false_iff.mpr h.2)
    · rintro rfl; exact ⟨Finset.mem_univ _, Bool.eq_false_iff.mp bar_unscoped⟩, BI.bigSep_singleton]

/-! ## The cells and the tokens -/

abbrev HopEnd := Dev nD × Hop × Fin 2

def barEmb : Dev nD ↪ GSem nD τ sig := ⟨barCell, fun _ _ h => congrArg (fun g : GSem nD τ sig => g.1.1) h⟩
def hopEmb : HopEnd ↪ GSem nD τ sig :=
  ⟨fun q => qcell q.1 q.2.1 q.2.2, fun _ _ e => by have e' := qcell_inj e; exact Prod.ext e'.1 (Prod.ext e'.2.1 e'.2.2)⟩

abbrev barCells : Finset (GSem nD τ sig) := Finset.univ.map barEmb
abbrev hopCells : Finset (GSem nD τ sig) := Finset.univ.map hopEmb

theorem cells_apart : Disjoint barCells hopCells := by
  rw [Finset.disjoint_left]
  rintro g h₁ h₂
  obtain ⟨c, -, rfl⟩ := Finset.mem_map.mp h₁
  obtain ⟨q, -, h⟩ := Finset.mem_map.mp h₂
  have e : SemLoc.dma _ = SemLoc.reg barS := congrArg Prod.snd h
  cases e

def barTokEmb : Dev nD × Bool ↪ GSem nD τ sig × ℕ × Bool :=
  ⟨fun q => (barCell q.1, 0, q.2), fun _ _ e => Prod.ext (congrArg (fun g => g.1.1.1) e) (congrArg (fun g => g.2.2) e)⟩
def hopTokEmb : HopEnd ↪ GSem nD τ sig × ℕ × Bool :=
  ⟨fun q => (hopEmb q, 0, false), fun _ _ e => hopEmb.injective (congrArg Prod.fst e)⟩

abbrev barToks : Finset (GSem nD τ sig × ℕ × Bool) := Finset.univ.map barTokEmb
abbrev hopToksAll : Finset (GSem nD τ sig × ℕ × Bool) := Finset.univ.map hopTokEmb

theorem toks_apart : Disjoint barToks hopToksAll := by
  rw [Finset.disjoint_left]
  rintro g h₁ h₂
  obtain ⟨c, -, rfl⟩ := Finset.mem_map.mp h₁
  obtain ⟨q, -, h⟩ := Finset.mem_map.mp h₂
  have e : SemLoc.dma _ = SemLoc.reg barS := congrArg (fun x => x.1.2) h
  cases e

abbrev toks : Finset (GSem nD τ sig × ℕ × Bool) := barToks ∪ hopToksAll

/-- Round the ring by the copies of a hop. -/
def ride : Dev nD × Hop ≃ Dev nD × Hop :=
  ⟨fun q => (dn q.2.1 q.1, q.2), fun q => (up q.2.1 q.1, q.2), fun q => Prod.ext (up_dn q.2.1 q.1) rfl, fun q => Prod.ext (dn_up q.2.1 q.1) rfl⟩

theorem barToks_dealt : (bigSep barToks fun x => (dutyTok ER x.1 x.2.1 x.2.2 : sProp 𝕄))
    = bigSep Finset.univ fun c : Dev nD => iprop(dutyTok ER (barCell (up false c)) 0 false ∗ dutyTok ER (barCell (up true c)) 0 true) := by
  have e (z : Bool) := bigSep_univ_equiv (along z).symm (fun c : Dev nD => (dutyTok ER (barCell c) 0 z : sProp 𝕄))
  have e1 : (bigSep barToks fun x => (dutyTok ER x.1 x.2.1 x.2.2 : sProp 𝕄))
      = iprop((bigSep Finset.univ fun c : Dev nD => dutyTok ER (barCell c) 0 false) ∗ bigSep Finset.univ fun c : Dev nD => dutyTok ER (barCell c) 0 true) := by
    rw [bigSep_map, bigSep_univ_prod, ← bigSep_sep']
    exact bigSep_congr fun c _ => univ_bool_sep _
  rw [e1, e true, e false, ← bigSep_sep']
  exact bigSep_congr fun c _ => rfl

/-- The token of one end of a hop. -/
def endTok (c : Dev nD) (h : Hop) (r : Fin 2) : sProp 𝕄 := dutyTok ER (qcell c h r) 0 false

theorem hopTok_at (q : HopEnd) : (dutyTok ER (hopTokEmb q).1 (hopTokEmb q).2.1 (hopTokEmb q).2.2 : sProp 𝕄) = endTok q.1 q.2.1 q.2.2 := rfl

theorem hopToks_eq (c : Dev nD) (h : Hop) : hopToks (F := F) c h = iprop(endTok c h 0 ∗ endTok (dn h.1 c) h 1) := rfl

theorem hopToks_split : (bigSep hopToksAll fun x => (dutyTok ER x.1 x.2.1 x.2.2 : sProp 𝕄))
    = iprop((bigSep Finset.univ fun q : Dev nD × Hop => endTok q.1 q.2 0) ∗ bigSep Finset.univ fun q : Dev nD × Hop => endTok q.1 q.2 1) := by
  rw [bigSep_map, bigSep_congr fun q _ => hopTok_at (F := F) q, bigSep_univ_prod (fun q : HopEnd => endTok (F := F) q.1 q.2.1 q.2.2),
    bigSep_univ_prod (fun q : Dev nD × Hop => endTok (F := F) q.1 q.2 0), bigSep_univ_prod (fun q : Dev nD × Hop => endTok (F := F) q.1 q.2 1), ← bigSep_sep']
  exact bigSep_congr fun c _ => hops_ends (endTok (F := F) c)

theorem hopToks_dealt : (bigSep hopToksAll fun x => (dutyTok ER x.1 x.2.1 x.2.2 : sProp 𝕄))
    = bigSep Finset.univ fun c : Dev nD => bigSep Finset.univ (hopToks (F := F) c) := by
  have e := bigSep_univ_equiv ride (fun q : Dev nD × Hop => endTok (F := F) q.1 q.2 1)
  rw [hopToks_split, e, ← bigSep_sep', ← bigSep_univ_prod (fun q : Dev nD × Hop => (hopToks (F := F) q.1 q.2))]
  exact bigSep_congr fun q _ => (hopToks_eq q.1 q.2).symm

/-! ## The credits -/

theorem owed_bar (d c : Dev nD) : O₀ d (barCell c) () = (if d = dn false c then 1 else 0) + (if d = dn true c then 1 else 0) := by
  unfold O₀
  have h0 : owedHops d ∅ (barCell c) () = 0 := by
    by_contra h
    obtain ⟨k, -, e⟩ := owedHops_pos (Nat.pos_of_ne_zero h)
    have e' : SemLoc.reg barS = SemLoc.dma _ := congrArg Prod.snd e
    cases e'
  have h1 (z : Bool) : (tallyAt (barCell (up z d)) () 1 : CellTallies nD τ sig Unit) (barCell c) () = if d = dn z c then 1 else 0 := by
    rw [tallyAt_apply]
    by_cases h : d = dn z c
    · subst h; rw [up_dn, if_pos ⟨rfl, rfl⟩, if_pos rfl]
    · rw [if_neg (fun e => h (by
        have : c = up z d := congrArg (fun g : GSem nD τ sig => g.1.1) e.1
        rw [this, dn_up])), if_neg h]
  rw [Pi.add_apply, Finsupp.add_apply, Pi.add_apply, Finsupp.add_apply, h0, h1, h1, Nat.zero_add]

theorem owed_recv (d c : Dev nD) (h : Hop) : O₀ d (qcell c h 1) () = if d = up h.1 c then N else 0 := by
  unfold O₀
  have h1 (z : Bool) : (tallyAt (barCell (up z d)) () 1 : CellTallies nD τ sig Unit) (qcell c h 1) () = 0 := by
    rw [tallyAt_apply]
    exact if_neg fun e => by
      have e' : SemLoc.dma _ = SemLoc.reg barS := congrArg Prod.snd e.1
      cases e'
  have h0 : owedHops d ∅ (qcell c h 1) () = if d = up h.1 c then N else 0 := by
    unfold owedHops
    rw [Finset.sdiff_empty, Finset.sum_apply, Finsupp.finset_sum_apply]
    rw [Finset.sum_eq_single h (fun k _ hk => by
      rw [tallyAt_apply]
      exact if_neg fun e => hk (qcell_inj e.1).2.1.symm) (fun hn => absurd (Finset.mem_univ _) hn), tallyAt_apply]
    by_cases hd : d = up h.1 c
    · subst hd; rw [dn_up, if_pos ⟨rfl, rfl⟩, if_pos rfl]
    · rw [if_neg (fun e => hd (by rw [(qcell_inj e.1).1, up_dn])), if_neg hd]
  rw [Pi.add_apply, Finsupp.add_apply, Pi.add_apply, Finsupp.add_apply, h0, h1, h1]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (dn false c) fun _ => 1, Finset.sum_ite_eq' Finset.univ (dn true c) fun _ => 1,
    if_pos (Finset.mem_univ _), if_pos (Finset.mem_univ _)]

theorem launch_recv (c : Dev nD) (h : Hop) :
    tallyOn (qcell c h 1) (launchCredit (Pipeline.owing O₀) 0 (qcell c h 1)) = (tallyAt (qcell c h 1) () N : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (up h.1 c) fun _ => N, if_pos (Finset.mem_univ _)]

def recvSem : Hop ↪ SemLoc sig := ⟨fun h => .dma (hsem h 1), fun _ _ e => (hsem_inj (SemLoc.dma.inj e)).1⟩

theorem recvs_sub : Finset.univ.map recvSem ⊆ Finset.univ.erase (SemLoc.reg barS : SemLoc sig) := fun sm h => by
  obtain ⟨k, -, rfl⟩ := Finset.mem_map.mp h
  refine Finset.mem_erase.mpr ⟨fun e => ?_, Finset.mem_univ _⟩
  have e' : SemLoc.dma _ = SemLoc.reg barS := e
  cases e'

theorem creds (c : Dev nD) : (Pipeline.launchCred O₀ c : sProp 𝕄) ⊢ credits c := by
  have e : (bigSep Finset.univ fun h : Hop => (cred (tallyAt (qcell c h 1) () N) : sProp 𝕄))
      = bigSep (Finset.univ.map recvSem) fun sm : SemLoc sig => cred (tallyOn ((c : Thread nD τ), sm) (launchCredit (Pipeline.owing O₀) 0 ((c : Thread nD τ), sm))) := by
    rw [bigSep_map]
    exact bigSep_congr fun h _ => congrArg _ (launch_recv c h).symm
  unfold Pipeline.launchCred credits
  rw [bigSep_univ_at _ (SemLoc.reg barS), launch_bar, e]
  exact sep_mono_right (bigSep_subset recvs_sub)

/-! ## The launch -/

local notation "ℍ" => Pipeline.HostSeg (Name := ℕ) (U := UU) (pcfgs (F := F)) defs₀ 𝒱₀ L lv

/-- What rides with a device while the table is written. -/
def rides (c : Dev nD) : sProp 𝕄 := iprop(Tk (inpOf m) c ∗ (∃ r, prngReg c r) ∗ ∃ W, owes (c : Thread nD τ) (O₀ c) W)

theorem ops_sub : ∀ op ∈ (Gen.hostOps0 : List (HloOp τ sig (Elt F))), op.bufs ⊆ bufs := fun op h => by
  obtain rfl := List.mem_singleton.mp h
  show ({Proc.devRef .tc main_c} : Finset (DevRef τ sig)) ⊆ _
  rw [bufs_four]; decide
theorem ops_fresh : ∀ op ∈ (Gen.hostOps0 : List (HloOp τ sig (Elt F))), op.fresh = ∅ := fun op h => by
  obtain rfl := List.mem_singleton.mp h; rfl

/-- The table is written, the rest riding. -/
def seg : ℍ := Pipeline.HostSeg.ofOps _ _ _ _ _ bufs Gen.hostOps0 ops_sub ops_fresh (V₀ m) (rides m)

def segs : List (Pipeline.Seg (pcfgs (F := F)) adm (pdats m) () defs₀ 𝒱₀ L lv) := [.host (seg m), .region (reg m)]

theorem main_eq (c : Dev nD) : main (F := F) c = Pipeline.Seg.run (segs m) :=
  Gen.main_segs adm (pdats m) () 𝒱₀ L lv (seg m) (reg m) rfl c

theorem into_reg (c : Dev nD) : iprop(StableHlo.held (c : Thread nD τ) bufs (V₁ m c) ∗ rides m c) ⊢ (reg m).pre c := by
  show _ ⊢ iprop(StableHlo.held (c.tc : Thread nD τ) bufs (V₁ m c) ∗ (∃ r, prngReg c r)
    ∗ (StableHlo.held (c.tc : Thread nD τ) ∅ (V₁ m c) ∗ emp) ∗ Tk (inpOf m) c ∗ ∃ Wd, owes (c : Thread nD τ) (0 + O₀ c) Wd)
  rw [held_none, zero_add]
  unfold rides
  iintro ⟨Hh, HT, Hp, HO⟩
  isplitl [Hh]; · iexact Hh
  isplitl [Hp]; · iexact Hp
  isplitr
  · isplitr <;> iempintro
  isplitl [HT]; · iexact HT
  iexact HO

def endT (c : Dev nD) : sProp 𝕄 := iprop(StableHlo.held (c : Thread nD τ) bufs (V₂ m c) ∗ semVal (barCell c) 0)

theorem out_of_reg (c : Dev nD) : (reg m).post c ⊢ iprop(endT m c ∗ ∃ W, owes (c : Thread nD τ) (0 : CellTallies nD τ sig Unit) W) := by
  show iprop(StableHlo.held (c.tc : Thread nD τ) bufs (V₂ m c) ∗ (∃ r, prngReg c r)
    ∗ (StableHlo.held (c.tc : Thread nD τ) ∅ (V₂ m c) ∗ emp) ∗ Yk c ∗ ∃ Wd, owes (c : Thread nD τ) (0 : CellTallies nD τ sig Unit) Wd) ⊢ _
  unfold Yk endT
  iintro ⟨Hh, -, -, Hb, HO⟩
  isplitr [HO]
  · isplitl [Hh] <;> iassumption
  iexact HO

/-- What the launch starts from: the staging cells' part and the protocol's. -/
def u₀ : UU :=
  (initOf (Pipeline.cells (Pipeline.pin (pcfgs (F := F)) adm) Gen.cellOf_inj) (Pipeline.launchToks (Pipeline.pin (pcfgs (F := F)) adm) Gen.cellOf_inj),
    launchOf barCells hopCells toks)

/-- The protocol's part, kept on device 0 until it is dealt. -/
def parked (c : Dev nD) : sProp 𝕄 := if c = 0 then BI.own (ER (launchOf barCells hopCells toks)) else iprop(emp)

theorem parked_all : bigSep Finset.univ (parked (F := F)) = BI.own (ER (launchOf barCells hopCells toks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The records: every invariant, and every barrier's first round begun. -/
def records (K : GSem nD τ sig → ℕ) : sProp 𝕄 := iprop(invAll (inpOf m) K ∗ bigSep Finset.univ fun c : Dev nD => reached ER (barCell c) 0)

instance records_persistent (K : GSem nD τ sig → ℕ) : BI.Persistent (records m K) := by unfold records; infer_instance

theorem reached_bar (c : Dev nD) : (bigSep Finset.univ fun c : Dev nD => (reached ER (barCell c) 0 : sProp 𝕄)) ⊢ reached ER (barCell c) 0 :=
  bigSep_elim (Finset.mem_univ c)

/-- A device's share of what is dealt. -/
def dealt (c : Dev nD) : sProp 𝕄 :=
  iprop(atPos ER (barCell c) 0 ∅ 0 ∗ (bigSep Finset.univ fun q : Hop × Fin 2 => openTok ER (qcell c q.1 q.2))
    ∗ (dutyTok ER (barCell (up false c)) 0 false ∗ dutyTok ER (barCell (up true c)) 0 true) ∗ bigSep Finset.univ (hopToks c))

/-- And what it had of its own. -/
def own₀ (c : Dev nD) : sProp 𝕄 :=
  iprop(StableHlo.held (c : Thread nD τ) bufs (V₀ m c) ∗ credits c ∗ (∃ r, prngReg c r) ∗ owes (c : Thread nD τ) (O₀ c) ∅)

def startT (c : Dev nD) : sProp 𝕄 := iprop(StableHlo.held (c : Thread nD τ) bufs (V₀ m c) ∗ rides m c)

theorem start_of (K : GSem nD τ sig → ℕ) (c : Dev nD) : iprop(records m K ∗ (dealt c ∗ own₀ m c)) ⊢ startT m c := by
  unfold records dealt own₀ startT rides Tk ghost barKit
  iintro ⟨⟨#HI, #Hr⟩, ⟨Hat, Hop, ⟨Htf, Htt⟩, Hh⟩, Hb, Hc, Hp, HO⟩
  isplitl [Hb]; · iexact Hb
  isplitr [Hp HO]
  · isplitr [Hc]
    · iexists K
      isplitr; · iexact HI
      isplitr [Hop Hh]
      · isplitl [Htt]; · iexact Htt
        isplitl [Htf]; · iexact Htf
        isplitr; · iapply (reached_bar (F := F) (up true c)); iexact Hr
        isplitr; · iapply (reached_bar (F := F) (up false c)); iexact Hr
        iexact Hat
      isplitl [Hh] <;> iassumption
    iexact Hc
  isplitl [Hp]; · iexact Hp
  iexists ∅; iexact HO

theorem core_start (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(own₀ m c ∗ (semVal (barCell c) 0 ∗ parked c)) : sProp 𝕄) := by
  rw [show unscopedBufs c (fun b => m ((c : Thread nD τ).loc b)) = StableHlo.held (c : Thread nD τ) bufs (V₀ m c) from launch_bufs c (V₀ m c), launch_sems]
  unfold own₀
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [Hp]; · iexists (ρ c); iexact Hp
    iexact HO
  isplitl [Hus] <;> iassumption

theorem cores_start : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c))
      ⊢ (iprop((bigSep Finset.univ (own₀ m)) ∗ (bigSep barCells fun g => semVal g 0) ∗ BI.own (ER (launchOf barCells hopCells toks))) : sProp 𝕄) := by
  have e : (bigSep Finset.univ fun c : Dev nD => iprop(own₀ m c ∗ (semVal (barCell c) 0 ∗ parked c)) : sProp 𝕄)
      = iprop((bigSep Finset.univ (own₀ m)) ∗ (bigSep barCells fun g => semVal g 0) ∗ BI.own (ER (launchOf barCells hopCells toks))) := by
    rw [bigSep_sep', bigSep_sep', parked_all, bigSep_map]; rfl
  rw [← e]
  exact bigSep_mono fun c _ => core_start m ρ c

theorem records_of (K : GSem nD τ sig → ℕ) : (iprop((bigSep (barCells ∪ hopCells) fun g => cellInv ER (Rd (inpOf m)) (K g) g) ∗ bigSep barCells fun g => reached ER g 0) : sProp 𝕄)
    ⊢ records m K := by
  rw [bigSep_union cells_apart, bigSep_map, bigSep_map, bigSep_map]
  exact BI.Entails.refl _

theorem dealt_of : (iprop((bigSep barCells fun g => atPos ER g 0 ∅ 0) ∗ (bigSep hopCells fun g => openTok ER g)
      ∗ bigSep toks fun x => dutyTok ER x.1 x.2.1 x.2.2) : sProp 𝕄) ⊢ bigSep Finset.univ (dealt (F := F)) := by
  unfold dealt
  rw [bigSep_sep', bigSep_sep', bigSep_sep', bigSep_union toks_apart, barToks_dealt, hopToks_dealt, bigSep_map, bigSep_map,
    bigSep_univ_prod (fun q : HopEnd => (openTok ER (hopEmb q) : sProp 𝕄))]
  exact BI.Entails.refl _

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (startT m) : sProp 𝕄) := by
  iintro ⟨H, -⟩
  ihave H' := (cores_start m ρ) $$ H
  icases H' with ⟨HB, Hv, Hu⟩
  imod (Rounds.fund_launch ER (Rd (inpOf m)) cells_apart (fun g _ h => h) toks) $$ [Hv Hu] with ⟨%K, -, #Hinv, #Hr, Hat, Hopen, Htok⟩
  · isplitl [Hv] <;> iassumption
  imodintro
  iapply (each_with (records m K) (fun c => iprop(dealt c ∗ own₀ m c)) (startT m) (start_of m K))
  isplitr
  · iapply (records_of m K)
    isplitr; · iexact Hinv
    iexact Hr
  iapply (Entails.of_eq (bigSep_sep' _ _ _).symm)
  isplitr [HB]
  · iapply (dealt_of (F := F))
    isplitl [Hat]; · iexact Hat
    isplitl [Hopen] <;> iassumption
  iexact HB

/-! ## The run -/

set_option backward.isDefEq.respectTransparency.types false in
/-- From any memory, the program ends on every device with its arguments as they were, its result array at `res`
    and every semaphore at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = res (inpOf m) c) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := startT m) (Tₙ := endT m)
    (hch := ⟨fun c => .rfl, fun c => into_reg m c, fun c => out_of_reg m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_v1) = V₂ m c (Proc.devRef .tc main_v1)) ∧ s.sem (barCell c) = 0)
    (hfin := fun c s' => by
      unfold endT; rw [held_four]
      iintro ⟨⟨⟨-, Hx, Hw, Ho⟩, Hb⟩, HSI⟩
      icombine HSI Hx gives %hx
      icombine HSI Hw gives %hw
      icombine HSI Ho gives %ho
      icombine HSI Hb gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => by
        obtain ⟨⟨hx, hw, ho⟩, -⟩ := h c
        rw [V₂_ne m c main_arg0 (by decide), V₁_x] at hx
        rw [V₂_ne m c main_arg1 (by decide), V₁_w] at hw
        rw [V₂_o] at ho
        exact ⟨hx, hw, ho⟩,
      sem_eq_zero hs fun c sm hsm => by
        obtain rfl := unscoped_bar sm hsm
        exact (h c).2⟩)

end Cert.KernelIdeal.Ring

end
-- ==== Proof.Value.lean ====
module

public import proofs.«01_k».proof.Proof.Pieces
public import Idealize.ShloMosaic.Lib.MatmulPlain
public import Idealize.ShloMosaic.Lib.ValueLayout
public import Idealize.ShloMosaic.Lib.ValueIdx

/-!
# What a device's block of the result is, as a sum

Over the extended reals an accumulator is the sum of the products of the devices it has passed through.
All of those products belong to the same 128 rows of the result, the rows of the device at which the walk
ends, and after 31 steps every device has been passed once.
-/

@[expose] public section

noncomputable section

namespace Cert.KernelIdeal.Ring

open Idealize.ShloMosaic Idealize.ShloMosaic.TcCoe Idealize.ShloMosaic.ValueIdx
open Idealize.SL.Sem
open Facts₀ Facts
open scoped BigOperators

/-- A row of the result within `x`'s rows. -/
def rowIx (q : Dev nD) (r : Fin 128) : Fin 4096 :=
  ⟨128 * q.val + r.val, by have : q.val < 32 := q.isLt; omega⟩

/-- A row of a fragment within its block of 128 rows. -/
def inBlock (f : Fin 2) (r : Fin 64) : Fin 128 := ⟨64 * f.val + r.val, by omega⟩

/-- A column of a half within all columns. -/
def colIx (z : Bool) (k : Fin 1024) : Fin 2048 :=
  ⟨colOff z + k.val, by have : colOff z ≤ 1024 := by { cases z <;> decide }
                        omega⟩

/-- Device `e`'s share of one element of the result: its 128 columns of `x` against its 128 rows of `w`. -/
def share (I : Inp Ideal) (q e : Dev nD) (r : Fin 128) (k : Fin 2048) : EReal :=
  ∑ j : Fin 128, (I.X e : Vec Ideal S4096x128 .f32) (ix2 (rowIx q r) j) * (I.W e : Vec Ideal S128x2048 .f32) (ix2 j k)

theorem xr_at (I : Inp Ideal) (n : Fin 32) (c : Dev nD) (f : Fin 2) (r : Fin 64) (j : Fin 128) :
    xr I n c f (ix2 r j) = (I.X c : Vec Ideal S4096x128 .f32) (ix2 (rowIx (at' n c) (inBlock f r)) j) := by
  refine congrArg (I.X c : Vec Ideal S4096x128 .f32) (funext fun a => Fin.ext ?_)
  have h := rowOff_tw n c f
  match a with
  | 0 =>
    show rowOff (tw n c) f 0 + 1 * r.val = 128 * (at' n c).val + (64 * f.val + r.val)
    rw [h]
    show 128 * (at' n c).val + 64 * f.val + 1 * r.val = _
    omega
  | 1 => show 0 + 1 * j.val = j.val; omega

theorem wr_at (I : Inp Ideal) (z : Bool) (c : Dev nD) (j : Fin 128) (k : Fin 1024) :
    wr I z c (ix2 j k) = (I.W c : Vec Ideal S128x2048 .f32) (ix2 j (colIx z k)) := by
  refine congrArg (I.W c : Vec Ideal S128x2048 .f32) (funext fun a => Fin.ext ?_)
  match a with
  | 0 => show 0 + 1 * j.val = j.val; omega
  | 1 => show colOff z + 1 * k.val = colOff z + k.val; omega

theorem dot_plain : dot_S64x128_S128x1024_S64x1024_1_0_0_1_n_n = DotDims.plain 64 128 1024 := rfl

theorem cast_same {s : Shape} {α : Type} (v : s.Idx → α) (h : s.ShapeCasts s) : shapeCast s v h = v :=
  funext fun i => shapeCast_apply v h i i rfl

theorem prod_at (x : Vec Ideal S64x128 .f32) (w : Vec Ideal S128x1024 .f32) (r : Fin 64) (k : Fin 1024) :
    prodOf (F := Ideal) x w (ix2 r k) = ∑ j : Fin 128, x (ix2 r j) * w (ix2 j k) := by
  unfold prodOf
  rw [cast_same, cast_same, dot_plain]
  refine (Ideal.matmul_plain_apply none x w (constant S64x1024 .f32 0x00000000#32) r k).trans ?_
  show Ideal.ofBits .f32 0x00000000#32 + _ = _
  rw [Ideal.ofBits_zero_f32, zero_add]

/-- One device's product for one fragment is its share. -/
theorem prod_share (I : Inp Ideal) (n : Fin 32) (z : Bool) (c : Dev nD) (f : Fin 2) (r : Fin 64) (k : Fin 1024) :
    prodOf (xr I n c f) (wr I z c) (ix2 r k) = share I (at' n c) c (inBlock f r) (colIx z k) := by
  rw [prod_at]
  exact Finset.sum_congr rfl fun j _ => by rw [xr_at, wr_at]

theorem first_at (x : Vec Ideal S64x128 .f32) (w : Vec Ideal S128x1024 .f32) (r : Fin 64) (k : Fin 1024) :
    firstOf x w (ix3 (0 : Fin 1) r k) = prodOf x w (ix2 r k) :=
  shapeCast_ab_1ab_apply _ _ _ _ _

theorem acc_at (a : Vec Ideal S1x64x1024 .f32) (x : Vec Ideal S64x128 .f32) (w : Vec Ideal S128x1024 .f32)
    (r : Fin 64) (k : Fin 1024) :
    accOf a x w (ix3 (0 : Fin 1) r k) = (a (ix3 (0 : Fin 1) r k) : EReal) + prodOf x w (ix2 r k) := by
  refine (shapeCast_ab_1ab_apply _ _ _ _ _).trans ?_
  refine congrArg (fun t : EReal => t + prodOf x w (ix2 r k)) ?_
  exact shapeCast_1ab_ab_apply _ _ _ _

/-- The table's row that names, on the device where slot `n` lies, the rows the slot belongs to. -/
def rowOfSlot (z : Bool) : ℕ → Fin 32
  | 0 => row0 z
  | n + 1 => rowN z n

/-- A step along the cycle and a step down the table name the same rows. -/
theorem row_step (z : Bool) (n : ℕ) (hn : n < 31) : rowOfSlot z n + rowDn (!z) = rowOfSlot z (n + 1) := by
  have h : ∀ z : Bool, ∀ n : Fin 31, rowOfSlot z n.val + rowDn (!z) = rowOfSlot z (n.val + 1) := by decide +kernel
  exact h z ⟨n, hn⟩

/-- The table's row that names the device `i` steps back. -/
def backN (z : Bool) (i : ℕ) : Fin 32 := ⟨i * (rowDn (!z)).val % 32, Nat.mod_lt _ (by decide)⟩

theorem back_step (z : Bool) (i : ℕ) : backN z i + rowDn (!z) = backN z (i + 1) := by
  refine Fin.ext ?_
  show (i * (rowDn (!z)).val % 32 + (rowDn (!z)).val) % 32 = (i + 1) * (rowDn (!z)).val % 32
  rw [Nat.mod_add_mod, Nat.succ_mul]

/-- Slot `n` of a direction is the sum of the shares of the devices on its way. -/
theorem acc_sum (I : Inp Ideal) (z : Bool) (f : Fin 2) (r : Fin 64) (k : Fin 1024) (n : ℕ) (hn : n ≤ 31) (c : Dev nD) :
    (acc I z f n c (ix3 (0 : Fin 1) r k) : EReal) =
      ∑ i ∈ Finset.range (n + 1), share I (at' (rowOfSlot z n) c) (at' (backN z i) c) (inBlock f r) (colIx z k) := by
  have b0 : ∀ c : Dev nD, at' (backN z 0) c = c := fun c => by
    rw [show backN z 0 = 0 from Fin.ext (by show 0 * _ % 32 = 0; rw [Nat.zero_mul])]; exact at_zero c
  induction n generalizing c with
  | zero =>
    rw [Finset.sum_range_one, b0]
    exact (first_at _ _ r k).trans (prod_share I _ z c f r k)
  | succ n ih =>
    refine (acc_at _ _ _ r k).trans ?_
    rw [ih (by omega) (up z c), prod_share, Finset.sum_range_succ' _ (n + 1), b0]
    have hu : ∀ m : Fin 32, at' m (up z c) = at' (m + rowDn (!z)) c := fun m => at_up m z c
    refine congrArg₂ (· + ·) (Finset.sum_congr rfl fun i _ => ?_) rfl
    rw [hu, hu, row_step z n (by omega), back_step]

theorem back_inj (z : Bool) : Function.Injective fun i : Fin 32 => backN z i.val := by
  revert z; unfold Function.Injective; decide +kernel

/-- The devices a walk passes are all the devices. -/
def passed (z : Bool) (c : Dev nD) : Fin 32 ≃ Dev nD :=
  Equiv.ofBijective (fun i => at' (backN z i.val) c)
    ((Fintype.bijective_iff_injective_and_card _).mpr ⟨(at_inj c).comp (back_inj z), rfl⟩)

/-- The last slot is the whole product: the sum of all devices' shares of the device's own rows. -/
theorem acc_last (I : Inp Ideal) (z : Bool) (f : Fin 2) (r : Fin 64) (k : Fin 1024) (c : Dev nD) :
    (acc I z f 31 c (ix3 (0 : Fin 1) r k) : EReal) = ∑ e : Dev nD, share I c e (inBlock f r) (colIx z k) := by
  rw [acc_sum I z f r k 31 le_rfl c, show rowOfSlot z 31 = 0 by cases z <;> rfl, at_zero, Finset.sum_range]
  exact Equiv.sum_comp (passed z c) fun e => share I c e (inBlock f r) (colIx z k)

/-- The last slot read as the kernel reads it, 128 rows at once. -/
theorem last_at (I : Inp Ideal) (z : Bool) (c : Dev nD) (r : Fin 128) (k : Fin 1024) :
    (lastV I z c (ix3 (0 : Fin 1) r k) : EReal) = ∑ e : Dev nD, share I c e r (colIx z k) := by
  have hr := r.isLt
  have h := acc_last I z ⟨r.val / 64, by omega⟩ ⟨r.val % 64, Nat.mod_lt _ (by decide)⟩ k c
  rw [show inBlock ⟨r.val / 64, by omega⟩ ⟨r.val % 64, Nat.mod_lt _ (by decide)⟩ = r from
    Fin.ext (Nat.div_add_mod r.val 64)] at h
  rw [← h]
  unfold lastV
  refine congrArg (acc I z _ 31 c) (funext fun a => ?_)
  match a with
  | 0 => rfl
  | 1 => rfl
  | 2 => rfl

theorem out_at (a : Vec Ideal S1x128x1024 .f32) (r : Fin 128) (k : Fin 1024) :
    outOf a (ix2 r k) = (a (ix3 (0 : Fin 1) r k) : EReal) * Ideal.logistic (a (ix3 (0 : Fin 1) r k)) := by
  have h : shapeCast S128x1024 a shapeCasts_S1x128x1024_S128x1024 (ix2 r k) = a (ix3 (0 : Fin 1) r k) :=
    shapeCast_1ab_ab_apply _ _ _ _
  show _ * Ideal.logistic _ = _
  rw [h]

/-- An element of a device's block: the whole product there, through `y * logistic y`. -/
theorem res_at (I : Inp Ideal) (c : Dev nD) (r : Fin 128) (k : Fin 2048) :
    (res I c (ix2 r k : S128x2048.Idx) : EReal) =
      (∑ e : Dev nD, share I c e r k) * Ideal.logistic (∑ e : Dev nD, share I c e r k) := by
  have h1 : colOff (sideOf (ix2 r k)) + 1 * (k.val % 1024) = k.val :=
    congrArg (fun i : S128x2048.Idx => (i 1).val) (half_at (ix2 r k))
  have hc : colIx (sideOf (ix2 r k)) ⟨k.val % 1024, Nat.mod_lt _ (by decide)⟩ = k :=
    Fin.ext (by show colOff _ + k.val % 1024 = k.val; omega)
  have hh : halfIx (ix2 r k) = ix2 r ⟨k.val % 1024, Nat.mod_lt _ (by decide)⟩ := by
    funext a
    match a with
    | 0 => rfl
    | 1 => rfl
  show outOf (lastV I (sideOf (ix2 r k)) c) (halfIx (ix2 r k)) = _
  rw [hh, out_at, last_at, hc]

end Cert.KernelIdeal.Ring
-- ==== Proof.Match.lean ====
module

public import proofs.«01_k».proof.Proof.Value
public import proofs.«01_k».proof.Proof.Gen.ReferenceIdeal.Run
public import Idealize.ShloMosaic.Lib.StackMember
public import Idealize.ShloMosaic.Lib.IdealHost
public import Idealize.ShloMosaic.Lib.Layout

/-!
# The kernel's blocks are the reference's rows

The reference multiplies whole matrices.  Its sum over 4096 positions is cut into 32 runs of 128, one for
each device, and the two ways of writing the epilogue agree at every extended real.
-/

@[expose] public section

noncomputable section

namespace Cert.KernelIdeal.Ring

open Idealize.ShloMosaic Idealize.ShloMosaic.TcCoe Idealize.ShloMosaic.ValueIdx
open Idealize.SL.Sem
open scoped BigOperators

/-- The whole left matrix, and the whole right one. -/
abbrev WholeX : Type := Vec Ideal ⟨2, ![4096, 4096]⟩ .f32
abbrev WholeW : Type := Vec Ideal ⟨2, ![4096, 2048]⟩ .f32

/-- Device `e`'s position `j` along the axis the product sums over. -/
def posIx (e : Dev nD) (j : Fin 128) : Fin 4096 :=
  ⟨128 * e.val + j.val, by have : e.val < 32 := e.isLt; omega⟩

/-- The sum over 4096 positions, device by device. -/
theorem sum_pos (f : Fin 4096 → EReal) : ∑ p, f p = ∑ e : Dev nD, ∑ j : Fin 128, f (posIx e j) := by
  rw [← Fintype.sum_prod_type' fun (e : Dev nD) (j : Fin 128) => f (posIx e j)]
  refine (Equiv.sum_comp (finProdFinEquiv (m := 32) (n := 128)) f).symm.trans ?_
  refine Finset.sum_congr rfl fun p _ => congrArg f (Fin.ext ?_)
  show p.2.val + 128 * p.1.val = 128 * p.1.val + p.2.val
  omega

/-- The reference's product. -/
abbrev prodW (A : WholeX) (B : WholeW) : FVec Ideal ⟨2, ![4096, 2048]⟩ .f32 :=
  Host.dotGeneral (φ₁ := .f32) (φ₂ := .f32) Cert.ReferenceIdeal.dot_S4096x4096_S4096x2048_S4096x2048_1_0_0_1_n_n none A B

/-- The shares add up to the reference's product. -/
theorem shares_sum (I : Inp Ideal) (A : WholeX) (B : WholeW)
    (hX : ∀ e, I.X e = Layout.block ⟨2, ![4096, 128]⟩ ⟨2, ![4096, 4096]⟩ 1 32 e A)
    (hW : ∀ e, I.W e = Layout.block ⟨2, ![128, 2048]⟩ ⟨2, ![4096, 2048]⟩ 0 32 e B)
    (c : Dev nD) (r : Fin 128) (k : Fin 2048) :
    ∑ e : Dev nD, share I c e r k = prodW A B (ix2 (rowIx c r) k) := by
  refine Eq.trans ?_ (StackMember.dotGeneral_plain_apply (φ₁ := .f32) (φ₂ := .f32) none A B (rowIx c r) k).symm
  rw [sum_pos]
  refine Finset.sum_congr rfl fun e _ => Finset.sum_congr rfl fun j _ => ?_
  rw [hX e, hW e]
  refine congrArg₂ (fun a b : EReal => a * b) (congrArg A (funext fun a => Fin.ext ?_)) (congrArg B (funext fun a => Fin.ext ?_))
  · match a with
    | 0 => rfl
    | 1 => show e.val * 128 + j.val = 128 * e.val + j.val; omega
  · match a with
    | 0 => show e.val * 128 + j.val = 128 * e.val + j.val; omega
    | 1 => rfl

theorem exp_nonneg (x : EReal) : 0 ≤ Ideal.exp x := by
  induction x with
  | bot => exact le_rfl
  | top => exact le_top
  | coe r => exact EReal.coe_nonneg.mpr (Real.exp_pos r).le

/-- `1 + e ^ x` is not zero. -/
theorem one_add_exp_ne (x : EReal) : 1 + Ideal.exp x ≠ 0 :=
  (lt_of_lt_of_le zero_lt_one (le_add_of_nonneg_right (exp_nonneg x))).ne'

/-- The two ways of writing the epilogue. -/
theorem silu_eq (y : EReal) : y * Ideal.logistic y = Ideal.div y (1 + Ideal.exp (-y)) :=
  Ideal.mul_one_div (one_add_exp_ne (-y))

/-- The reference's result. -/
abbrev refOut (A : WholeX) (B : WholeW) : FVec Ideal ⟨2, ![4096, 2048]⟩ .f32 :=
  Host.divf (prodW A B)
    (addf (broadcastInDim Cert.ReferenceIdeal.S4096x2048 ![] Cert.ReferenceIdeal.Facts₀.bcast_S_S4096x2048
        (constant Cert.ReferenceIdeal.S_ .f32 0x3F800000#32))
      (Host.exp (Host.negf (prodW A B))))

theorem ref_at (A : WholeX) (B : WholeW) (i : (⟨2, ![4096, 2048]⟩ : Shape).Idx) :
    refOut A B i = Ideal.div (prodW A B i) (1 + Ideal.exp (-(prodW A B i))) := by
  refine congrArg (fun t : EReal => Ideal.div (prodW A B i) (t + Ideal.exp (-(prodW A B i)))) ?_
  refine (broadcastInDim_scalar_apply _ _ _).trans ?_
  exact Ideal.ofBits_one_f32

/-- A device's block of the kernel's result is the same block of the reference's. -/
theorem res_block (I : Inp Ideal) (A : WholeX) (B : WholeW)
    (hX : ∀ e, I.X e = Layout.block ⟨2, ![4096, 128]⟩ ⟨2, ![4096, 4096]⟩ 1 32 e A)
    (hW : ∀ e, I.W e = Layout.block ⟨2, ![128, 2048]⟩ ⟨2, ![4096, 2048]⟩ 0 32 e B) (c : Dev nD) :
    res I c = Layout.block ⟨2, ![128, 2048]⟩ ⟨2, ![4096, 2048]⟩ 0 32 c (refOut A B) := by
  funext i
  obtain ⟨r, k, rfl⟩ : ∃ (r : Fin 128) (k : Fin 2048), i = (ix2 r k : S128x2048.Idx) := ⟨i 0, i 1, eq_ix2 i⟩
  refine (res_at I c r k).trans ?_
  rw [shares_sum I A B hX hW c r k, silu_eq, ← ref_at]
  refine congrArg (refOut A B) (funext fun a => Fin.ext ?_)
  match a with
  | 0 => show 128 * c.val + r.val = c.val * 128 + r.val; omega
  | 1 => rfl

end Cert.KernelIdeal.Ring
-- ==== Proof.Clip.lean ====
module

public import proofs.«01_k».proof.Proof.Match
public import proofs.«01_k».proof.Proof.Gen.ClippedIdeal.Run
public import proofs.«01_k».proof.Proof.Gen.On_within
public import Idealize.ShloMosaic.Lib.Affine

/-!
# The reference with the clip

Where a sum lies between the two ends of the clip, clipping it changes nothing.
-/

@[expose] public section

noncomputable section

namespace Cert.KernelIdeal.Ring

open Idealize.ShloMosaic Idealize.ShloMosaic.TcCoe Idealize.ShloMosaic.ValueIdx
open Idealize.SL.Sem

/-- The ends of the clip. -/
abbrev clipLo : EReal := Ideal.ofBits .f32 0xC2700000#32
abbrev clipHi : EReal := Ideal.ofBits .f32 0x42700000#32

/-- The result of the reference with the clip. -/
abbrev clipOut (A : WholeX) (B : WholeW) : FVec Ideal ⟨2, ![4096, 2048]⟩ .f32 :=
  Host.divf (prodW A B)
    (addf (broadcastInDim Cert.ClippedIdeal.S4096x2048 ![] Cert.ClippedIdeal.Facts₀.bcast_S_S4096x2048
        (constant Cert.ClippedIdeal.S_ .f32 0x3F800000#32))
      (Host.exp (Host.negf (minimumf
        (broadcastInDim Cert.ClippedIdeal.S4096x2048 ![] Cert.ClippedIdeal.Facts₀.bcast_S_S4096x2048
          (id (constant Cert.ClippedIdeal.S_ .f32 0x42700000#32)))
        (maximumf
          (broadcastInDim Cert.ClippedIdeal.S4096x2048 ![] Cert.ClippedIdeal.Facts₀.bcast_S_S4096x2048
            (id (constant Cert.ClippedIdeal.S_ .f32 0xC2700000#32)))
          (prodW A B))))))

/-- The mask selects the elements between the ends. -/
theorem mask_at (A : WholeX) (B : WholeW) (i : (⟨2, ![4096, 2048]⟩ : Shape).Idx)
    (h : Cert.On_within.fn (F := Ideal) A B i = 1#1) : clipLo ≤ prodW A B i ∧ prodW A B i ≤ clipHi := by
  obtain ⟨h1, h2⟩ := IntOp.andi_eq_one.mp h
  have ofB : ∀ p : Prop, [Decidable p] → BitVec.ofBool (decide p) = 1#1 → p := fun p _ hp => by
    by_contra hn
    rw [decide_eq_false hn] at hp
    exact absurd hp (by decide)
  exact ⟨ofB _ h1, ofB _ h2⟩

theorem clip_at (A : WholeX) (B : WholeW) (i : (⟨2, ![4096, 2048]⟩ : Shape).Idx) :
    clipOut A B i = Ideal.div (prodW A B i) (1 + Ideal.exp (-(min clipHi (max clipLo (prodW A B i))))) := by
  refine congrArg (fun t : EReal => Ideal.div (prodW A B i) (t + Ideal.exp (-(min clipHi (max clipLo (prodW A B i)))))) ?_
  exact Ideal.ofBits_one_f32

/-- At those elements the two references agree. -/
theorem clip_same (A : WholeX) (B : WholeW) (i : (⟨2, ![4096, 2048]⟩ : Shape).Idx)
    (h : Cert.On_within.fn (F := Ideal) A B i = 1#1) : refOut A B i = clipOut A B i := by
  obtain ⟨h1, h2⟩ := mask_at A B i h
  rw [clip_at, max_eq_right h1, min_eq_right h2]
  exact ref_at A B i

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_within
public import proofs.«01_k».proof.Proof.Launch
public import proofs.«01_k».proof.Proof.Match
public import proofs.«01_k».proof.Proof.Clip
public import Idealize.ShloMosaic.Adequacy
public import Idealize.ShloMosaic.Init

@[expose] public section

noncomputable section

namespace Cert.Proof

open Idealize.ShloMosaic Idealize.SL.Sem Cert.KernelIdeal.Ring

/-- What the frame claim says, of the program over any kind of float value. -/
def Quiet (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem quiet (F : FTy → Type) [FloatOps F] : Quiet F := fun m g _ =>
  (θ_run (Cert.KernelIdeal.defs (F := F)) _ _).mono (fun _ h => ⟨fun c => ⟨(h.1 c).1, (h.1 c).2.1⟩, h.2⟩)
    (run_main (F := F) m g)

/-- The two programs have the same text. -/
theorem same_text : Cert.quiescent_Kernel = Quiet Bits := by chain_rfl

theorem frame_kernel : Cert.quiescent_Kernel := same_text.mpr (quiet Bits)

theorem frame_kernelIdeal : Cert.quiescent_KernelIdeal := quiet Ideal

theorem frame_referenceIdeal : Cert.quiescent_ReferenceIdeal := fun m g _ =>
  (θ_run (Cert.ReferenceIdeal.defs (F := Ideal)) _ _).mono
    (fun r h => ⟨fun c => ⟨(h c).2.1, (h c).2.2⟩, Idealize.ShloMosaic.sem_eq_zero_of_no_sems (by decide) r.2⟩)
    (Cert.ReferenceIdeal.Value.run (F := Ideal) m g)

/-- Each device ends with its rows of what the reference computes of the whole matrices. -/
theorem value_kernelIdeal : Cert.algebraic_KernelIdeal_ReferenceIdeal := fun m g m' g' _ hin =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨((h.1 c).2.2).trans (res_block (inpOf m) _ _ (fun e => (hin e).1) (fun e => (hin e).2) c),
        (h.1 c).1, (h.1 c).2.1⟩)
      (run_main (F := Ideal) m g),
    (θ_run (Cert.ReferenceIdeal.defs (F := Ideal)) _ _).mono (fun _ h => h 0)
      (Cert.ReferenceIdeal.Value.run (F := Ideal) m' g')⟩

theorem frame_clippedIdeal : Cert.quiescent_ClippedIdeal := fun m g _ =>
  (θ_run (Cert.ClippedIdeal.defs (F := Ideal)) _ _).mono
    (fun r h => ⟨fun c => ⟨(h c).2.1, (h c).2.2⟩, Idealize.ShloMosaic.sem_eq_zero_of_no_sems (by decide) r.2⟩)
    (Cert.ClippedIdeal.Value.run (F := Ideal) m g)

/-- The same against the reference with the clip, at the elements that the clip leaves as they are. -/
theorem value_clippedIdeal : Cert.algebraic_KernelIdeal_ClippedIdeal_on_within := fun m g m' g' _ hin =>
  ⟨clipOut (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1)),
    (θ_run (Cert.KernelIdeal.defs (F := Ideal)) _ _).mono
      (fun _ h c => ⟨fun i hi => (congrFun (((h.1 c).2.2).trans
          (res_block (inpOf m) _ _ (fun e => (hin e).1) (fun e => (hin e).2) c)) i).trans (clip_same _ _ _ hi),
        (h.1 c).1, (h.1 c).2.1⟩)
      (run_main (F := Ideal) m g),
    (θ_run (Cert.ClippedIdeal.defs (F := Ideal)) _ _).mono
      (fun _ h => ⟨fun i _ => congrFun (h 0).1 i, (h 0).2.1, (h 0).2.2⟩)
      (Cert.ClippedIdeal.Value.run (F := Ideal) m' g')⟩

theorem claim : Cert.Claim :=
  ⟨Cert.Kernel.Gen.facts, Cert.KernelIdeal.Gen.facts, Cert.ReferenceIdeal.Gen.facts, Cert.ClippedIdeal.Gen.facts,
    Cert.On_within.Gen.facts, frame_kernel, frame_kernelIdeal, frame_referenceIdeal, frame_clippedIdeal, trivial,
    value_kernelIdeal, value_clippedIdeal⟩

end Cert.Proof

end
